-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v6) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v59) = v1 c
          ∧ r.2.mem ((c.tc : Thread Cert.Reference15Ideal.nD Cert.Reference15Ideal.τ).loc Cert.Reference15Ideal.main_v60) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v22) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v87) = v0 c
          ∧ r.2.mem ((c.tc : Thread Cert.Reference18Ideal.nD Cert.Reference18Ideal.τ).loc Cert.Reference18Ideal.main_v89) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v36) = v0 c
          ∧ r.2.mem ((c.tc : Thread Cert.Reference19Ideal.nD Cert.Reference19Ideal.τ).loc Cert.Reference19Ideal.main_v37) = v1 c
          ∧ r.2.mem ((c.tc : Thread Cert.Reference19Ideal.nD Cert.Reference19Ideal.τ).loc Cert.Reference19Ideal.main_v39) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v49) = v0 c
          ∧ r.2.mem ((c.tc : Thread Cert.Reference23Ideal.nD Cert.Reference23Ideal.τ).loc Cert.Reference23Ideal.main_v51) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_v0) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v24) = v2 c
          ∧ r.2.mem ((c.tc : Thread Cert.Reference25Ideal.nD Cert.Reference25Ideal.τ).loc Cert.Reference25Ideal.main_v22) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite15 : Cert.Pre_finite15.Facts) (hPre_finite18 : Cert.Pre_finite18.Facts) (hPre_finite19 : Cert.Pre_finite19.Facts) (hPre_finite23 : Cert.Pre_finite23.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite15.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S1x1024 .f32) (main_arg4 : FVec F S1x1024 .f32) (main_arg5 : FVec F S4096x1024 .bf16) (main_arg6 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite18.lean ====
abbrev S4096x3072 : Shape := ⟨2, ![4096, 3072]⟩
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩

class Facts : Prop where
  slices_S4096x3072_S4096x2048_0_0 : S4096x3072.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg5
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  main_v24

def fn {F : FTy → Type} [FloatOps F] (main_arg0 : FVec F S4096x3072 .f32) (main_arg1 : FVec F S4096x1024 .f32) (main_arg2 : FVec F S4096x1024 .f32) (main_arg3 : FVec F S4096x1024 .f32) (main_arg4 : FVec F S1x1024 .f32) (main_arg5 : FVec F S1x1024 .f32) : IVec S_ 1 :=
  let main_v0 : FVec F S4096x2048 .f32 := (extractStridedSlice S4096x2048 ![0, 0] · slices_S4096x3072_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg4
  let main_cst_4 : FVec F S_ .f32 := constant S_ .f32 0x7F800000#32
  let main_v16 : FVec F S1x1024 .f32 := broadcastInDim S1x1024 ![] bcast_S_S1x1024 main_cst_4
  fn_part1 (F := F) main_arg5 main_v14 main_v15 main_v16
-- ==== Pre_finite19.lean ====
abbrev S4096x3072 : Shape := ⟨2, ![4096, 3072]⟩
abbrev S1x1024 : Shape := ⟨2, ![1, 1024]⟩
abbrev S4096x2048 : Shape := ⟨2, ![4096, 2048]⟩
abbrev S_ : Shape := ⟨0, ![]⟩

class Facts : Prop where
  slices_S4096x3072_S4096x2048_0_0 : S4096x3072.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x3072 .f32) (main_arg1 : FVec F S1x1024 .f32) (main_arg2 : FVec F S1x1024 .f32) : IVec S_ 1 :=
  let main_v0 : FVec F S4096x2048 .f32 := (extractStridedSlice S4096x2048 ![0, 0] · slices_S4096x3072_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  main_v4
-- ==== Pre_finite23.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S1x1024 .f32) (main_arg4 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S4096x3584 : Shape := ⟨2, ![4096, 3584]⟩
abbrev S4096x1024 : Shape := ⟨2, ![4096, 1024]⟩
abbrev S3x512 : Shape := ⟨2, ![3, 512]⟩
abbrev S4096x1536 : Shape := ⟨2, ![4096, 1536]⟩
abbrev S8x512 : Shape := ⟨2, ![8, 512]⟩
abbrev S512x512 : Shape := ⟨2, ![512, 512]⟩
abbrev S512x1536 : Shape := ⟨2, ![512, 1536]⟩
abbrev S1x512 : Shape := ⟨2, ![1, 512]⟩
abbrev S512 : Shape := ⟨1, ![512]⟩

abbrev nBuf : Space → Nat
  | .hbm => 5
  | .vmem => 17
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S3x512, .f32⟩
  | .hbm, ⟨3, _⟩ => ⟨S4096x1536, .bf16⟩
  | .hbm, ⟨4, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S512x512, .f32⟩
  | .local _ .vmem, ⟨11, _⟩ => ⟨S512x512, .f32⟩
  | .local _ .vmem, ⟨12, _⟩ => ⟨S3x512, .f32⟩
  | .local _ .vmem, ⟨13, _⟩ => ⟨S512x1536, .bf16⟩
  | .local _ .vmem, ⟨14, _⟩ => ⟨S512x1536, .bf16⟩
  | .local _ .vmem, ⟨15, _⟩ => ⟨S8x512, .f32⟩
  | .local _ .vmem, ⟨16, _⟩ => ⟨S8x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x3584 : Shape := ⟨2, ![4096, 3584]⟩
abbrev S4096x1024 : Shape := ⟨2, ![4096, 1024]⟩
abbrev S3x512 : Shape := ⟨2, ![3, 512]⟩
abbrev S4096x1536 : Shape := ⟨2, ![4096, 1536]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S8x512 : Shape := ⟨2, ![8, 512]⟩

abbrev nBuf : Space → Nat
  | .hbm => 81
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S3x512, .f32⟩
  | .hbm, ⟨3, _⟩ => ⟨S4096x1536, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S2x512, .f32⟩
  | .hbm, ⟨10, _⟩ => ⟨S4098x512, .f32⟩
  | .hbm, ⟨11, _⟩ => ⟨S_, .f32⟩
  | .hbm, ⟨12, _⟩ => ⟨S2x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S1x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S_, .f32⟩
  | .hbm, ⟨38, _⟩ => ⟨S4098x512, .f32⟩
  | .hbm, ⟨39, _⟩ => ⟨S_, .f32⟩
  | .hbm, ⟨40, _⟩ => ⟨S3x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S4098x512, .f32⟩
  | .hbm, ⟨49, _⟩ => ⟨S4098x512, .f32⟩
  | .hbm, ⟨50, _⟩ => ⟨S_, .f32⟩
  | .hbm, ⟨51, _⟩ => ⟨S3x512, .f32⟩
  | .hbm, ⟨52, _⟩ => ⟨S3x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S4098x512, .f32⟩
  | .hbm, ⟨61, _⟩ => ⟨S4098x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S2x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x1536, .f32⟩
  | .hbm, ⟨71, _⟩ => ⟨S_, .f32⟩
  | .hbm, ⟨72, _⟩ => ⟨S4096x1536, .f32⟩
  | .hbm, ⟨73, _⟩ => ⟨S4096x1536, .f32⟩
  | .hbm, ⟨74, _⟩ => ⟨S_, .f32⟩
  | .hbm, ⟨75, _⟩ => ⟨S4096x1536, .f32⟩
  | .hbm, ⟨76, _⟩ => ⟨S4096x1536, .f32⟩
  | .hbm, ⟨77, _⟩ => ⟨S4096x1536, .bf16⟩
  | .hbm, ⟨78, _⟩ => ⟨S_, .i32⟩
  | .hbm, ⟨79, _⟩ => ⟨S_, .f32⟩
  | .hbm, ⟨80, _⟩ => ⟨S8x512, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c : Ref sig .tc := ⟨.hbm, 78, rfl⟩
abbrev main_call0_v0 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S8x1x512x1024 : Shape := ⟨4, ![8, 1, 512, 1024]⟩
abbrev S_ : Shape := ⟨0, ![]⟩
abbrev S2048x1024 : Shape := ⟨2, ![2048, 1024]⟩
abbrev S2x1x512x1024 : Shape := ⟨4, ![2, 1, 512, 1024]⟩
abbrev S2x512x1024 : Shape := ⟨3, ![2, 512, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S8x1x512x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2x1x512x1024, .bf16⟩
  | .local _ .vmem, ⟨3, _⟩ => ⟨S2x1x512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x4096 : Shape := ⟨2, ![4096, 4096]⟩
abbrev S4096x1024 : Shape := ⟨2, ![4096, 1024]⟩
abbrev S8x1x512x1024 : Shape := ⟨4, ![8, 1, 512, 1024]⟩
abbrev S8x512x1024 : Shape := ⟨3, ![8, 512, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S8x1x512x1024, .bf16⟩
  | .hbm, ⟨3, _⟩ => ⟨S8x512x1024, .bf16⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel4.lean ====
abbrev S4096x1024 : Shape := ⟨2, ![4096, 1024]⟩
abbrev S8x1x1024x512 : Shape := ⟨4, ![8, 1, 1024, 512]⟩
abbrev S4096x4096 : Shape := ⟨2, ![4096, 4096]⟩
abbrev S2048x1024 : Shape := ⟨2, ![2048, 1024]⟩
abbrev S2x1x1024x512 : Shape := ⟨4, ![2, 1, 1024, 512]⟩
abbrev S1x1x1024x512 : Shape := ⟨4, ![1, 1, 1024, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x512, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2x1x1024x512, .bf16⟩
  | .local _ .vmem, ⟨3, _⟩ => ⟨S2x1x1024x512, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S8x1x1024x512 : Shape := ⟨4, ![8, 1, 1024, 512]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x512, .bf16⟩
  | .hbm, ⟨2, _⟩ => ⟨S4096x1024, .f32⟩
  | .hbm, ⟨3, _⟩ => ⟨S8x1024x512, .bf16⟩
  | .hbm, ⟨4, _⟩ => ⟨S1024x8x512, .bf16⟩
  | .hbm, ⟨5, _⟩ => ⟨S1024x4096, .bf16⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S4096x4096 : Shape := ⟨2, ![4096, 4096]⟩
abbrev S8x1x512x1024 : Shape := ⟨4, ![8, 1, 512, 1024]⟩
abbrev S4096x1024 : Shape := ⟨2, ![4096, 1024]⟩
abbrev S1x1024 : Shape := ⟨2, ![1, 1024]⟩
abbrev S1024x1024 : Shape := ⟨2, ![1024, 1024]⟩
abbrev S2x1x512x1024 : Shape := ⟨4, ![2, 1, 512, 1024]⟩
abbrev S2x512x1024 : Shape := ⟨3, ![2, 512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S8x1x512x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1x512x1024, .bf16⟩
  | .local _ .vmem, ⟨3, _⟩ => ⟨S2x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S4096x4096 : Shape := ⟨2, ![4096, 4096]⟩
abbrev S8x1x512x1024 : Shape := ⟨4, ![8, 1, 512, 1024]⟩
abbrev S4096x1024 : Shape := ⟨2, ![4096, 1024]⟩
abbrev S1x1024 : Shape := ⟨2, ![1, 1024]⟩
abbrev S8x512x1024 : Shape := ⟨3, ![8, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1x512x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S8x512x1024, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S4096x1024 : Shape := ⟨2, ![4096, 1024]⟩
abbrev S1024x3584 : Shape := ⟨2, ![1024, 3584]⟩
abbrev S4096x3584 : Shape := ⟨2, ![4096, 3584]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .bf16⟩
  | .hbm, ⟨2, _⟩ => ⟨S4096x3584, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x3584 : Shape := ⟨2, ![1024, 3584]⟩
abbrev S4096x3584 : Shape := ⟨2, ![4096, 3584]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .bf16⟩
  | .hbm, ⟨2, _⟩ => ⟨S4096x1024, .f32⟩
  | .hbm, ⟨3, _⟩ => ⟨S1024x3584, .f32⟩
  | .hbm, ⟨4, _⟩ => ⟨S4096x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x3584 : Shape := ⟨2, ![4096, 3584]⟩
abbrev S4096x1024 : Shape := ⟨2, ![4096, 1024]⟩
abbrev S3584x1024 : Shape := ⟨2, ![3584, 1024]⟩
abbrev S1024x1792 : Shape := ⟨2, ![1024, 1792]⟩
abbrev S1024x1024 : Shape := ⟨2, ![1024, 1024]⟩
abbrev S1792x1024 : Shape := ⟨2, ![1792, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S3584x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1024, .bf16⟩
  | .local _ .vmem, ⟨3, _⟩ => ⟨S1024x1024, .bf16⟩
  | .local _ .vmem, ⟨4, _⟩ => ⟨S1792x1024, .f32⟩
  | .local _ .vmem, ⟨5, _⟩ => ⟨S1792x1024, .f32⟩
  | .local _ .vmem, ⟨6, _⟩ => ⟨S1792x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1792x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3584 : Shape := ⟨2, ![4096, 3584]⟩
abbrev S4096x1024 : Shape := ⟨2, ![4096, 1024]⟩
abbrev S_ : Shape := ⟨0, ![]⟩
abbrev S1024x3584 : Shape := ⟨2, ![1024, 3584]⟩
abbrev S3584x1024 : Shape := ⟨2, ![3584, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S_, .f32⟩
  | .hbm, ⟨3, _⟩ => ⟨S1024x3584, .f32⟩
  | .hbm, ⟨4, _⟩ => ⟨S4096x1024, .f32⟩
  | .hbm, ⟨5, _⟩ => ⟨S4096x3584, .f32⟩
  | .hbm, ⟨6, _⟩ => ⟨S4096x3584, .f32⟩
  | .hbm, ⟨7, _⟩ => ⟨S3584x1024, .f32⟩
  | .hbm, ⟨8, _⟩ => ⟨S1024x3584, .f32⟩
  | .hbm, ⟨9, _⟩ => ⟨S3584x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S8x1x1024x384 : Shape := ⟨4, ![8, 1, 1024, 384]⟩
abbrev S4096x3072 : Shape := ⟨2, ![4096, 3072]⟩
abbrev S2048x1024 : Shape := ⟨2, ![2048, 1024]⟩
abbrev S2x1x1024x384 : Shape := ⟨4, ![2, 1, 1024, 384]⟩
abbrev S2048x768 : Shape := ⟨2, ![2048, 768]⟩
abbrev S1x1x1024x384 : Shape := ⟨4, ![1, 1, 1024, 384]⟩
abbrev S1024x384 : Shape := ⟨2, ![1024, 384]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x384, .bf16⟩
  | .hbm, ⟨2, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S2x1x1024x384, .bf16⟩
  | .local _ .vmem, ⟨3, _⟩ => ⟨S2x1x1024x384, .bf16⟩
  | .local _ .vmem, ⟨4, _⟩ => ⟨S2048x768, .f32⟩
  | .local _ .vmem, ⟨5, _⟩ => ⟨S2048x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S8x1x1024x384 : Shape := ⟨4, ![8, 1, 1024, 384]⟩
abbrev S8x1024x384 : Shape := ⟨3, ![8, 1024, 384]⟩
abbrev S1024x8x384 : Shape := ⟨3, ![1024, 8, 384]⟩
abbrev S1024x3072 : Shape := ⟨2, ![1024, 3072]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x384, .bf16⟩
  | .hbm, ⟨2, _⟩ => ⟨S4096x1024, .f32⟩
  | .hbm, ⟨3, _⟩ => ⟨S8x1024x384, .bf16⟩
  | .hbm, ⟨4, _⟩ => ⟨S1024x8x384, .bf16⟩
  | .hbm, ⟨5, _⟩ => ⟨S1024x3072, .bf16⟩
  | .hbm, ⟨6, _⟩ => ⟨S1024x3072, .f32⟩
  | .hbm, ⟨7, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x3072 : Shape := ⟨2, ![4096, 3072]⟩
abbrev S4096x1024 : Shape := ⟨2, ![4096, 1024]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3072 : Shape := ⟨2, ![4096, 3072]⟩
abbrev S4096x1024 : Shape := ⟨2, ![4096, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S8x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S4x1024, .f32⟩
  | .hbm, ⟨80, _⟩ => ⟨S8x1024, .f32⟩
  | .hbm, ⟨81, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel17.lean ====
abbrev S4096x3584 : Shape := ⟨2, ![4096, 3584]⟩
abbrev S3x512 : Shape := ⟨2, ![3, 512]⟩
abbrev S4096x512 : Shape := ⟨2, ![4096, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 3
  | .vmem => 10
  | .smem => 0
  | _ => 0

abbrev bufTy : (tb : Table) → Fin (tcTables nBuf tb) → BufTy
  | .hbm, ⟨0, _⟩ => ⟨S4096x3584, .f32⟩
  | .hbm, ⟨1, _⟩ => ⟨S3x512, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S3x512, .f32⟩
  | .local _ .vmem, ⟨7, _⟩ => ⟨S512x512, .bf16⟩
  | .local _ .vmem, ⟨8, _⟩ => ⟨S512x512, .bf16⟩
  | .local _ .vmem, ⟨9, _⟩ => ⟨S8x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S4096x3584 : Shape := ⟨2, ![4096, 3584]⟩
abbrev S3x512 : Shape := ⟨2, ![3, 512]⟩
abbrev S4096x1536 : Shape := ⟨2, ![4096, 1536]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩

abbrev nBuf : Space → Nat
  | .hbm => 26
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S3x512, .f32⟩
  | .hbm, ⟨2, _⟩ => ⟨S4096x1536, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel18.lean ====
abbrev S4096x3072 : Shape := ⟨2, ![4096, 3072]⟩
abbrev S4096x1024 : Shape := ⟨2, ![4096, 1024]⟩
abbrev S1x1024 : Shape := ⟨2, ![1, 1024]⟩
abbrev S8x1024 : Shape := ⟨2, ![8, 1024]⟩
abbrev S256x1024 : Shape := ⟨2, ![256, 1024]⟩
abbrev S256x3072 : Shape := ⟨2, ![256, 3072]⟩
abbrev S128x128 : Shape := ⟨2, ![128, 128]⟩
abbrev S256x128 : Shape := ⟨2, ![256, 128]⟩
abbrev S1x128 : Shape := ⟨2, ![1, 128]⟩
abbrev S128 : Shape := ⟨1, ![128]⟩

abbrev nBuf : Space → Nat
  | .hbm => 8
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x3072, .bf16⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x3072, .bf16⟩
  | .local _ .vmem, ⟨13, _⟩ => ⟨S256x3072, .bf16⟩
  | .local _ .vmem, ⟨14, _⟩ => ⟨S8x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S4096x3072 : Shape := ⟨2, ![4096, 3072]⟩
abbrev S4096x1024 : Shape := ⟨2, ![4096, 1024]⟩
abbrev S1x1024 : Shape := ⟨2, ![1, 1024]⟩
abbrev S4096x16x64 : Shape := ⟨3, ![4096, 16, 64]⟩
abbrev S16x64 : Shape := ⟨2, ![16, 64]⟩
abbrev S_ : Shape := ⟨0, ![]⟩
abbrev S4096x16 : Shape := ⟨2, ![4096, 16]⟩
abbrev S4096x16x1 : Shape := ⟨3, ![4096, 16, 1]⟩
abbrev S1x16x64 : Shape := ⟨3, ![1, 16, 64]⟩
abbrev S6x1024 : Shape := ⟨2, ![6, 1024]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x16x64, .f32⟩
  | .hbm, ⟨8, _⟩ => ⟨S16x64, .f32⟩
  | .hbm, ⟨9, _⟩ => ⟨S4096x16x64, .f32⟩
  | .hbm, ⟨10, _⟩ => ⟨S_, .f32⟩
  | .hbm, ⟨11, _⟩ => ⟨S4096x16, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S4096x16x1, .f32⟩
  | .hbm, ⟨19, _⟩ => ⟨S4096x16x1, .f32⟩
  | .hbm, ⟨20, _⟩ => ⟨S4096x16x1, .f32⟩
  | .hbm, ⟨21, _⟩ => ⟨S_, .f32⟩
  | .hbm, ⟨22, _⟩ => ⟨S4096x16x1, .f32⟩
  | .hbm, ⟨23, _⟩ => ⟨S4096x16x1, .f32⟩
  | .hbm, ⟨24, _⟩ => ⟨S4096x16x64, .f32⟩
  | .hbm, ⟨25, _⟩ => ⟨S4096x16x64, .f32⟩
  | .hbm, ⟨26, _⟩ => ⟨S1x16x64, .f32⟩
  | .hbm, ⟨27, _⟩ => ⟨S4096x16x64, .f32⟩
  | .hbm, ⟨28, _⟩ => ⟨S4096x16x64, .f32⟩
  | .hbm, ⟨29, _⟩ => ⟨S4096x1024, .f32⟩
  | .hbm, ⟨30, _⟩ => ⟨S4096x16x64, .f32⟩
  | .hbm, ⟨31, _⟩ => ⟨S4096x16x64, .f32⟩
  | .hbm, ⟨32, _⟩ => ⟨S_, .f32⟩
  | .hbm, ⟨33, _⟩ => ⟨S16x64, .f32⟩
  | .hbm, ⟨34, _⟩ => ⟨S1x16x64, .f32⟩
  | .hbm, ⟨35, _⟩ => ⟨S4096x16x64, .f32⟩
  | .hbm, ⟨36, _⟩ => ⟨S4096x16x64, .f32⟩
  | .hbm, ⟨37, _⟩ => ⟨S_, .f32⟩
  | .hbm, ⟨38, _⟩ => ⟨S16x64, .f32⟩
  | .hbm, ⟨39, _⟩ => ⟨S4096x16x64, .f32⟩
  | .hbm, ⟨40, _⟩ => ⟨S_, .f32⟩
  | .hbm, ⟨41, _⟩ => ⟨S4096x16, .f32⟩
  | .hbm, ⟨42, _⟩ => ⟨S4096x16x1, .f32⟩
  | .hbm, ⟨43, _⟩ => ⟨S4096x16x64, .f32⟩
  | .hbm, ⟨44, _⟩ => ⟨S4096x16x64, .f32⟩
  | .hbm, ⟨45, _⟩ => ⟨S4096x16x1, .f32⟩
  | .hbm, ⟨46, _⟩ => ⟨S_, .f32⟩
  | .hbm, ⟨47, _⟩ => ⟨S4096x16x1, .f32⟩
  | .hbm, ⟨48, _⟩ => ⟨S4096x16x1, .f32⟩
  | .hbm, ⟨49, _⟩ => ⟨S_, .f32⟩
  | .hbm, ⟨50, _⟩ => ⟨S4096x16, .f32⟩
  | .hbm, ⟨51, _⟩ => ⟨S4096x16x64, .f32⟩
  | .hbm, ⟨52, _⟩ => ⟨S4096x16x64, .f32⟩
  | .hbm, ⟨53, _⟩ => ⟨S4096x16x64, .f32⟩
  | .hbm, ⟨54, _⟩ => ⟨S4096x16x64, .f32⟩
  | .hbm, ⟨55, _⟩ => ⟨S4096x16x64, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x16x64, .f32⟩
  | .hbm, ⟨60, _⟩ => ⟨S16x64, .f32⟩
  | .hbm, ⟨61, _⟩ => ⟨S4096x16x64, .f32⟩
  | .hbm, ⟨62, _⟩ => ⟨S_, .f32⟩
  | .hbm, ⟨63, _⟩ => ⟨S4096x16, .f32⟩
  | .hbm, ⟨64, _⟩ => ⟨S4096x16x1, .f32⟩
  | .hbm, ⟨65, _⟩ => ⟨S_, .f32⟩
  | .hbm, ⟨66, _⟩ => ⟨S4096x16x1, .f32⟩
  | .hbm, ⟨67, _⟩ => ⟨S4096x16x1, .f32⟩
  | .hbm, ⟨68, _⟩ => ⟨S_, .f32⟩
  | .hbm, ⟨69, _⟩ => ⟨S4096x16x1, .f32⟩
  | .hbm, ⟨70, _⟩ => ⟨S4096x16x1, .f32⟩
  | .hbm, ⟨71, _⟩ => ⟨S4096x16x1, .f32⟩
  | .hbm, ⟨72, _⟩ => ⟨S4096x16x1, .f32⟩
  | .hbm, ⟨73, _⟩ => ⟨S_, .f32⟩
  | .hbm, ⟨74, _⟩ => ⟨S4096x16x1, .f32⟩
  | .hbm, ⟨75, _⟩ => ⟨S4096x16x1, .f32⟩
  | .hbm, ⟨76, _⟩ => ⟨S4096x16x64, .f32⟩
  | .hbm, ⟨77, _⟩ => ⟨S4096x16x64, .f32⟩
  | .hbm, ⟨78, _⟩ => ⟨S1x16x64, .f32⟩
  | .hbm, ⟨79, _⟩ => ⟨S4096x16x64, .f32⟩
  | .hbm, ⟨80, _⟩ => ⟨S4096x16x64, .f32⟩
  | .hbm, ⟨81, _⟩ => ⟨S4096x1024, .f32⟩
  | .hbm, ⟨82, _⟩ => ⟨S4096x16x64, .f32⟩
  | .hbm, ⟨83, _⟩ => ⟨S4096x16x64, .f32⟩
  | .hbm, ⟨84, _⟩ => ⟨S_, .f32⟩
  | .hbm, ⟨85, _⟩ => ⟨S16x64, .f32⟩
  | .hbm, ⟨86, _⟩ => ⟨S1x16x64, .f32⟩
  | .hbm, ⟨87, _⟩ => ⟨S4096x16x64, .f32⟩
  | .hbm, ⟨88, _⟩ => ⟨S4096x16x64, .f32⟩
  | .hbm, ⟨89, _⟩ => ⟨S_, .f32⟩
  | .hbm, ⟨90, _⟩ => ⟨S16x64, .f32⟩
  | .hbm, ⟨91, _⟩ => ⟨S4096x16x64, .f32⟩
  | .hbm, ⟨92, _⟩ => ⟨S_, .f32⟩
  | .hbm, ⟨93, _⟩ => ⟨S4096x16, .f32⟩
  | .hbm, ⟨94, _⟩ => ⟨S4096x16x1, .f32⟩
  | .hbm, ⟨95, _⟩ => ⟨S4096x16x64, .f32⟩
  | .hbm, ⟨96, _⟩ => ⟨S4096x16x64, .f32⟩
  | .hbm, ⟨97, _⟩ => ⟨S4096x16x1, .f32⟩
  | .hbm, ⟨98, _⟩ => ⟨S_, .f32⟩
  | .hbm, ⟨99, _⟩ => ⟨S4096x16x1, .f32⟩
  | .hbm, ⟨100, _⟩ => ⟨S4096x16x1, .f32⟩
  | .hbm, ⟨101, _⟩ => ⟨S_, .f32⟩
  | .hbm, ⟨102, _⟩ => ⟨S4096x16, .f32⟩
  | .hbm, ⟨103, _⟩ => ⟨S4096x16x64, .f32⟩
  | .hbm, ⟨104, _⟩ => ⟨S4096x16x64, .f32⟩
  | .hbm, ⟨105, _⟩ => ⟨S4096x16x64, .f32⟩
  | .hbm, ⟨106, _⟩ => ⟨S4096x16x64, .f32⟩
  | .hbm, ⟨107, _⟩ => ⟨S4096x16x64, .f32⟩
  | .hbm, ⟨108, _⟩ => ⟨S1x1024, .f32⟩
  | .hbm, ⟨109, _⟩ => ⟨S4096x1024, .f32⟩
  | .hbm, ⟨110, _⟩ => ⟨S4096x3072, .f32⟩
  | .hbm, ⟨111, _⟩ => ⟨S4096x3072, .bf16⟩
  | .hbm, ⟨112, _⟩ => ⟨S_, .f32⟩
  | .hbm, ⟨113, _⟩ => ⟨S6x1024, .f32⟩
  | .hbm, ⟨114, _⟩ => ⟨S8x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_17 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel19.lean ====
abbrev S4096x3072 : Shape := ⟨2, ![4096, 3072]⟩
abbrev S1x1024 : Shape := ⟨2, ![1, 1024]⟩
abbrev S4096x1024 : Shape := ⟨2, ![4096, 1024]⟩
abbrev S256x1024 : Shape := ⟨2, ![256, 1024]⟩
abbrev S128x128 : Shape := ⟨2, ![128, 128]⟩
abbrev S256x128 : Shape := ⟨2, ![256, 128]⟩
abbrev S1x128 : Shape := ⟨2, ![1, 128]⟩

abbrev nBuf : Space → Nat
  | .hbm => 6
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S1x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4096x3072 : Shape := ⟨2, ![4096, 3072]⟩
abbrev S1x1024 : Shape := ⟨2, ![1, 1024]⟩
abbrev S4096x1024 : Shape := ⟨2, ![4096, 1024]⟩
abbrev S4096x16x64 : Shape := ⟨3, ![4096, 16, 64]⟩
abbrev S16x64 : Shape := ⟨2, ![16, 64]⟩
abbrev S_ : Shape := ⟨0, ![]⟩
abbrev S4096x16 : Shape := ⟨2, ![4096, 16]⟩
abbrev S4096x16x1 : Shape := ⟨3, ![4096, 16, 1]⟩
abbrev S1x16x64 : Shape := ⟨3, ![1, 16, 64]⟩

abbrev nBuf : Space → Nat
  | .hbm => 50
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x16x64, .f32⟩
  | .hbm, ⟨5, _⟩ => ⟨S16x64, .f32⟩
  | .hbm, ⟨6, _⟩ => ⟨S4096x16x64, .f32⟩
  | .hbm, ⟨7, _⟩ => ⟨S_, .f32⟩
  | .hbm, ⟨8, _⟩ => ⟨S4096x16, .f32⟩
  | .hbm, ⟨9, _⟩ => ⟨S4096x16x1, .f32⟩
  | .hbm, ⟨10, _⟩ => ⟨S_, .f32⟩
  | .hbm, ⟨11, _⟩ => ⟨S4096x16x1, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S4096x16x1, .f32⟩
  | .hbm, ⟨17, _⟩ => ⟨S4096x16x64, .f32⟩
  | .hbm, ⟨18, _⟩ => ⟨S4096x16x64, .f32⟩
  | .hbm, ⟨19, _⟩ => ⟨S1x16x64, .f32⟩
  | .hbm, ⟨20, _⟩ => ⟨S4096x16x64, .f32⟩
  | .hbm, ⟨21, _⟩ => ⟨S4096x16x64, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x16x64, .f32⟩
  | .hbm, ⟨28, _⟩ => ⟨S16x64, .f32⟩
  | .hbm, ⟨29, _⟩ => ⟨S4096x16x64, .f32⟩
  | .hbm, ⟨30, _⟩ => ⟨S_, .f32⟩
  | .hbm, ⟨31, _⟩ => ⟨S4096x16, .f32⟩
  | .hbm, ⟨32, _⟩ => ⟨S4096x16x1, .f32⟩
  | .hbm, ⟨33, _⟩ => ⟨S_, .f32⟩
  | .hbm, ⟨34, _⟩ => ⟨S4096x16x1, .f32⟩
  | .hbm, ⟨35, _⟩ => ⟨S4096x16x1, .f32⟩
  | .hbm, ⟨36, _⟩ => ⟨S_, .f32⟩
  | .hbm, ⟨37, _⟩ => ⟨S4096x16x1, .f32⟩
  | .hbm, ⟨38, _⟩ => ⟨S4096x16x1, .f32⟩
  | .hbm, ⟨39, _⟩ => ⟨S4096x16x1, .f32⟩
  | .hbm, ⟨40, _⟩ => ⟨S4096x16x64, .f32⟩
  | .hbm, ⟨41, _⟩ => ⟨S4096x16x64, .f32⟩
  | .hbm, ⟨42, _⟩ => ⟨S1x16x64, .f32⟩
  | .hbm, ⟨43, _⟩ => ⟨S4096x16x64, .f32⟩
  | .hbm, ⟨44, _⟩ => ⟨S4096x16x64, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S4096x1024, .f32⟩
  | .hbm, ⟨49, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel20.lean ====
abbrev S4096x3072 : Shape := ⟨2, ![4096, 3072]⟩
abbrev S8x1x1024x384 : Shape := ⟨4, ![8, 1, 1024, 384]⟩
abbrev S4096x1024 : Shape := ⟨2, ![4096, 1024]⟩
abbrev S2048x768 : Shape := ⟨2, ![2048, 768]⟩
abbrev S2x1x1024x384 : Shape := ⟨4, ![2, 1, 1024, 384]⟩
abbrev S2048x1024 : Shape := ⟨2, ![2048, 1024]⟩
abbrev S2048x384 : Shape := ⟨2, ![2048, 384]⟩
abbrev S1x1x1024x384 : Shape := ⟨4, ![1, 1, 1024, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S8x1x1024x384, .bf16⟩
  | .hbm, ⟨2, _⟩ => ⟨S4096x1024, .f32⟩
  | .local _ .vmem, ⟨0, _⟩ => ⟨S2048x768, .bf16⟩
  | .local _ .vmem, ⟨1, _⟩ => ⟨S2048x768, .bf16⟩
  | .local _ .vmem, ⟨2, _⟩ => ⟨S2x1x1024x384, .bf16⟩
  | .local _ .vmem, ⟨3, _⟩ => ⟨S2x1x1024x384, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x3072 : Shape := ⟨2, ![4096, 3072]⟩
abbrev S8x1x1024x384 : Shape := ⟨4, ![8, 1, 1024, 384]⟩
abbrev S8x1024x384 : Shape := ⟨3, ![8, 1024, 384]⟩
abbrev S1024x8x384 : Shape := ⟨3, ![1024, 8, 384]⟩
abbrev S1024x3072 : Shape := ⟨2, ![1024, 3072]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S8x1x1024x384, .bf16⟩
  | .hbm, ⟨2, _⟩ => ⟨S8x1024x384, .bf16⟩
  | .hbm, ⟨3, _⟩ => ⟨S1024x8x384, .bf16⟩
  | .hbm, ⟨4, _⟩ => ⟨S1024x3072, .bf16⟩
  | .hbm, ⟨5, _⟩ => ⟨S1024x3072, .f32⟩
  | .hbm, ⟨6, _⟩ => ⟨S_, .f32⟩
  | .hbm, ⟨7, _⟩ => ⟨S4096x1024, .f32⟩
  | .hbm, ⟨8, _⟩ => ⟨S4096x3072, .f32⟩
  | .hbm, ⟨9, _⟩ => ⟨S4096x3072, .f32⟩
  | .hbm, ⟨10, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S4096x4096 : Shape := ⟨2, ![4096, 4096]⟩
abbrev S8x1x1024x512 : Shape := ⟨4, ![8, 1, 1024, 512]⟩
abbrev S4096x1024 : Shape := ⟨2, ![4096, 1024]⟩
abbrev S2048x1024 : Shape := ⟨2, ![2048, 1024]⟩
abbrev S2x1x1024x512 : Shape := ⟨4, ![2, 1, 1024, 512]⟩
abbrev S2048x512 : Shape := ⟨2, ![2048, 512]⟩
abbrev S1x1x1024x512 : Shape := ⟨4, ![1, 1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x1x1024x512, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2x1x1024x512, .bf16⟩
  | .local _ .vmem, ⟨3, _⟩ => ⟨S2x1x1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x4096 : Shape := ⟨2, ![4096, 4096]⟩
abbrev S8x1x1024x512 : Shape := ⟨4, ![8, 1, 1024, 512]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1x1024x512, .bf16⟩
  | .hbm, ⟨2, _⟩ => ⟨S8x1024x512, .bf16⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S_, .f32⟩
  | .hbm, ⟨7, _⟩ => ⟨S4096x1024, .f32⟩
  | .hbm, ⟨8, _⟩ => ⟨S4096x4096, .f32⟩
  | .hbm, ⟨9, _⟩ => ⟨S4096x4096, .f32⟩
  | .hbm, ⟨10, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S4096x3584 : Shape := ⟨2, ![4096, 3584]⟩
abbrev S1024x3584 : Shape := ⟨2, ![1024, 3584]⟩
abbrev S4096x1024 : Shape := ⟨2, ![4096, 1024]⟩
abbrev S2048x896 : Shape := ⟨2, ![2048, 896]⟩
abbrev S1024x896 : Shape := ⟨2, ![1024, 896]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .bf16⟩
  | .hbm, ⟨2, _⟩ => ⟨S4096x1024, .f32⟩
  | .local _ .vmem, ⟨0, _⟩ => ⟨S2048x896, .bf16⟩
  | .local _ .vmem, ⟨1, _⟩ => ⟨S2048x896, .bf16⟩
  | .local _ .vmem, ⟨2, _⟩ => ⟨S1024x896, .bf16⟩
  | .local _ .vmem, ⟨3, _⟩ => ⟨S1024x896, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x3584 : Shape := ⟨2, ![4096, 3584]⟩
abbrev S1024x3584 : Shape := ⟨2, ![1024, 3584]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .bf16⟩
  | .hbm, ⟨2, _⟩ => ⟨S_, .f32⟩
  | .hbm, ⟨3, _⟩ => ⟨S4096x1024, .f32⟩
  | .hbm, ⟨4, _⟩ => ⟨S1024x3584, .f32⟩
  | .hbm, ⟨5, _⟩ => ⟨S4096x3584, .f32⟩
  | .hbm, ⟨6, _⟩ => ⟨S4096x3584, .f32⟩
  | .hbm, ⟨7, _⟩ => ⟨S4096x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S5x1024, .f32⟩
  | .hbm, ⟨69, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel24.lean ====
abbrev S8x1024 : Shape := ⟨2, ![8, 1024]⟩
abbrev S2x1024x768 : Shape := ⟨3, ![2, 1024, 768]⟩
abbrev S2x1x768 : Shape := ⟨3, ![2, 1, 768]⟩
abbrev S2x8x768 : Shape := ⟨3, ![2, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x1x768, .f32⟩
  | .hbm, ⟨3, _⟩ => ⟨S2x8x768, .f32⟩
  | .hbm, ⟨4, _⟩ => ⟨S8x1024, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference24Ideal.lean ====
abbrev S8x1024 : Shape := ⟨2, ![8, 1024]⟩
abbrev S2x1024x768 : Shape := ⟨3, ![2, 1024, 768]⟩
abbrev S2x1x768 : Shape := ⟨3, ![2, 1, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩
abbrev S2x8x768 : Shape := ⟨3, ![2, 8, 768]⟩

abbrev nBuf : Space → Nat
  | .hbm => 27
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x768, .f32⟩
  | .hbm, ⟨13, _⟩ => ⟨S1024x768, .f32⟩
  | .hbm, ⟨14, _⟩ => ⟨S1x1024x768, .f32⟩
  | .hbm, ⟨15, _⟩ => ⟨S1024x768, .f32⟩
  | .hbm, ⟨16, _⟩ => ⟨S8x1024, .bf16⟩
  | .hbm, ⟨17, _⟩ => ⟨S1024x768, .bf16⟩
  | .hbm, ⟨18, _⟩ => ⟨S8x768, .f32⟩
  | .hbm, ⟨19, _⟩ => ⟨S8x1024, .bf16⟩
  | .hbm, ⟨20, _⟩ => ⟨S1024x768, .bf16⟩
  | .hbm, ⟨21, _⟩ => ⟨S8x768, .f32⟩
  | .hbm, ⟨22, _⟩ => ⟨S1x8x768, .f32⟩
  | .hbm, ⟨23, _⟩ => ⟨S1x8x768, .f32⟩
  | .hbm, ⟨24, _⟩ => ⟨S2x8x768, .f32⟩
  | .hbm, ⟨25, _⟩ => ⟨S2x8x768, .f32⟩
  | .hbm, ⟨26, _⟩ => ⟨S2x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S1024 : Shape := ⟨1, ![1024]⟩
abbrev S1 : Shape := ⟨1, ![1]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S1x1, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_22 : BitVec 32 := 0#32
  let v33 : BitVec 1 := Scalar.cmpi .ne v32 c0_i32_22
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S1024 : Shape := ⟨1, ![1024]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S1x1, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel26.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1024x448 : Shape := ⟨2, ![1024, 448]⟩
abbrev S256x448 : Shape := ⟨2, ![256, 448]⟩

abbrev nBuf : Space → Nat
  | .hbm => 7
  | .vmem => 14
  | .smem => 0
  | _ => 0

abbrev bufTy : (tb : Table) → Fin (tcTables nBuf tb) → BufTy
  | .hbm, ⟨0, _⟩ => ⟨S1024x448, .f32⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S1024x448, .f32⟩
  | .hbm, ⟨5, _⟩ => ⟨S1024x448, .f32⟩
  | .hbm, ⟨6, _⟩ => ⟨S1024x448, .f32⟩
  | .local _ .vmem, ⟨0, _⟩ => ⟨S256x448, .f32⟩
  | .local _ .vmem, ⟨1, _⟩ => ⟨S256x448, .f32⟩
  | .local _ .vmem, ⟨2, _⟩ => ⟨S256x448, .f32⟩
  | .local _ .vmem, ⟨3, _⟩ => ⟨S256x448, .f32⟩
  | .local _ .vmem, ⟨4, _⟩ => ⟨S256x448, .f32⟩
  | .local _ .vmem, ⟨5, _⟩ => ⟨S256x448, .f32⟩
  | .local _ .vmem, ⟨6, _⟩ => ⟨S256x448, .f32⟩
  | .local _ .vmem, ⟨7, _⟩ => ⟨S256x448, .f32⟩
  | .local _ .vmem, ⟨8, _⟩ => ⟨S256x448, .f32⟩
  | .local _ .vmem, ⟨9, _⟩ => ⟨S256x448, .f32⟩
  | .local _ .vmem, ⟨10, _⟩ => ⟨S256x448, .f32⟩
  | .local _ .vmem, ⟨11, _⟩ => ⟨S256x448, .f32⟩
  | .local _ .vmem, ⟨12, _⟩ => ⟨S256x448, .f32⟩
  | .local _ .vmem, ⟨13, _⟩ => ⟨S256x448, .f32⟩
  | _, _ => ⟨S1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S1024x448 : Shape := ⟨2, ![1024, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x448, .f32⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S_, .f32⟩
  | .hbm, ⟨5, _⟩ => ⟨S1024x448, .f32⟩
  | .hbm, ⟨6, _⟩ => ⟨S1024x448, .f32⟩
  | .hbm, ⟨7, _⟩ => ⟨S_, .f32⟩
  | .hbm, ⟨8, _⟩ => ⟨S1024x448, .f32⟩
  | .hbm, ⟨9, _⟩ => ⟨S1024x448, .f32⟩
  | .hbm, ⟨10, _⟩ => ⟨S1024x448, .f32⟩
  | .hbm, ⟨11, _⟩ => ⟨S_, .f32⟩
  | .hbm, ⟨12, _⟩ => ⟨S1024x448, .f32⟩
  | .hbm, ⟨13, _⟩ => ⟨S1024x448, .f32⟩
  | .hbm, ⟨14, _⟩ => ⟨S1024x448, .f32⟩
  | .hbm, ⟨15, _⟩ => ⟨S_, .f32⟩
  | .hbm, ⟨16, _⟩ => ⟨S1024x448, .f32⟩
  | .hbm, ⟨17, _⟩ => ⟨S1024x448, .f32⟩
  | .hbm, ⟨18, _⟩ => ⟨S1024x448, .f32⟩
  | .hbm, ⟨19, _⟩ => ⟨S_, .f32⟩
  | .hbm, ⟨20, _⟩ => ⟨S1024x448, .f32⟩
  | .hbm, ⟨21, _⟩ => ⟨S1024x448, .f32⟩
  | .hbm, ⟨22, _⟩ => ⟨S_, .f32⟩
  | .hbm, ⟨23, _⟩ => ⟨S1024x448, .f32⟩
  | .hbm, ⟨24, _⟩ => ⟨S1024x448, .f32⟩
  | .hbm, ⟨25, _⟩ => ⟨S1024x448, .f32⟩
  | .hbm, ⟨26, _⟩ => ⟨S_, .f32⟩
  | .hbm, ⟨27, _⟩ => ⟨S1024x448, .f32⟩
  | .hbm, ⟨28, _⟩ => ⟨S1024x448, .f32⟩
  | .hbm, ⟨29, _⟩ => ⟨S1024x448, .f32⟩
  | .hbm, ⟨30, _⟩ => ⟨S_, .f32⟩
  | .hbm, ⟨31, _⟩ => ⟨S1024x448, .f32⟩
  | .hbm, ⟨32, _⟩ => ⟨S1024x448, .f32⟩
  | .hbm, ⟨33, _⟩ => ⟨S1024x448, .f32⟩
  | .hbm, ⟨34, _⟩ => ⟨S_, .f32⟩
  | .hbm, ⟨35, _⟩ => ⟨S1024x448, .f32⟩
  | .hbm, ⟨36, _⟩ => ⟨S1024x448, .f32⟩
  | _, _ => ⟨S1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S1024x384 : Shape := ⟨2, ![1024, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MlpDw.lean ====
module

public import Idealize.ShloMosaic.Lib.Pointwise
public import Idealize.ShloMosaic.Lib.Pipeline.ValueKit
public import Idealize.ShloMosaic.Lib.Pipeline.ReadBack
public import proofs.«01_k».proof.Proof.Gen.Kernel2Ideal.Value
public import proofs.«01_k».proof.Proof.Gen.Reference2Ideal.Run
public import proofs.«01_k».proof.Proof.Gen.Reference2Ideal.Read

@[expose] public section
set_option maxRecDepth 16384

noncomputable section
namespace Cert.Kernel2Ideal.Blk
open Idealize.ShloMosaic Idealize.ShloMosaic.TcCoe Idealize.SL.Sem
open Cert.Kernel2Ideal Cert.Kernel2Ideal.Gen
variable (m : (ℓ : Loc nD τ sig) → Buf (Elt Ideal) ℓ)

/-- The call's first argument. -/
abbrev X (c : Dev nD) : FVec Ideal S4096x4096 .bf16 := m ((c : Thread nD τ).loc main_arg0)
/-- The call's second argument. -/
abbrev Y (c : Dev nD) : FVec Ideal S4096x1024 .bf16 := m ((c : Thread nD τ).loc main_arg1)

/-- The product of the transposed first argument with the second. -/
def prod (x : FVec Ideal S4096x4096 .bf16) (y : FVec Ideal S4096x1024 .bf16) : FVec Ideal S4096x1024 .f32 :=
  fun i => ∑ k : Fin 4096, x (ix2 k (⟨(i 0).val, (i 0).isLt⟩ : Fin 4096)) * y (ix2 k (⟨(i 1).val, (i 1).isLt⟩ : Fin 1024))

/-- The first block's product. -/
theorem pay1_at (x : FVec Ideal S1024x2048 .bf16) (y : FVec Ideal S1024x1024 .bf16) (r : Fin 2048) (l : Fin 1024) :
    k0_pay1 (F := Ideal) x y (ix2 r l) = ∑ k : Fin 1024, x (ix2 k r) * y (ix2 k l) := by
  pointwise [k0_pay1]

/-- The carried sum plus a block's product. -/
theorem pay2_at (a : FVec Ideal S2048x1024 .f32) (x : FVec Ideal S1024x2048 .bf16) (y : FVec Ideal S1024x1024 .bf16) (r : Fin 2048) (l : Fin 1024) :
    k0_pay2 (F := Ideal) a x y (ix2 r l) = a (ix2 r l) + ∑ k : Fin 1024, x (ix2 k r) * y (ix2 k l) := by
  pointwise [k0_pay2]

/-- The carried sum plus the last block's product. -/
theorem pay3_at (a : FVec Ideal S2048x1024 .f32) (x : FVec Ideal S1024x2048 .bf16) (y : FVec Ideal S1024x1024 .bf16) (r : Fin 2048) (l : Fin 1024) :
    k0_pay3 (F := Ideal) a x y (ix2 r l) = a (ix2 r l) + ∑ k : Fin 1024, x (ix2 k r) * y (ix2 k l) := by
  pointwise [k0_pay3]

/-- Where each window's block lies at each grid point. -/
theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-- A grid point's share of the product. -/
def part (c : Dev nD) (t : Fin cfg0.N) (r : Fin 2048) (l : Fin 1024) : EReal :=
  (fun (x : FVec Ideal S1024x2048 .bf16) (y : FVec Ideal S1024x1024 .bf16) => ∑ k : Fin 1024, x (ix2 k r) * y (ix2 k l))
    (iblk m c 0 t) (iblk m c 1 t)

/-- The first point of a run leaves its share. -/
theorem sum_first (c : Dev nD) (t : Fin cfg0.N) (h : t.val % 4 = 0) (r : Fin 2048) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 2048) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point writes the carried sum plus its share. -/
theorem sum_last (c : Dev nD) (t : Fin cfg0.N) (h : t.val % 4 = 3) (r : Fin 2048) (l : Fin 1024) :
    (outsAt0 m c t.val t.isLt).1 (ix2 r l)
      = (outsAt0 m c (t.val - 1) (Nat.lt_of_le_of_lt (Nat.sub_le _ _) t.isLt)).2 (ix2 r l) + part m c t r l := by
  rw [outsAt0_C m c t (by omega) (by omega) h]; dsimp only; frame_out; rw [read_unread_whole]
  exact pay3_at _ _ _ r l

/-- The points of a run. -/
def pt (t : Fin cfg0.N) (s : Fin 4) : Fin cfg0.N :=
  ⟨4 * (t.val / 4) + s.val, lt_of_lt_of_eq (by have := (idx t).2.2.2; have := s.isLt; omega : _ < 8) N_0.symm⟩

/-- The last point of a run writes the sum of the run's shares. -/
theorem out_last (c : Dev nD) (t : Fin cfg0.N) (h : t.val % 4 = 3) (r : Fin 2048) (l : Fin 1024) :
    (outsAt0 m c t.val t.isLt).1 (ix2 r l) = ∑ s : Fin 4, part m c (pt t s) r l := by
  have e : ∀ (n n' : ℕ) (hn : n < cfg0.N) (hn' : n' < cfg0.N), n = n' → outsAt0 m c n hn = outsAt0 m c n' hn' := by
    intro n n' hn hn' q; subst q; rfl
  have p3 : pt t 3 = t := Fin.ext (by show 4 * (t.val / 4) + 3 = t.val; omega)
  rw [sum_last m c t h, e (t.val - 1) (pt t 2).val _ (pt t 2).isLt (by show t.val - 1 = 4 * (t.val / 4) + 2; omega),
    sum_later m c (pt t 2) (by show 1 ≤ (4 * (t.val / 4) + 2) % 4 ∧ (4 * (t.val / 4) + 2) % 4 ≤ 2; omega),
    e ((pt t 2).val - 1) (pt t 1).val _ (pt t 1).isLt (by show 4 * (t.val / 4) + 2 - 1 = 4 * (t.val / 4) + 1; omega),
    sum_later m c (pt t 1) (by show 1 ≤ (4 * (t.val / 4) + 1) % 4 ∧ (4 * (t.val / 4) + 1) % 4 ≤ 2; omega),
    e ((pt t 1).val - 1) (pt t 0).val _ (pt t 0).isLt (by show 4 * (t.val / 4) + 1 - 1 = 4 * (t.val / 4) + 0; omega),
    sum_first m c (pt t 0) (by show (4 * (t.val / 4) + 0) % 4 = 0; omega), Fin.sum_univ_four, p3]

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 2048) (l : Fin 1024), y = ix2 r l := ⟨y 0, y 1, by blk_ext⟩
  refine (out_last m c t h r l).trans ?_
  unfold prod part
  refine Fin.sum_mul_add_congr fun s k hl => ?_
  have q : (pt t s).val = 4 * (t.val / 4) + s.val := rfl
  have hs := s.isLt
  blk_point [iblk, V, idx t, idx (pt t s), q]

end Cert.Kernel2Ideal.Blk

namespace Cert.Reference2Ideal.Ref
open Idealize.ShloMosaic Idealize.ShloMosaic.TcCoe Idealize.SL.Sem
open Cert.Reference2Ideal Cert.Reference2Ideal.Read

/-- The reference's gradient of the weight is that product. -/
theorem ref_eq (x : FVec Ideal Cert.Kernel2Ideal.S4096x4096 .bf16) (y : FVec Ideal Cert.Kernel2Ideal.S4096x1024 .bf16) :
    val_main_v5 (F := Ideal) x y = Cert.Kernel2Ideal.Blk.prod x y := by
  funext i
  obtain ⟨r, l, rfl⟩ : ∃ (r : Fin 4096) (l : Fin 1024), i = ix2 r l := ⟨i 0, i 1, by blk_ext⟩
  unfold Cert.Kernel2Ideal.Blk.prod
  rw [val_main_v5_apply, val_main_v4_apply]
  refine Finset.sum_congr rfl fun k _ => ?_
  rw [val_main_v3_apply, val_main_v1_apply]
  exact (congrArg₂ (fun a b : EReal => a * b) (congrArg y (by blk_ext)) (congrArg x (by blk_ext))).trans (mul_comm (G := EReal) _ _)

end Cert.Reference2Ideal.Ref
end
-- ==== Proof.MlpDact.lean ====
module

public import Idealize.ShloMosaic.Lib.Pointwise
public import Idealize.ShloMosaic.Lib.Pipeline.ValueKit
public import Idealize.ShloMosaic.Lib.Pipeline.ReadBack
public import Idealize.ShloMosaic.Lib.StableHlo.ReadAt
public import proofs.«01_k».proof.Proof.Gen.Kernel3Ideal.Value
public import proofs.«01_k».proof.Proof.Gen.Reference3Ideal.Run
public import proofs.«01_k».proof.Proof.Gen.Reference3Ideal.Read

@[expose] public section
set_option maxRecDepth 16384

noncomputable section
namespace Cert.Kernel3Ideal.Blk
open Idealize.ShloMosaic Idealize.ShloMosaic.TcCoe Idealize.SL.Sem
open Cert.Kernel3Ideal Cert.Kernel3Ideal.Gen
variable (m : (ℓ : Loc nD τ sig) → Buf (Elt Ideal) ℓ)

/-- The product of the first argument with the weight whose rows the second holds in eight groups, transposed. -/
def prod (d : FVec Ideal S4096x1024 .bf16) (w : FVec Ideal S8x1x512x1024 .bf16) (r : Fin 4096) (l : Fin 4096) : EReal :=
  ∑ k : Fin 1024, d (ix2 r k) * w (ix4 (⟨l.val / 512, by omega⟩ : Fin 8) (0 : Fin 1) (⟨l.val % 512, by omega⟩ : Fin 512) k)

/-- Twice a number. -/
def twice (a : EReal) : EReal := Ideal.ofBits .f32 0x40000000#32 * a

/-- The gradient of the hidden layer's input. -/
def out (a : FVec Ideal S4096x4096 .f32) (d : FVec Ideal S4096x1024 .bf16) (w : FVec Ideal S8x1x512x1024 .bf16) : FVec Ideal S4096x4096 .bf16 :=
  fun i => prod d w (i 0) (i 1) * twice (max (a (ix2 (i 0) (i 1))) 0)

/-- The root of the square of a number that is not negative. -/
theorem root_sq (a : EReal) (h : 0 ≤ a) : Ideal.sqrt (a * a) = a := by
  induction a using EReal.rec with
  | bot => exact absurd h (by simp)
  | top => simp
  | coe r =>
    have hr : 0 ≤ r := EReal.coe_nonneg.mp h
    rw [← EReal.coe_mul, Ideal.sqrt_coe, if_neg (not_lt.mpr (mul_self_nonneg r)), Real.sqrt_mul_self hr]

/-- A block's gradient. -/
theorem pay1_at (d : FVec Ideal S2048x1024 .bf16) (w : FVec Ideal S2x1x512x1024 .bf16) (u : FVec Ideal S2048x1024 .bf16) (r : Fin 2048) (l : Fin 1024) :
    k0_pay1 (F := Ideal) d w u (ix2 r l) = (∑ k : Fin 1024, d (ix2 r k)
      * w (ix4 (⟨l.val / 512, by omega⟩ : Fin 2) (0 : Fin 1) (⟨l.val % 512, by omega⟩ : Fin 512) k)) * twice (Ideal.sqrt (u (ix2 r l))) := by
  unfold twice
  pointwise [k0_pay1]

/-- Where each window's block lies at each grid point. -/
theorem idx : ∀ t : Fin cfg0.N, win0_0.index t = ![t.val / 4, 0] ∧ win0_1.index t = ![t.val % 4, 0, 0, 0]
    ∧ win0_2.index t = ![t.val / 4, t.val % 4] ∧ win0_3.index t = ![t.val / 4, t.val % 4] ∧ t.val < 8 :=
  (by decide +kernel : ∀ t : Fin grid0.N, _)

/-- The activation the host computes. -/
theorem act_at (c : Dev nD) (i : S4096x4096.Idx) :
    (V m c main_v2 : FVec Ideal S4096x4096 .bf16) i = (fun a : FVec Ideal S4096x4096 .f32 => max (a i) 0 * max (a i) 0) (m ((c : Thread nD τ).loc main_arg0)) := by
  unfold V
  simp only [hostOps0, hostOps0_1, List.flatten_cons, List.flatten_nil, List.append_nil, List.cons_append, List.nil_append]
  after_reads_at

/-- The array after the run. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ : ∃ (r : Fin 2048) (l : Fin 1024), y = ix2 r l := ⟨y 0, y 1, by blk_ext⟩
  frame_out
  refine (pay1_at _ _ _ r l).trans ?_
  unfold out prod
  refine congrArg₂ (fun a b : EReal => a * b) (Fin.sum_fin_congr fun k => ?_) (congrArg twice ?_)
  · rw [← V_main_arg1 m c, ← V_main_arg2 m c]
    blk_point [iblk, idx t]
  · refine (congrArg Ideal.sqrt (act_at m c _)).trans ?_
    dsimp only
    rw [root_sq _ (le_max_right _ _)]
    exact congrArg (fun z : EReal => max z 0) (by blk_point [idx t])

end Cert.Kernel3Ideal.Blk

namespace Cert.Reference3Ideal.Ref
open Idealize.ShloMosaic Idealize.ShloMosaic.TcCoe Idealize.SL.Sem
open Cert.Reference3Ideal Cert.Reference3Ideal.Read

/-- The reference's product. -/
theorem ref_prod (d : FVec Ideal Cert.Kernel3Ideal.S4096x1024 .bf16) (w : FVec Ideal Cert.Kernel3Ideal.S8x1x512x1024 .bf16) (r l : Fin 4096) :
    val_main_v12 (F := Ideal) d w (ix2 r l) = Cert.Kernel3Ideal.Blk.prod d w r l := by
  unfold Cert.Kernel3Ideal.Blk.prod
  rw [val_main_v12_apply]
  refine Finset.sum_congr rfl fun k _ => ?_
  rw [val_main_v11_apply, val_main_v2_apply, val_main_v1_apply, val_main_v0_apply]
  refine congrArg₂ (fun a b : EReal => a * b) (congrArg d (by blk_ext)) (congrArg w ?_)
  have hr := r.isLt; have hl := l.isLt; have hk := k.isLt
  funext a
  match a with
  | ⟨0, _⟩ => exact Fin.ext (by show (((l.val * 1024 + k.val) / 524288 * 512 + (l.val * 1024 + k.val) / 1024 % 512) * 1024 + (l.val * 1024 + k.val) % 1024) / 524288 = l.val / 512; omega)
  | ⟨1, _⟩ => rfl
  | ⟨2, _⟩ => exact Fin.ext (by show (((l.val * 1024 + k.val) / 524288 * 512 + (l.val * 1024 + k.val) / 1024 % 512) * 1024 + (l.val * 1024 + k.val) % 1024) / 1024 % 512 = l.val % 512; omega)
  | ⟨3, _⟩ => exact Fin.ext (by show (((l.val * 1024 + k.val) / 524288 * 512 + (l.val * 1024 + k.val) / 1024 % 512) * 1024 + (l.val * 1024 + k.val) % 1024) % 1024 = k.val; omega)

/-- Where the input is not positive the gradient is zero already. -/
theorem kept (a p : EReal) :
    Scalar.select (FloatOps.cmpf (F := Ideal) (φ := .f32) .ogt a 0) (p * Cert.Kernel3Ideal.Blk.twice (max a 0)) (0 : EReal) = p * Cert.Kernel3Ideal.Blk.twice (max a 0) := by
  by_cases h : 0 < a
  · exact if_pos (by show Ideal.cmp .ogt a 0 = 1; simp [Ideal.cmp, h])
  · have e : max a 0 = 0 := max_eq_right (not_lt.mp h)
    rw [e]
    unfold Cert.Kernel3Ideal.Blk.twice
    rw [mul_zero, mul_zero]
    exact ite_self _

/-- The reference's gradient is that one. -/
theorem ref_eq (a : FVec Ideal Cert.Kernel3Ideal.S4096x4096 .f32) (d : FVec Ideal Cert.Kernel3Ideal.S4096x1024 .bf16) (w : FVec Ideal Cert.Kernel3Ideal.S8x1x512x1024 .bf16) :
    val_main_v16 (F := Ideal) a d w = Cert.Kernel3Ideal.Blk.out a d w := by
  funext i
  obtain ⟨r, l, rfl⟩ : ∃ (r : Fin 4096) (l : Fin 4096), i = ix2 r l := ⟨i 0, i 1, by blk_ext⟩
  rw [val_main_v16_apply, val_main_v15_apply, val_main_v14_apply, val_main_v13_apply, val_main_v5_apply, val_main_v4_apply, val_main_v9_apply, val_main_v8_apply,
    val_main_v3_apply, val_main_call0_v0_apply, ref_prod]
  exact (congrArg (fun z : EReal => Scalar.select (FloatOps.cmpf (F := Ideal) (φ := .f32) .ogt (a (ix2 r l)) z)
    (Cert.Kernel3Ideal.Blk.prod d w r l * Cert.Kernel3Ideal.Blk.twice (max (a (ix2 r l)) z)) z) Ideal.ofBits_zero_f32).trans (kept _ _)

end Cert.Reference3Ideal.Ref
end
-- ==== Proof.MlpUp.lean ====
module

public import Idealize.ShloMosaic.Lib.Pointwise
public import Idealize.ShloMosaic.Lib.Pipeline.ValueKit
public import Idealize.ShloMosaic.Lib.Pipeline.ReadBack
public import proofs.«01_k».proof.Proof.Gen.Kernel4Ideal.Value
public import proofs.«01_k».proof.Proof.Gen.Reference4Ideal.Run
public import proofs.«01_k».proof.Proof.Gen.Reference4Ideal.Read

@[expose] public section
set_option maxRecDepth 16384

noncomputable section
namespace Cert.Kernel4Ideal.Blk
open Idealize.ShloMosaic Idealize.ShloMosaic.TcCoe Idealize.SL.Sem
open Cert.Kernel4Ideal Cert.Kernel4Ideal.Gen
variable (m : (ℓ : Loc nD τ sig) → Buf (Elt Ideal) ℓ)

/-- The product of the first argument with the weight whose columns the second holds in eight groups. -/
def prod (x : FVec Ideal S4096x1024 .bf16) (w : FVec Ideal S8x1x1024x512 .bf16) (r : Fin 4096) (l : Fin 4096) : EReal :=
  ∑ k : Fin 1024, x (ix2 r k) * w (ix4 (⟨l.val / 512, by omega⟩ : Fin 8) (0 : Fin 1) k (⟨l.val % 512, by omega⟩ : Fin 512))

/-- The square of the positive part. -/
def relu2 (a : EReal) : EReal := max a 0 * max a 0

/-- The hidden layer. -/
def out (x : FVec Ideal S4096x1024 .bf16) (w : FVec Ideal S8x1x1024x512 .bf16) : FVec Ideal S4096x4096 .bf16 :=
  fun i => relu2 (prod x w (i 0) (i 1))

/-- The two groups of columns side by side. -/
theorem groups (x : FVec Ideal S2048x1024 .bf16) (w : FVec Ideal S2x1x1024x512 .bf16) (r : Fin 2048) (l : Fin 1024) :
    (if h : l.val < 512 then ∑ k : Fin 1024, x (ix2 r k) * w (ix4 (0 : Fin 2) (0 : Fin 1) k (⟨l.val, h⟩ : Fin 512))
      else ∑ k : Fin 1024, x (ix2 r k) * w (ix4 (1 : Fin 2) (0 : Fin 1) k (⟨l.val - 512, by omega⟩ : Fin 512)))
    = ∑ k : Fin 1024, x (ix2 r k) * w (ix4 (⟨l.val / 512, by omega⟩ : Fin 2) (0 : Fin 1) k (⟨l.val % 512, by omega⟩ : Fin 512)) := by
  split
  · next h =>
    have e : (⟨l.val / 512, by omega⟩ : Fin 2) = 0 := Fin.ext (by show l.val / 512 = 0; omega)
    have f : (⟨l.val % 512, by omega⟩ : Fin 512) = ⟨l.val, h⟩ := Fin.ext (by show l.val % 512 = l.val; omega)
    rw [e, f]
  · next h =>
    have e : (⟨l.val / 512, by omega⟩ : Fin 2) = 1 := Fin.ext (by show l.val / 512 = 1; omega)
    have f : (⟨l.val % 512, by omega⟩ : Fin 512) = ⟨l.val - 512, by omega⟩ := Fin.ext (by show l.val % 512 = l.val - 512; omega)
    rw [e, f]

/-- A block's result. -/
theorem pay1_at (x : FVec Ideal S2048x1024 .bf16) (w : FVec Ideal S2x1x1024x512 .bf16) (r : Fin 2048) (l : Fin 1024) :
    k0_pay1 (F := Ideal) x (View.ld w r0_1) (View.ld w r0_2) (ix2 r l) = relu2 (∑ k : Fin 1024, x (ix2 r k)
      * w (ix4 (⟨l.val / 512, by omega⟩ : Fin 2) (0 : Fin 1) k (⟨l.val % 512, by omega⟩ : Fin 512))) := by
  pointwise [k0_pay1]
  rw [groups]; rfl

/-- Where each window's block lies at each grid point. -/
theorem idx : ∀ t : Fin cfg0.N, win0_0.index t = ![t.val / 4, 0] ∧ win0_1.index t = ![t.val % 4, 0, 0, 0]
    ∧ win0_2.index t = ![t.val / 4, t.val % 4] ∧ t.val < 8 :=
  (by decide +kernel : ∀ t : Fin grid0.N, _)

/-- The array after the run. -/
theorem final (c : Dev nD) : (dats m 0 c).arrAt 2 cfg0.N
    = out (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ (r : Fin 2048) (l : Fin 1024), y = ix2 r l := ⟨y 0, y 1, by blk_ext⟩
  frame_out
  refine (pay1_at _ _ r l).trans ?_
  unfold out prod
  refine congrArg relu2 (Fin.sum_fin_congr fun k => ?_)
  blk_point [iblk, V, idx t]

end Cert.Kernel4Ideal.Blk

namespace Cert.Reference4Ideal.Ref
open Idealize.ShloMosaic Idealize.ShloMosaic.TcCoe Idealize.SL.Sem
open Cert.Reference4Ideal Cert.Reference4Ideal.Read

/-- The reference's hidden layer is that one. -/
theorem ref_eq (x : FVec Ideal Cert.Kernel4Ideal.S4096x1024 .bf16) (w : FVec Ideal Cert.Kernel4Ideal.S8x1x1024x512 .bf16) :
    val_main_v8 (F := Ideal) x w = Cert.Kernel4Ideal.Blk.out x w := by
  funext i
  obtain ⟨r, l, rfl⟩ : ∃ (r : Fin 4096) (l : Fin 4096), i = ix2 r l := ⟨i 0, i 1, by blk_ext⟩
  have e : val_main_v5 (F := Ideal) x w (ix2 r l) = Cert.Kernel4Ideal.Blk.prod x w r l := by
    rw [val_main_v5_apply]
    unfold Cert.Kernel4Ideal.Blk.prod
    refine Finset.sum_congr rfl fun k _ => ?_
    rw [val_main_v0_apply, val_main_v4_apply, val_main_v3_apply, val_main_v2_apply, val_main_v1_apply]
    refine congrArg₂ (fun a b : EReal => a * b) (congrArg x (by blk_ext)) (congrArg w ?_)
    have hr := r.isLt; have hl := l.isLt; have hk := k.isLt
    funext a
    match a with
    | ⟨0, _⟩ => exact Fin.ext (by show (((k.val * 4096 + l.val) / 512 % 8 * 1024 + (k.val * 4096 + l.val) / 4096) * 512 + (k.val * 4096 + l.val) % 512) / 524288 = l.val / 512; omega)
    | ⟨1, _⟩ => rfl
    | ⟨2, _⟩ => exact Fin.ext (by show (((k.val * 4096 + l.val) / 512 % 8 * 1024 + (k.val * 4096 + l.val) / 4096) * 512 + (k.val * 4096 + l.val) % 512) / 512 % 1024 = k.val; omega)
    | ⟨3, _⟩ => exact Fin.ext (by show (((k.val * 4096 + l.val) / 512 % 8 * 1024 + (k.val * 4096 + l.val) / 4096) * 512 + (k.val * 4096 + l.val) % 512) % 512 = l.val % 512; omega)
  rw [val_main_v8_apply, val_main_v7_apply, val_main_v6_apply, e]
  exact congrArg (fun z : EReal => max (Cert.Kernel4Ideal.Blk.prod x w r l) z * max (Cert.Kernel4Ideal.Blk.prod x w r l) z) (by rw [val_main_call0_v0_apply]; exact Ideal.ofBits_zero_f32)

end Cert.Reference4Ideal.Ref
end
-- ==== Proof.MlpDown.lean ====
module

public import Idealize.ShloMosaic.Lib.Pointwise
public import Idealize.ShloMosaic.Lib.Pipeline.ValueKit
public import Idealize.ShloMosaic.Lib.Pipeline.ReadBack
public import proofs.«01_k».proof.Proof.Gen.Kernel5Ideal.Value
public import proofs.«01_k».proof.Proof.Gen.Reference5Ideal.Run
public import proofs.«01_k».proof.Proof.Gen.Reference5Ideal.Read

@[expose] public section
set_option maxRecDepth 16384

noncomputable section
namespace Cert.Kernel5Ideal.Blk
open Idealize.ShloMosaic Idealize.ShloMosaic.TcCoe Idealize.SL.Sem
open Cert.Kernel5Ideal Cert.Kernel5Ideal.Gen
variable (m : (ℓ : Loc nD τ sig) → Buf (Elt Ideal) ℓ)

/-- The call's first argument. -/
abbrev X (c : Dev nD) : FVec Ideal S4096x4096 .bf16 := m ((c : Thread nD τ).loc main_arg0)
/-- The call's second argument. -/
abbrev Y (c : Dev nD) : FVec Ideal S8x1x512x1024 .bf16 := m ((c : Thread nD τ).loc main_arg1)

/-- The product of the first argument with the weight whose rows the second holds in eight groups. -/
def prod (x : FVec Ideal S4096x4096 .bf16) (w : FVec Ideal S8x1x512x1024 .bf16) (r : Fin 4096) (l : Fin 1024) : EReal :=
  ∑ k : Fin 4096, x (ix2 r k) * w (ix4 (⟨k.val / 512, by omega⟩ : Fin 8) (0 : Fin 1) (⟨k.val % 512, by omega⟩ : Fin 512) l)

/-- The projection. -/
def outz (x : FVec Ideal S4096x4096 .bf16) (w : FVec Ideal S8x1x512x1024 .bf16) : FVec Ideal S4096x1024 .bf16 :=
  fun i => prod x w (i 0) (i 1)

/-- The residual plus the gated projection. -/
def outx (x : FVec Ideal S4096x4096 .bf16) (w : FVec Ideal S8x1x512x1024 .bf16) (u : FVec Ideal S4096x1024 .f32) (g : FVec Ideal S1x1024 .f32) :
    FVec Ideal S4096x1024 .f32 :=
  fun i => u (ix2 (i 0) (i 1)) + g (ix2 (0 : Fin 1) (i 1)) * prod x w (i 0) (i 1)

/-- A block's product. -/
def bprod (x : FVec Ideal S1024x1024 .bf16) (w : FVec Ideal S2x1x512x1024 .bf16) (r l : Fin 1024) : EReal :=
  ∑ k : Fin 1024, x (ix2 r k) * w (ix4 (⟨k.val / 512, by omega⟩ : Fin 2) (0 : Fin 1) (⟨k.val % 512, by omega⟩ : Fin 512) l)

/-- The first block's product. -/
theorem pay1_at (x : FVec Ideal S1024x1024 .bf16) (w : FVec Ideal S2x1x512x1024 .bf16) (r l : Fin 1024) :
    k0_pay1 (F := Ideal) x w (ix2 r l) = bprod x w r l := by
  unfold bprod
  pointwise [k0_pay1]

/-- The carried sum plus a block's product. -/
theorem pay2_at (a : FVec Ideal S1024x1024 .f32) (x : FVec Ideal S1024x1024 .bf16) (w : FVec Ideal S2x1x512x1024 .bf16) (r l : Fin 1024) :
    k0_pay2 (F := Ideal) a x w (ix2 r l) = a (ix2 r l) + bprod x w r l := by
  unfold bprod
  pointwise [k0_pay2]

/-- The carried sum plus the last block's product. -/
theorem pay4_at (a : FVec Ideal S1024x1024 .f32) (x : FVec Ideal S1024x1024 .bf16) (w : FVec Ideal S2x1x512x1024 .bf16) (r l : Fin 1024) :
    k0_pay4 (F := Ideal) a x w (ix2 r l) = a (ix2 r l) + bprod x w r l := by
  unfold bprod
  pointwise [k0_pay4, k0_pay3]

/-- The residual plus the gated sum. -/
theorem pay5_at (a : FVec Ideal S1024x1024 .f32) (x : FVec Ideal S1024x1024 .bf16) (w : FVec Ideal S2x1x512x1024 .bf16)
    (u : FVec Ideal S1024x1024 .f32) (g : FVec Ideal S1x1024 .f32) (r l : Fin 1024) :
    k0_pay5 (F := Ideal) a x w u g (ix2 r l) = u (ix2 r l) + g (ix2 (0 : Fin 1) l) * (a (ix2 r l) + bprod x w r l) := by
  unfold bprod
  pointwise [k0_pay5, k0_pay3]

/-- Where each window's block lies at each grid point. -/
theorem idx : ∀ t : Fin cfg0.N, win0_0.index t = ![t.val / 4, t.val % 4] ∧ win0_1.index t = ![t.val % 4, 0, 0, 0]
    ∧ win0_2.index t = ![t.val / 4, 0] ∧ win0_3.index t = ![0, 0] ∧ win0_4.index t = ![t.val / 4, 0] ∧ win0_5.index t = ![t.val / 4, 0] ∧ t.val < 16 :=
  (by decide +kernel : ∀ t : Fin grid0.N, _)

/-- A grid point's share of the product. -/
def part (c : Dev nD) (t : Fin cfg0.N) (r l : Fin 1024) : EReal := bprod (iblk m c 0 t) (iblk m c 1 t) r l

/-- The first point of a run leaves its share. -/
theorem sum_first (c : Dev nD) (t : Fin cfg0.N) (h : t.val % 4 = 0) (r l : Fin 1024) :
    (outsAt0 m c t.val t.isLt).2.2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r l : Fin 1024) :
    (outsAt0 m c t.val t.isLt).2.2 (ix2 r l)
      = (outsAt0 m c (t.val - 1) (Nat.lt_of_le_of_lt (Nat.sub_le _ _) t.isLt)).2.2 (ix2 r l) + part m c t r l := by
  rw [outsAt0_B m c t (by omega) h (by omega)]; dsimp only; frame_out; rw [read_unread_whole]
  exact pay2_at _ _ _ r l

/-- The points of a run. -/
def pt (t : Fin cfg0.N) (s : Fin 4) : Fin cfg0.N :=
  ⟨4 * (t.val / 4) + s.val, lt_of_lt_of_eq (by have := (idx t).2.2.2.2.2.2; have := s.isLt; omega : _ < 16) N_0.symm⟩

/-- What the last point of a run finds carried, plus its own share, is the sum of the run's shares. -/
theorem sum_all (c : Dev nD) (t : Fin cfg0.N) (h : t.val % 4 = 3) (r l : Fin 1024) :
    (outsAt0 m c (t.val - 1) (Nat.lt_of_le_of_lt (Nat.sub_le _ _) t.isLt)).2.2 (ix2 r l) + part m c t r l = ∑ s : Fin 4, part m c (pt t s) r l := by
  have e : ∀ (n n' : ℕ) (hn : n < cfg0.N) (hn' : n' < cfg0.N), n = n' → outsAt0 m c n hn = outsAt0 m c n' hn' := by
    intro n n' hn hn' q; subst q; rfl
  have p3 : pt t 3 = t := Fin.ext (by show 4 * (t.val / 4) + 3 = t.val; omega)
  rw [e (t.val - 1) (pt t 2).val _ (pt t 2).isLt (by show t.val - 1 = 4 * (t.val / 4) + 2; omega),
    sum_later m c (pt t 2) (by show 1 ≤ (4 * (t.val / 4) + 2) % 4 ∧ (4 * (t.val / 4) + 2) % 4 ≤ 2; omega),
    e ((pt t 2).val - 1) (pt t 1).val _ (pt t 1).isLt (by show 4 * (t.val / 4) + 2 - 1 = 4 * (t.val / 4) + 1; omega),
    sum_later m c (pt t 1) (by show 1 ≤ (4 * (t.val / 4) + 1) % 4 ∧ (4 * (t.val / 4) + 1) % 4 ≤ 2; omega),
    e ((pt t 1).val - 1) (pt t 0).val _ (pt t 0).isLt (by show 4 * (t.val / 4) + 1 - 1 = 4 * (t.val / 4) + 0; omega),
    sum_first m c (pt t 0) (by show (4 * (t.val / 4) + 0) % 4 = 0; omega), Fin.sum_univ_four, p3]

/-- The sum of a run's shares is a block of the product. -/
theorem sum_prod (c : Dev nD) (t : Fin cfg0.N) (r l : Fin 1024) (R : Fin 4096) (hR : R.val = t.val / 4 * 1024 + r.val) :
    ∑ s : Fin 4, part m c (pt t s) r l = prod (X m c) (Y m c) R l := by
  unfold prod part bprod
  refine Fin.sum_mul_add_congr fun s k hl => ?_
  have q : (pt t s).val = 4 * (t.val / 4) + s.val := rfl
  have hs := s.isLt
  blk_point [iblk, V, idx t, idx (pt t s), q, hR]

/-- The last point of a run writes the sum of the run's shares. -/
theorem last_z (c : Dev nD) (t : Fin cfg0.N) (h : t.val % 4 = 3) (r l : Fin 1024) :
    (outsAt0 m c t.val t.isLt).1 (ix2 r l) = ∑ s : Fin 4, part m c (pt t s) r l := by
  rw [← sum_all m c t h, outsAt0_C m c t (by omega) (by omega) h]; dsimp only; frame_out; rw [read_unread_whole]
  exact pay4_at _ _ _ r l

/-- The last point of a run writes the residual plus the gated sum of the run's shares. -/
theorem last_x (c : Dev nD) (t : Fin cfg0.N) (h : t.val % 4 = 3) (r l : Fin 1024) :
    (outsAt0 m c t.val t.isLt).2.1 (ix2 r l) = (fun (u : FVec Ideal S1024x1024 .f32) (g : FVec Ideal S1x1024 .f32) =>
      u (ix2 r l) + g (ix2 (0 : Fin 1) l) * ∑ s : Fin 4, part m c (pt t s) r l) (iblk m c 2 t) (iblk m c 3 t) := by
  rw [← sum_all m c t h, outsAt0_C m c t (by omega) (by omega) h]; dsimp only; frame_out; rw [read_unread_whole]
  exact pay5_at _ _ _ _ _ r l

/-- The projection's array after the run. -/
theorem final_z (c : Dev nD) : (dats m 0 c).arrAt 4 cfg0.N = outz (X m c) (Y m c) := by
  refine (dats m 0 c).arrAt_eq_of_covers 4 _ (by decide +kernel) fun t hf y => ?_
  have h := (flush0_4 t).mp hf
  blk_simp
  rw [after0_4]
  obtain ⟨r, l, rfl⟩ : ∃ (r : Fin 1024) (l : Fin 1024), y = ix2 r l := ⟨y 0, y 1, by blk_ext⟩
  refine (last_z m c t h r l).trans ((sum_prod m c t r l ⟨t.val / 4 * 1024 + r.val, by have := (idx t).2.2.2.2.2.2; have := r.isLt; omega⟩ rfl).trans ?_)
  unfold outz
  exact congrArg₂ (prod (X m c) (Y m c)) (Fin.ext (by blk_point [idx t])) (Fin.ext (by blk_point [idx t]))

/-- The residual's array after the run. -/
theorem final_x (c : Dev nD) : (dats m 0 c).arrAt 5 cfg0.N
    = outx (X m c) (Y m c) (m ((c : Thread nD τ).loc main_arg2)) (m ((c : Thread nD τ).loc main_arg3)) := by
  refine (dats m 0 c).arrAt_eq_of_covers 5 _ (by decide +kernel) fun t hf y => ?_
  have h := (flush0_5 t).mp hf
  blk_simp
  rw [after0_5]
  obtain ⟨r, l, rfl⟩ : ∃ (r : Fin 1024) (l : Fin 1024), y = ix2 r l := ⟨y 0, y 1, by blk_ext⟩
  rw [last_x m c t h r l, sum_prod m c t r l ⟨t.val / 4 * 1024 + r.val, by have := (idx t).2.2.2.2.2.2; have := r.isLt; omega⟩ rfl]
  unfold outx
  refine congrArg₂ (fun a b : EReal => a + b) ?_ (congrArg₂ (fun a b : EReal => a * b) ?_
    (congrArg₂ (prod (X m c) (Y m c)) (Fin.ext (by blk_point [idx t])) (Fin.ext (by blk_point [idx t]))))
  · blk_point [iblk, V, idx t]
  · blk_point [iblk, V, idx t]

end Cert.Kernel5Ideal.Blk

namespace Cert.Reference5Ideal.Ref
open Idealize.ShloMosaic Idealize.ShloMosaic.TcCoe Idealize.SL.Sem
open Cert.Reference5Ideal Cert.Reference5Ideal.Read

/-- The reference's product before its cast. -/
theorem ref_prod (x : FVec Ideal Cert.Kernel5Ideal.S4096x4096 .bf16) (w : FVec Ideal Cert.Kernel5Ideal.S8x1x512x1024 .bf16) (r : Fin 4096) (l : Fin 1024) :
    val_main_v4 (F := Ideal) x w (ix2 r l) = Cert.Kernel5Ideal.Blk.prod x w r l := by
  unfold Cert.Kernel5Ideal.Blk.prod
  rw [val_main_v4_apply]
  refine Finset.sum_congr rfl fun k _ => ?_
  rw [val_main_v0_apply, val_main_v3_apply, val_main_v2_apply, val_main_v1_apply]
  refine congrArg₂ (fun a b : EReal => a * b) (congrArg x (by blk_ext)) (congrArg w ?_)
  have hr := r.isLt; have hl := l.isLt; have hk := k.isLt
  funext a
  match a with
  | ⟨0, _⟩ => exact Fin.ext (by show (((k.val * 1024 + l.val) / 524288 * 512 + (k.val * 1024 + l.val) / 1024 % 512) * 1024 + (k.val * 1024 + l.val) % 1024) / 524288 = k.val / 512; omega)
  | ⟨1, _⟩ => rfl
  | ⟨2, _⟩ => exact Fin.ext (by show (((k.val * 1024 + l.val) / 524288 * 512 + (k.val * 1024 + l.val) / 1024 % 512) * 1024 + (k.val * 1024 + l.val) % 1024) / 1024 % 512 = k.val % 512; omega)
  | ⟨3, _⟩ => exact Fin.ext (by show (((k.val * 1024 + l.val) / 524288 * 512 + (k.val * 1024 + l.val) / 1024 % 512) * 1024 + (k.val * 1024 + l.val) % 1024) % 1024 = l.val; omega)

/-- The reference's projection is that product. -/
theorem ref_z (x : FVec Ideal Cert.Kernel5Ideal.S4096x4096 .bf16) (w : FVec Ideal Cert.Kernel5Ideal.S8x1x512x1024 .bf16) :
    val_main_v5 (F := Ideal) x w = Cert.Kernel5Ideal.Blk.outz x w := by
  funext i
  obtain ⟨r, l, rfl⟩ : ∃ (r : Fin 4096) (l : Fin 1024), i = ix2 r l := ⟨i 0, i 1, by blk_ext⟩
  rw [val_main_v5_apply, ref_prod]
  rfl

/-- The reference's residual is that sum. -/
theorem ref_x (x : FVec Ideal Cert.Kernel5Ideal.S4096x4096 .bf16) (w : FVec Ideal Cert.Kernel5Ideal.S8x1x512x1024 .bf16) (u : FVec Ideal Cert.Kernel5Ideal.S4096x1024 .f32) (g : FVec Ideal Cert.Kernel5Ideal.S1x1024 .f32) :
    val_main_v8 (F := Ideal) x w u g = Cert.Kernel5Ideal.Blk.outx x w u g := by
  funext i
  obtain ⟨r, l, rfl⟩ : ∃ (r : Fin 4096) (l : Fin 1024), i = ix2 r l := ⟨i 0, i 1, by blk_ext⟩
  rw [val_main_v8_apply, val_main_v7_apply, val_main_v6_apply, ref_prod]
  exact congrArg (fun a : EReal => u (ix2 r l) + a * Cert.Kernel5Ideal.Blk.prod x w r l) (congrArg g (by blk_ext))

end Cert.Reference5Ideal.Ref
end
-- ==== Proof.InProj.lean ====
module

public import Idealize.ShloMosaic.Lib.Pointwise
public import Idealize.ShloMosaic.Lib.Pipeline.ValueKit
public import Idealize.ShloMosaic.Lib.Pipeline.ReadBack
public import proofs.«01_k».proof.Proof.Gen.Kernel6Ideal.Value
public import proofs.«01_k».proof.Proof.Gen.Reference6Ideal.Run
public import proofs.«01_k».proof.Proof.Gen.Reference6Ideal.Read

@[expose] public section
set_option maxRecDepth 16384

noncomputable section
namespace Cert.Kernel6Ideal.Blk
open Idealize.ShloMosaic Idealize.ShloMosaic.TcCoe Idealize.SL.Sem
open Cert.Kernel6Ideal Cert.Kernel6Ideal.Gen
variable (m : (ℓ : Loc nD τ sig) → Buf (Elt Ideal) ℓ)

/-- The product of the two arguments. -/
def prod (x : FVec Ideal S4096x1024 .bf16) (w : FVec Ideal S1024x3584 .bf16) : FVec Ideal S4096x3584 .f32 :=
  fun i => ∑ k : Fin 1024, x (ix2 (⟨(i 0).val, (i 0).isLt⟩ : Fin 4096) k) * w (ix2 k (⟨(i 1).val, (i 1).isLt⟩ : Fin 3584))

/-- A block's product. -/
theorem pay1_at (x : FVec Ideal S2048x1024 .bf16) (w : FVec Ideal S1024x896 .bf16) (r : Fin 2048) (l : Fin 896) :
    k0_pay1 (F := Ideal) x w (ix2 r l) = ∑ k : Fin 1024, x (ix2 r k) * w (ix2 k l) := by
  pointwise [k0_pay1]

/-- Where each window's block lies at each grid point. -/
theorem idx : ∀ t : Fin cfg0.N, win0_0.index t = ![t.val / 4, 0] ∧ win0_1.index t = ![0, t.val % 4]
    ∧ win0_2.index t = ![t.val / 4, t.val % 4] ∧ t.val < 8 :=
  (by decide +kernel : ∀ t : Fin grid0.N, _)

/-- The array after the run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ (r : Fin 2048) (l : Fin 896), y = ix2 r l := ⟨y 0, y 1, by blk_ext⟩
  frame_out
  refine (pay1_at _ _ r l).trans ?_
  unfold prod
  refine Fin.sum_fin_congr fun k => ?_
  blk_point [iblk, V, idx t]

end Cert.Kernel6Ideal.Blk

namespace Cert.Reference6Ideal.Ref
open Idealize.ShloMosaic Idealize.ShloMosaic.TcCoe Idealize.SL.Sem
open Cert.Reference6Ideal Cert.Reference6Ideal.Read

/-- The reference's projection is that product. -/
theorem ref_eq (x : FVec Ideal Cert.Kernel6Ideal.S4096x1024 .bf16) (w : FVec Ideal Cert.Kernel6Ideal.S1024x3584 .bf16) :
    val_main_v2 (F := Ideal) x w = Cert.Kernel6Ideal.Blk.prod x w := by
  funext i
  obtain ⟨r, l, rfl⟩ : ∃ (r : Fin 4096) (l : Fin 3584), i = ix2 r l := ⟨i 0, i 1, by blk_ext⟩
  unfold Cert.Kernel6Ideal.Blk.prod
  rw [val_main_v2_apply]
  refine Finset.sum_congr rfl fun k _ => ?_
  rw [val_main_v0_apply, val_main_v1_apply]
  exact congrArg₂ (fun a b : EReal => a * b) (congrArg x (by blk_ext)) (congrArg w (by blk_ext))

end Cert.Reference6Ideal.Ref
end
-- ==== Proof.InDw.lean ====
module

public import Idealize.ShloMosaic.Lib.Pointwise
public import Idealize.ShloMosaic.Lib.Pipeline.ValueKit
public import Idealize.ShloMosaic.Lib.Pipeline.ReadBack
public import proofs.«01_k».proof.Proof.Gen.Kernel7Ideal.Value
public import proofs.«01_k».proof.Proof.Gen.Reference7Ideal.Run
public import proofs.«01_k».proof.Proof.Gen.Reference7Ideal.Read

@[expose] public section
set_option maxRecDepth 16384

noncomputable section
namespace Cert.Kernel7Ideal.Blk
open Idealize.ShloMosaic Idealize.ShloMosaic.TcCoe Idealize.SL.Sem
open Cert.Kernel7Ideal Cert.Kernel7Ideal.Gen
variable (m : (ℓ : Loc nD τ sig) → Buf (Elt Ideal) ℓ)

/-- The call's first argument. -/
abbrev X (c : Dev nD) : FVec Ideal S4096x3584 .bf16 := m ((c : Thread nD τ).loc main_arg0)
/-- The call's second argument. -/
abbrev Y (c : Dev nD) : FVec Ideal S4096x1024 .bf16 := m ((c : Thread nD τ).loc main_arg1)

/-- The product of the transposed first argument with the second. -/
def prod (x : FVec Ideal S4096x3584 .bf16) (y : FVec Ideal S4096x1024 .bf16) : FVec Ideal S3584x1024 .f32 :=
  fun i => ∑ k : Fin 4096, x (ix2 k (⟨(i 0).val, (i 0).isLt⟩ : Fin 3584)) * y (ix2 k (⟨(i 1).val, (i 1).isLt⟩ : Fin 1024))

/-- The first block's product. -/
theorem pay1_at (x : FVec Ideal S1024x1792 .bf16) (y : FVec Ideal S1024x1024 .bf16) (r : Fin 1792) (l : Fin 1024) :
    k0_pay1 (F := Ideal) x y (ix2 r l) = ∑ k : Fin 1024, x (ix2 k r) * y (ix2 k l) := by
  pointwise [k0_pay1]

/-- The carried sum plus a block's product. -/
theorem pay2_at (a : FVec Ideal S1792x1024 .f32) (x : FVec Ideal S1024x1792 .bf16) (y : FVec Ideal S1024x1024 .bf16) (r : Fin 1792) (l : Fin 1024) :
    k0_pay2 (F := Ideal) a x y (ix2 r l) = a (ix2 r l) + ∑ k : Fin 1024, x (ix2 k r) * y (ix2 k l) := by
  pointwise [k0_pay2]

/-- The carried sum plus the last block's product. -/
theorem pay3_at (a : FVec Ideal S1792x1024 .f32) (x : FVec Ideal S1024x1792 .bf16) (y : FVec Ideal S1024x1024 .bf16) (r : Fin 1792) (l : Fin 1024) :
    k0_pay3 (F := Ideal) a x y (ix2 r l) = a (ix2 r l) + ∑ k : Fin 1024, x (ix2 k r) * y (ix2 k l) := by
  pointwise [k0_pay3]

/-- Where each window's block lies at each grid point. -/
theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-- A grid point's share of the product. -/
def part (c : Dev nD) (t : Fin cfg0.N) (r : Fin 1792) (l : Fin 1024) : EReal :=
  (fun (x : FVec Ideal S1024x1792 .bf16) (y : FVec Ideal S1024x1024 .bf16) => ∑ k : Fin 1024, x (ix2 k r) * y (ix2 k l))
    (iblk m c 0 t) (iblk m c 1 t)

/-- The first point of a run leaves its share. -/
theorem sum_first (c : Dev nD) (t : Fin cfg0.N) (h : t.val % 4 = 0) (r : Fin 1792) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 1792) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point writes the carried sum plus its share. -/
theorem sum_last (c : Dev nD) (t : Fin cfg0.N) (h : t.val % 4 = 3) (r : Fin 1792) (l : Fin 1024) :
    (outsAt0 m c t.val t.isLt).1 (ix2 r l)
      = (outsAt0 m c (t.val - 1) (Nat.lt_of_le_of_lt (Nat.sub_le _ _) t.isLt)).2 (ix2 r l) + part m c t r l := by
  rw [outsAt0_C m c t (by omega) (by omega) h]; dsimp only; frame_out; rw [read_unread_whole]
  exact pay3_at _ _ _ r l

/-- The points of a run. -/
def pt (t : Fin cfg0.N) (s : Fin 4) : Fin cfg0.N :=
  ⟨4 * (t.val / 4) + s.val, lt_of_lt_of_eq (by have := (idx t).2.2.2; have := s.isLt; omega : _ < 8) N_0.symm⟩

/-- The last point of a run writes the sum of the run's shares. -/
theorem out_last (c : Dev nD) (t : Fin cfg0.N) (h : t.val % 4 = 3) (r : Fin 1792) (l : Fin 1024) :
    (outsAt0 m c t.val t.isLt).1 (ix2 r l) = ∑ s : Fin 4, part m c (pt t s) r l := by
  have e : ∀ (n n' : ℕ) (hn : n < cfg0.N) (hn' : n' < cfg0.N), n = n' → outsAt0 m c n hn = outsAt0 m c n' hn' := by
    intro n n' hn hn' q; subst q; rfl
  have p3 : pt t 3 = t := Fin.ext (by show 4 * (t.val / 4) + 3 = t.val; omega)
  rw [sum_last m c t h, e (t.val - 1) (pt t 2).val _ (pt t 2).isLt (by show t.val - 1 = 4 * (t.val / 4) + 2; omega),
    sum_later m c (pt t 2) (by show 1 ≤ (4 * (t.val / 4) + 2) % 4 ∧ (4 * (t.val / 4) + 2) % 4 ≤ 2; omega),
    e ((pt t 2).val - 1) (pt t 1).val _ (pt t 1).isLt (by show 4 * (t.val / 4) + 2 - 1 = 4 * (t.val / 4) + 1; omega),
    sum_later m c (pt t 1) (by show 1 ≤ (4 * (t.val / 4) + 1) % 4 ∧ (4 * (t.val / 4) + 1) % 4 ≤ 2; omega),
    e ((pt t 1).val - 1) (pt t 0).val _ (pt t 0).isLt (by show 4 * (t.val / 4) + 1 - 1 = 4 * (t.val / 4) + 0; omega),
    sum_first m c (pt t 0) (by show (4 * (t.val / 4) + 0) % 4 = 0; omega), Fin.sum_univ_four, p3]

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 1792) (l : Fin 1024), y = ix2 r l := ⟨y 0, y 1, by blk_ext⟩
  refine (out_last m c t h r l).trans ?_
  unfold prod part
  refine Fin.sum_mul_add_congr fun s k hl => ?_
  have q : (pt t s).val = 4 * (t.val / 4) + s.val := rfl
  have hs := s.isLt
  blk_point [iblk, V, idx t, idx (pt t s), q]

end Cert.Kernel7Ideal.Blk

namespace Cert.Reference7Ideal.Ref
open Idealize.ShloMosaic Idealize.ShloMosaic.TcCoe Idealize.SL.Sem
open Cert.Reference7Ideal Cert.Reference7Ideal.Read

/-- The reference's gradient of the input projection, transposed, is that product. -/
theorem ref_eq (x : FVec Ideal Cert.Kernel7Ideal.S4096x3584 .bf16) (y : FVec Ideal Cert.Kernel7Ideal.S4096x1024 .bf16) :
    val_main_v6 (F := Ideal) x y = Cert.Kernel7Ideal.Blk.prod x y := by
  funext i
  obtain ⟨r, l, rfl⟩ : ∃ (r : Fin 3584) (l : Fin 1024), i = ix2 r l := ⟨i 0, i 1, by blk_ext⟩
  unfold Cert.Kernel7Ideal.Blk.prod
  rw [val_main_v6_apply, val_main_v5_apply, val_main_v4_apply]
  refine Finset.sum_congr rfl fun k _ => ?_
  rw [val_main_v3_apply, val_main_v1_apply]
  exact congrArg₂ (fun a b : EReal => a * b) (congrArg x (by blk_ext)) (congrArg y (by blk_ext))

end Cert.Reference7Ideal.Ref
end
-- ==== Proof.QkvProj.lean ====
module

public import Idealize.ShloMosaic.Lib.Pointwise
public import Idealize.ShloMosaic.Lib.Pipeline.ValueKit
public import Idealize.ShloMosaic.Lib.Pipeline.ReadBack
public import proofs.«01_k».proof.Proof.Gen.Kernel8Ideal.Value
public import proofs.«01_k».proof.Proof.Gen.Reference8Ideal.Run
public import proofs.«01_k».proof.Proof.Gen.Reference8Ideal.Read

@[expose] public section
set_option maxRecDepth 16384

noncomputable section
namespace Cert.Kernel8Ideal.Blk
open Idealize.ShloMosaic Idealize.ShloMosaic.TcCoe Idealize.SL.Sem
open Cert.Kernel8Ideal Cert.Kernel8Ideal.Gen
variable (m : (ℓ : Loc nD τ sig) → Buf (Elt Ideal) ℓ)

/-- The product of the first argument with the weight whose columns the second holds in eight groups. -/
def prod (x : FVec Ideal S4096x1024 .bf16) (w : FVec Ideal S8x1x1024x384 .bf16) (r : Fin 4096) (l : Fin 3072) : EReal :=
  ∑ k : Fin 1024, x (ix2 r k) * w (ix4 (⟨l.val / 384, by omega⟩ : Fin 8) (0 : Fin 1) k (⟨l.val % 384, by omega⟩ : Fin 384))

/-- The projection. -/
def out (x : FVec Ideal S4096x1024 .bf16) (w : FVec Ideal S8x1x1024x384 .bf16) : FVec Ideal S4096x3072 .f32 :=
  fun i => prod x w (i 0) (i 1)

/-- The two groups of columns side by side. -/
theorem groups (x : FVec Ideal S2048x1024 .bf16) (w : FVec Ideal S2x1x1024x384 .bf16) (r : Fin 2048) (l : Fin 768) :
    (if h : l.val < 384 then ∑ k : Fin 1024, x (ix2 r k) * w (ix4 (0 : Fin 2) (0 : Fin 1) k (⟨l.val, h⟩ : Fin 384))
      else ∑ k : Fin 1024, x (ix2 r k) * w (ix4 (1 : Fin 2) (0 : Fin 1) k (⟨l.val - 384, by omega⟩ : Fin 384)))
    = ∑ k : Fin 1024, x (ix2 r k) * w (ix4 (⟨l.val / 384, by omega⟩ : Fin 2) (0 : Fin 1) k (⟨l.val % 384, by omega⟩ : Fin 384)) := by
  split
  · next h =>
    have e : (⟨l.val / 384, by omega⟩ : Fin 2) = 0 := Fin.ext (by show l.val / 384 = 0; omega)
    have f : (⟨l.val % 384, by omega⟩ : Fin 384) = ⟨l.val, h⟩ := Fin.ext (by show l.val % 384 = l.val; omega)
    rw [e, f]
  · next h =>
    have e : (⟨l.val / 384, by omega⟩ : Fin 2) = 1 := Fin.ext (by show l.val / 384 = 1; omega)
    have f : (⟨l.val % 384, by omega⟩ : Fin 384) = ⟨l.val - 384, by omega⟩ := Fin.ext (by show l.val % 384 = l.val - 384; omega)
    rw [e, f]

/-- A block's result. -/
theorem pay1_at (x : FVec Ideal S2048x1024 .bf16) (w : FVec Ideal S2x1x1024x384 .bf16) (r : Fin 2048) (l : Fin 768) :
    k0_pay1 (F := Ideal) x (View.ld w r0_1) (View.ld w r0_2) (ix2 r l) = (fun a : EReal => a) (∑ k : Fin 1024, x (ix2 r k)
      * w (ix4 (⟨l.val / 384, by omega⟩ : Fin 2) (0 : Fin 1) k (⟨l.val % 384, by omega⟩ : Fin 384))) := by
  pointwise [k0_pay1]
  exact groups x w r l

/-- Where each window's block lies at each grid point. -/
theorem idx : ∀ t : Fin cfg0.N, win0_0.index t = ![t.val / 4, 0] ∧ win0_1.index t = ![t.val % 4, 0, 0, 0]
    ∧ win0_2.index t = ![t.val / 4, t.val % 4] ∧ t.val < 8 :=
  (by decide +kernel : ∀ t : Fin grid0.N, _)

/-- The array after the run. -/
theorem final (c : Dev nD) : (dats m 0 c).arrAt 2 cfg0.N
    = out (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ (r : Fin 2048) (l : Fin 768), y = ix2 r l := ⟨y 0, y 1, by blk_ext⟩
  frame_out
  refine (pay1_at _ _ r l).trans ?_
  unfold out prod
  refine congrArg (fun a : EReal => a) (Fin.sum_fin_congr fun k => ?_)
  blk_point [iblk, V, idx t]

end Cert.Kernel8Ideal.Blk

namespace Cert.Reference8Ideal.Ref
open Idealize.ShloMosaic Idealize.ShloMosaic.TcCoe Idealize.SL.Sem
open Cert.Reference8Ideal Cert.Reference8Ideal.Read

/-- The reference's projection is that product. -/
theorem ref_eq (x : FVec Ideal Cert.Kernel8Ideal.S4096x1024 .bf16) (w : FVec Ideal Cert.Kernel8Ideal.S8x1x1024x384 .bf16) :
    val_main_v5 (F := Ideal) x w = Cert.Kernel8Ideal.Blk.out x w := by
  funext i
  obtain ⟨r, l, rfl⟩ : ∃ (r : Fin 4096) (l : Fin 3072), i = ix2 r l := ⟨i 0, i 1, by blk_ext⟩
  unfold Cert.Kernel8Ideal.Blk.out Cert.Kernel8Ideal.Blk.prod
  rw [val_main_v5_apply]
  refine Finset.sum_congr rfl fun k _ => ?_
  rw [val_main_v0_apply, val_main_v4_apply, val_main_v3_apply, val_main_v2_apply, val_main_v1_apply]
  refine congrArg₂ (fun a b : EReal => a * b) (congrArg x (by blk_ext)) (congrArg w ?_)
  have hr := r.isLt; have hl := l.isLt; have hk := k.isLt
  funext a
  match a with
  | ⟨0, _⟩ => exact Fin.ext (by show (((k.val * 3072 + l.val) / 384 % 8 * 1024 + (k.val * 3072 + l.val) / 3072) * 384 + (k.val * 3072 + l.val) % 384) / 393216 = l.val / 384; omega)
  | ⟨1, _⟩ => rfl
  | ⟨2, _⟩ => exact Fin.ext (by show (((k.val * 3072 + l.val) / 384 % 8 * 1024 + (k.val * 3072 + l.val) / 3072) * 384 + (k.val * 3072 + l.val) % 384) / 384 % 1024 = k.val; omega)
  | ⟨3, _⟩ => exact Fin.ext (by show (((k.val * 3072 + l.val) / 384 % 8 * 1024 + (k.val * 3072 + l.val) / 3072) * 384 + (k.val * 3072 + l.val) % 384) % 384 = l.val % 384; omega)

end Cert.Reference8Ideal.Ref
end
-- ==== Proof.QkvDw.lean ====
module

public import Idealize.ShloMosaic.Lib.Pointwise
public import Idealize.ShloMosaic.Lib.Pipeline.ValueKit
public import Idealize.ShloMosaic.Lib.Pipeline.ReadBack
public import proofs.«01_k».proof.Proof.Gen.Kernel9Ideal.Value
public import proofs.«01_k».proof.Proof.Gen.Reference9Ideal.Run
public import proofs.«01_k».proof.Proof.Gen.Reference9Ideal.Read

@[expose] public section
set_option maxRecDepth 16384

noncomputable section
namespace Cert.Kernel9Ideal.Blk
open Idealize.ShloMosaic Idealize.ShloMosaic.TcCoe Idealize.SL.Sem
open Cert.Kernel9Ideal Cert.Kernel9Ideal.Gen
variable (m : (ℓ : Loc nD τ sig) → Buf (Elt Ideal) ℓ)

/-- The call's first argument. -/
abbrev X (c : Dev nD) : FVec Ideal S4096x3072 .bf16 := m ((c : Thread nD τ).loc main_arg0)
/-- The call's second argument. -/
abbrev Y (c : Dev nD) : FVec Ideal S4096x1024 .bf16 := m ((c : Thread nD τ).loc main_arg1)

/-- The product of the transposed first argument with the second. -/
def prod (x : FVec Ideal S4096x3072 .bf16) (y : FVec Ideal S4096x1024 .bf16) : FVec Ideal S3072x1024 .f32 :=
  fun i => ∑ k : Fin 4096, x (ix2 k (⟨(i 0).val, (i 0).isLt⟩ : Fin 3072)) * y (ix2 k (⟨(i 1).val, (i 1).isLt⟩ : Fin 1024))

/-- The first block's product. -/
theorem pay1_at (x : FVec Ideal S1024x1536 .bf16) (y : FVec Ideal S1024x1024 .bf16) (r : Fin 1536) (l : Fin 1024) :
    k0_pay1 (F := Ideal) x y (ix2 r l) = ∑ k : Fin 1024, x (ix2 k r) * y (ix2 k l) := by
  pointwise [k0_pay1]

/-- The carried sum plus a block's product. -/
theorem pay2_at (a : FVec Ideal S1536x1024 .f32) (x : FVec Ideal S1024x1536 .bf16) (y : FVec Ideal S1024x1024 .bf16) (r : Fin 1536) (l : Fin 1024) :
    k0_pay2 (F := Ideal) a x y (ix2 r l) = a (ix2 r l) + ∑ k : Fin 1024, x (ix2 k r) * y (ix2 k l) := by
  pointwise [k0_pay2]

/-- The carried sum plus the last block's product. -/
theorem pay3_at (a : FVec Ideal S1536x1024 .f32) (x : FVec Ideal S1024x1536 .bf16) (y : FVec Ideal S1024x1024 .bf16) (r : Fin 1536) (l : Fin 1024) :
    k0_pay3 (F := Ideal) a x y (ix2 r l) = a (ix2 r l) + ∑ k : Fin 1024, x (ix2 k r) * y (ix2 k l) := by
  pointwise [k0_pay3]

/-- Where each window's block lies at each grid point. -/
theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-- A grid point's share of the product. -/
def part (c : Dev nD) (t : Fin cfg0.N) (r : Fin 1536) (l : Fin 1024) : EReal :=
  (fun (x : FVec Ideal S1024x1536 .bf16) (y : FVec Ideal S1024x1024 .bf16) => ∑ k : Fin 1024, x (ix2 k r) * y (ix2 k l))
    (iblk m c 0 t) (iblk m c 1 t)

/-- The first point of a run leaves its share. -/
theorem sum_first (c : Dev nD) (t : Fin cfg0.N) (h : t.val % 4 = 0) (r : Fin 1536) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 1536) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point writes the carried sum plus its share. -/
theorem sum_last (c : Dev nD) (t : Fin cfg0.N) (h : t.val % 4 = 3) (r : Fin 1536) (l : Fin 1024) :
    (outsAt0 m c t.val t.isLt).1 (ix2 r l)
      = (outsAt0 m c (t.val - 1) (Nat.lt_of_le_of_lt (Nat.sub_le _ _) t.isLt)).2 (ix2 r l) + part m c t r l := by
  rw [outsAt0_C m c t (by omega) (by omega) h]; dsimp only; frame_out; rw [read_unread_whole]
  exact pay3_at _ _ _ r l

/-- The points of a run. -/
def pt (t : Fin cfg0.N) (s : Fin 4) : Fin cfg0.N :=
  ⟨4 * (t.val / 4) + s.val, lt_of_lt_of_eq (by have := (idx t).2.2.2; have := s.isLt; omega : _ < 8) N_0.symm⟩

/-- The last point of a run writes the sum of the run's shares. -/
theorem out_last (c : Dev nD) (t : Fin cfg0.N) (h : t.val % 4 = 3) (r : Fin 1536) (l : Fin 1024) :
    (outsAt0 m c t.val t.isLt).1 (ix2 r l) = ∑ s : Fin 4, part m c (pt t s) r l := by
  have e : ∀ (n n' : ℕ) (hn : n < cfg0.N) (hn' : n' < cfg0.N), n = n' → outsAt0 m c n hn = outsAt0 m c n' hn' := by
    intro n n' hn hn' q; subst q; rfl
  have p3 : pt t 3 = t := Fin.ext (by show 4 * (t.val / 4) + 3 = t.val; omega)
  rw [sum_last m c t h, e (t.val - 1) (pt t 2).val _ (pt t 2).isLt (by show t.val - 1 = 4 * (t.val / 4) + 2; omega),
    sum_later m c (pt t 2) (by show 1 ≤ (4 * (t.val / 4) + 2) % 4 ∧ (4 * (t.val / 4) + 2) % 4 ≤ 2; omega),
    e ((pt t 2).val - 1) (pt t 1).val _ (pt t 1).isLt (by show 4 * (t.val / 4) + 2 - 1 = 4 * (t.val / 4) + 1; omega),
    sum_later m c (pt t 1) (by show 1 ≤ (4 * (t.val / 4) + 1) % 4 ∧ (4 * (t.val / 4) + 1) % 4 ≤ 2; omega),
    e ((pt t 1).val - 1) (pt t 0).val _ (pt t 0).isLt (by show 4 * (t.val / 4) + 1 - 1 = 4 * (t.val / 4) + 0; omega),
    sum_first m c (pt t 0) (by show (4 * (t.val / 4) + 0) % 4 = 0; omega), Fin.sum_univ_four, p3]

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 1536) (l : Fin 1024), y = ix2 r l := ⟨y 0, y 1, by blk_ext⟩
  refine (out_last m c t h r l).trans ?_
  unfold prod part
  refine Fin.sum_mul_add_congr fun s k hl => ?_
  have q : (pt t s).val = 4 * (t.val / 4) + s.val := rfl
  have hs := s.isLt
  blk_point [iblk, V, idx t, idx (pt t s), q]

end Cert.Kernel9Ideal.Blk

namespace Cert.Reference9Ideal.Ref
open Idealize.ShloMosaic Idealize.ShloMosaic.TcCoe Idealize.SL.Sem
open Cert.Reference9Ideal Cert.Reference9Ideal.Read

/-- The reference's gradient of the projection, transposed, is that product. -/
theorem ref_eq (x : FVec Ideal Cert.Kernel9Ideal.S4096x3072 .bf16) (y : FVec Ideal Cert.Kernel9Ideal.S4096x1024 .bf16) :
    val_main_v6 (F := Ideal) x y = Cert.Kernel9Ideal.Blk.prod x y := by
  funext i
  obtain ⟨r, l, rfl⟩ : ∃ (r : Fin 3072) (l : Fin 1024), i = ix2 r l := ⟨i 0, i 1, by blk_ext⟩
  unfold Cert.Kernel9Ideal.Blk.prod
  rw [val_main_v6_apply, val_main_v5_apply, val_main_v4_apply]
  refine Finset.sum_congr rfl fun k _ => ?_
  rw [val_main_v3_apply, val_main_v1_apply]
  exact congrArg₂ (fun a b : EReal => a * b) (congrArg x (by blk_ext)) (congrArg y (by blk_ext))

end Cert.Reference9Ideal.Ref
end
-- ==== Proof.OutProj0.lean ====
module

public import Idealize.ShloMosaic.Lib.Pointwise
public import Idealize.ShloMosaic.Lib.Pipeline.ValueKit
public import Idealize.ShloMosaic.Lib.Pipeline.ReadBack
public import proofs.«01_k».proof.Proof.Gen.Kernel10Ideal.Value
public import proofs.«01_k».proof.Proof.Gen.Reference10Ideal.Run
public import proofs.«01_k».proof.Proof.Gen.Reference10Ideal.Read

@[expose] public section
set_option maxRecDepth 16384

noncomputable section
namespace Cert.Kernel10Ideal.Blk
open Idealize.ShloMosaic Idealize.ShloMosaic.TcCoe Idealize.SL.Sem
open Cert.Kernel10Ideal Cert.Kernel10Ideal.Gen
variable (m : (ℓ : Loc nD τ sig) → Buf (Elt Ideal) ℓ)

/-- The product of the first two arguments. -/
def prod (x : FVec Ideal S4096x1024 .bf16) (w : FVec Ideal S1024x1024 .bf16) (r : Fin 4096) (l : Fin 1024) : EReal :=
  ∑ k : Fin 1024, x (ix2 r k) * w (ix2 k l)

/-- The projection. -/
def outz (x : FVec Ideal S4096x1024 .bf16) (w : FVec Ideal S1024x1024 .bf16) : FVec Ideal S4096x1024 .bf16 :=
  fun i => prod x w (i 0) (i 1)

/-- The residual plus the gated projection. -/
def outx (x : FVec Ideal S4096x1024 .bf16) (w : FVec Ideal S1024x1024 .bf16) (u : FVec Ideal S4096x1024 .f32) (g : FVec Ideal S1x1024 .f32) :
    FVec Ideal S4096x1024 .f32 :=
  fun i => u (ix2 (i 0) (i 1)) + g (ix2 (0 : Fin 1) (i 1)) * prod x w (i 0) (i 1)

/-- A block's projection. -/
theorem pay2_at (x : FVec Ideal S1024x1024 .bf16) (w : FVec Ideal S1024x1024 .bf16) (r l : Fin 1024) :
    k0_pay2 (F := Ideal) x w (ix2 r l) = ∑ k : Fin 1024, x (ix2 r k) * w (ix2 k l) := by
  pointwise [k0_pay2, k0_pay1]

/-- A block's residual plus its gated projection. -/
theorem pay3_at (x : FVec Ideal S1024x1024 .bf16) (w : FVec Ideal S1024x1024 .bf16) (u : FVec Ideal S1024x1024 .f32) (g : FVec Ideal S1x1024 .f32)
    (r l : Fin 1024) : k0_pay3 (F := Ideal) x w u g (ix2 r l)
      = u (ix2 r l) + g (ix2 (0 : Fin 1) l) * ∑ k : Fin 1024, x (ix2 r k) * w (ix2 k l) := by
  pointwise [k0_pay3, k0_pay1]

/-- Where each window's block lies at each grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ t.val < 4 :=
  (by decide +kernel : ∀ t : Fin grid0.N, _)

/-- The projection's array after the run. -/
theorem final_z (c : Dev nD) : (dats m 0 c).arrAt 4 cfg0.N
    = outz (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, l, rfl⟩ : ∃ (r : Fin 1024) (l : Fin 1024), y = ix2 r l := ⟨y 0, y 1, by blk_ext⟩
  frame_out
  refine (pay2_at _ _ r l).trans ?_
  unfold outz prod
  refine Fin.sum_fin_congr fun k => ?_
  blk_point [iblk, V, idx t]

/-- The residual's array after the run. -/
theorem final_x (c : Dev nD) : (dats m 0 c).arrAt 5 cfg0.N
    = outx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, l, rfl⟩ : ∃ (r : Fin 1024) (l : Fin 1024), y = ix2 r l := ⟨y 0, y 1, by blk_ext⟩
  frame_out
  refine (pay3_at _ _ _ _ r l).trans ?_
  unfold outx prod
  refine congrArg₂ (fun a b : EReal => a + b) ?_ (congrArg₂ (fun a b : EReal => a * b) ?_ (Fin.sum_fin_congr fun k => ?_))
  · blk_point [iblk, V, idx t]
  · blk_point [iblk, V, idx t]
  · blk_point [iblk, V, idx t]

end Cert.Kernel10Ideal.Blk

namespace Cert.Reference10Ideal.Ref
open Idealize.ShloMosaic Idealize.ShloMosaic.TcCoe Idealize.SL.Sem
open Cert.Reference10Ideal Cert.Reference10Ideal.Read

/-- The reference's product before its cast. -/
theorem ref_prod (x : FVec Ideal Cert.Kernel10Ideal.S4096x1024 .bf16) (w : FVec Ideal Cert.Kernel10Ideal.S1024x1024 .bf16) (r : Fin 4096) (l : Fin 1024) :
    val_main_v2 (F := Ideal) x w (ix2 r l) = Cert.Kernel10Ideal.Blk.prod x w r l := by
  unfold Cert.Kernel10Ideal.Blk.prod
  rw [val_main_v2_apply]
  refine Finset.sum_congr rfl fun k _ => ?_
  rw [val_main_v0_apply, val_main_v1_apply]
  exact congrArg₂ (fun a b : EReal => a * b) (congrArg x (by blk_ext)) (congrArg w (by blk_ext))

/-- The reference's projection is that product. -/
theorem ref_z (x : FVec Ideal Cert.Kernel10Ideal.S4096x1024 .bf16) (w : FVec Ideal Cert.Kernel10Ideal.S1024x1024 .bf16) :
    val_main_v3 (F := Ideal) x w = Cert.Kernel10Ideal.Blk.outz x w := by
  funext i
  obtain ⟨r, l, rfl⟩ : ∃ (r : Fin 4096) (l : Fin 1024), i = ix2 r l := ⟨i 0, i 1, by blk_ext⟩
  rw [val_main_v3_apply, ref_prod]
  rfl

/-- The reference's residual is that sum. -/
theorem ref_x (x : FVec Ideal Cert.Kernel10Ideal.S4096x1024 .bf16) (w : FVec Ideal Cert.Kernel10Ideal.S1024x1024 .bf16) (u : FVec Ideal Cert.Kernel10Ideal.S4096x1024 .f32) (g : FVec Ideal Cert.Kernel10Ideal.S1x1024 .f32) :
    val_main_v6 (F := Ideal) x w u g = Cert.Kernel10Ideal.Blk.outx x w u g := by
  funext i
  obtain ⟨r, l, rfl⟩ : ∃ (r : Fin 4096) (l : Fin 1024), i = ix2 r l := ⟨i 0, i 1, by blk_ext⟩
  rw [val_main_v6_apply, val_main_v5_apply, val_main_v4_apply, ref_prod]
  exact congrArg (fun a : EReal => u (ix2 r l) + a * Cert.Kernel10Ideal.Blk.prod x w r l) (congrArg g (by blk_ext))

end Cert.Reference10Ideal.Ref
end
-- ==== Proof.OutProj1.lean ====
module

public import Idealize.ShloMosaic.Lib.Pointwise
public import Idealize.ShloMosaic.Lib.Pipeline.ValueKit
public import Idealize.ShloMosaic.Lib.Pipeline.ReadBack
public import proofs.«01_k».proof.Proof.Gen.Kernel11Ideal.Value
public import proofs.«01_k».proof.Proof.Gen.Reference11Ideal.Run
public import proofs.«01_k».proof.Proof.Gen.Reference11Ideal.Read

@[expose] public section
set_option maxRecDepth 16384

noncomputable section
namespace Cert.Kernel11Ideal.Blk
open Idealize.ShloMosaic Idealize.ShloMosaic.TcCoe Idealize.SL.Sem
open Cert.Kernel11Ideal Cert.Kernel11Ideal.Gen
variable (m : (ℓ : Loc nD τ sig) → Buf (Elt Ideal) ℓ)

/-- The product of the first two arguments. -/
def prod (x : FVec Ideal S4096x1024 .f32) (w : FVec Ideal S1024x1024 .bf16) (r : Fin 4096) (l : Fin 1024) : EReal :=
  ∑ k : Fin 1024, x (ix2 r k) * w (ix2 k l)

/-- The projection. -/
def outz (x : FVec Ideal S4096x1024 .f32) (w : FVec Ideal S1024x1024 .bf16) : FVec Ideal S4096x1024 .bf16 :=
  fun i => prod x w (i 0) (i 1)

/-- The residual plus the gated projection. -/
def outx (x : FVec Ideal S4096x1024 .f32) (w : FVec Ideal S1024x1024 .bf16) (u : FVec Ideal S4096x1024 .f32) (g : FVec Ideal S1x1024 .f32) :
    FVec Ideal S4096x1024 .f32 :=
  fun i => u (ix2 (i 0) (i 1)) + g (ix2 (0 : Fin 1) (i 1)) * prod x w (i 0) (i 1)

/-- A block's projection. -/
theorem pay2_at (x : FVec Ideal S1024x1024 .f32) (w : FVec Ideal S1024x1024 .bf16) (r l : Fin 1024) :
    k0_pay2 (F := Ideal) x w (ix2 r l) = ∑ k : Fin 1024, x (ix2 r k) * w (ix2 k l) := by
  pointwise [k0_pay2, k0_pay1]

/-- A block's residual plus its gated projection. -/
theorem pay3_at (x : FVec Ideal S1024x1024 .f32) (w : FVec Ideal S1024x1024 .bf16) (u : FVec Ideal S1024x1024 .f32) (g : FVec Ideal S1x1024 .f32)
    (r l : Fin 1024) : k0_pay3 (F := Ideal) x w u g (ix2 r l)
      = u (ix2 r l) + g (ix2 (0 : Fin 1) l) * ∑ k : Fin 1024, x (ix2 r k) * w (ix2 k l) := by
  pointwise [k0_pay3, k0_pay1]

/-- Where each window's block lies at each grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ t.val < 4 :=
  (by decide +kernel : ∀ t : Fin grid0.N, _)

/-- The projection's array after the run. -/
theorem final_z (c : Dev nD) : (dats m 0 c).arrAt 4 cfg0.N
    = outz (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, l, rfl⟩ : ∃ (r : Fin 1024) (l : Fin 1024), y = ix2 r l := ⟨y 0, y 1, by blk_ext⟩
  frame_out
  refine (pay2_at _ _ r l).trans ?_
  unfold outz prod
  refine Fin.sum_fin_congr fun k => ?_
  blk_point [iblk, V, idx t]

/-- The residual's array after the run. -/
theorem final_x (c : Dev nD) : (dats m 0 c).arrAt 5 cfg0.N
    = outx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, l, rfl⟩ : ∃ (r : Fin 1024) (l : Fin 1024), y = ix2 r l := ⟨y 0, y 1, by blk_ext⟩
  frame_out
  refine (pay3_at _ _ _ _ r l).trans ?_
  unfold outx prod
  refine congrArg₂ (fun a b : EReal => a + b) ?_ (congrArg₂ (fun a b : EReal => a * b) ?_ (Fin.sum_fin_congr fun k => ?_))
  · blk_point [iblk, V, idx t]
  · blk_point [iblk, V, idx t]
  · blk_point [iblk, V, idx t]

end Cert.Kernel11Ideal.Blk

namespace Cert.Reference11Ideal.Ref
open Idealize.ShloMosaic Idealize.ShloMosaic.TcCoe Idealize.SL.Sem
open Cert.Reference11Ideal Cert.Reference11Ideal.Read

/-- The reference's product before its cast. -/
theorem ref_prod (x : FVec Ideal Cert.Kernel11Ideal.S4096x1024 .f32) (w : FVec Ideal Cert.Kernel11Ideal.S1024x1024 .bf16) (r : Fin 4096) (l : Fin 1024) :
    val_main_v1 (F := Ideal) x w (ix2 r l) = Cert.Kernel11Ideal.Blk.prod x w r l := by
  unfold Cert.Kernel11Ideal.Blk.prod
  rw [val_main_v1_apply]
  refine Finset.sum_congr rfl fun k _ => ?_
  rw [val_main_v0_apply]
  exact congrArg₂ (fun a b : EReal => a * b) (congrArg x (by blk_ext)) (congrArg w (by blk_ext))

/-- The reference's projection is that product. -/
theorem ref_z (x : FVec Ideal Cert.Kernel11Ideal.S4096x1024 .f32) (w : FVec Ideal Cert.Kernel11Ideal.S1024x1024 .bf16) :
    val_main_v2 (F := Ideal) x w = Cert.Kernel11Ideal.Blk.outz x w := by
  funext i
  obtain ⟨r, l, rfl⟩ : ∃ (r : Fin 4096) (l : Fin 1024), i = ix2 r l := ⟨i 0, i 1, by blk_ext⟩
  rw [val_main_v2_apply, ref_prod]
  rfl

/-- The reference's residual is that sum. -/
theorem ref_x (x : FVec Ideal Cert.Kernel11Ideal.S4096x1024 .f32) (w : FVec Ideal Cert.Kernel11Ideal.S1024x1024 .bf16) (u : FVec Ideal Cert.Kernel11Ideal.S4096x1024 .f32) (g : FVec Ideal Cert.Kernel11Ideal.S1x1024 .f32) :
    val_main_v5 (F := Ideal) x w u g = Cert.Kernel11Ideal.Blk.outx x w u g := by
  funext i
  obtain ⟨r, l, rfl⟩ : ∃ (r : Fin 4096) (l : Fin 1024), i = ix2 r l := ⟨i 0, i 1, by blk_ext⟩
  rw [val_main_v5_apply, val_main_v4_apply, val_main_v3_apply, ref_prod]
  exact congrArg (fun a : EReal => u (ix2 r l) + a * Cert.Kernel11Ideal.Blk.prod x w r l) (congrArg g (by blk_ext))

end Cert.Reference11Ideal.Ref
end
-- ==== Proof.OutDw0.lean ====
module

public import Idealize.ShloMosaic.Lib.Pointwise
public import Idealize.ShloMosaic.Lib.Pipeline.ValueKit
public import Idealize.ShloMosaic.Lib.Pipeline.ReadBack
public import proofs.«01_k».proof.Proof.Gen.Kernel12Ideal.Value
public import proofs.«01_k».proof.Proof.Gen.Reference12Ideal.Run
public import proofs.«01_k».proof.Proof.Gen.Reference12Ideal.Read

@[expose] public section
set_option maxRecDepth 16384

noncomputable section
namespace Cert.Kernel12Ideal.Blk
open Idealize.ShloMosaic Idealize.ShloMosaic.TcCoe Idealize.SL.Sem
open Cert.Kernel12Ideal Cert.Kernel12Ideal.Gen
variable (m : (ℓ : Loc nD τ sig) → Buf (Elt Ideal) ℓ)

/-- The call's first argument. -/
abbrev X (c : Dev nD) : FVec Ideal S4096x1024 .bf16 := m ((c : Thread nD τ).loc main_arg0)
/-- The call's second argument. -/
abbrev Y (c : Dev nD) : FVec Ideal S4096x1024 .bf16 := m ((c : Thread nD τ).loc main_arg1)

/-- The product of the transposed first argument with the second. -/
def prod (x : FVec Ideal S4096x1024 .bf16) (y : FVec Ideal S4096x1024 .bf16) : FVec Ideal S1024x1024 .f32 :=
  fun i => ∑ k : Fin 4096, x (ix2 k (⟨(i 0).val, (i 0).isLt⟩ : Fin 1024)) * y (ix2 k (⟨(i 1).val, (i 1).isLt⟩ : Fin 1024))

/-- The first block's product. -/
theorem pay1_at (x : FVec Ideal S1024x1024 .bf16) (y : FVec Ideal S1024x1024 .bf16) (r : Fin 1024) (l : Fin 1024) :
    k0_pay1 (F := Ideal) x y (ix2 r l) = ∑ k : Fin 1024, x (ix2 k r) * y (ix2 k l) := by
  pointwise [k0_pay1]

/-- The carried sum plus a block's product. -/
theorem pay2_at (a : FVec Ideal S1024x1024 .f32) (x : FVec Ideal S1024x1024 .bf16) (y : FVec Ideal S1024x1024 .bf16) (r : Fin 1024) (l : Fin 1024) :
    k0_pay2 (F := Ideal) a x y (ix2 r l) = a (ix2 r l) + ∑ k : Fin 1024, x (ix2 k r) * y (ix2 k l) := by
  pointwise [k0_pay2]

/-- The carried sum plus the last block's product. -/
theorem pay3_at (a : FVec Ideal S1024x1024 .f32) (x : FVec Ideal S1024x1024 .bf16) (y : FVec Ideal S1024x1024 .bf16) (r : Fin 1024) (l : Fin 1024) :
    k0_pay3 (F := Ideal) a x y (ix2 r l) = a (ix2 r l) + ∑ k : Fin 1024, x (ix2 k r) * y (ix2 k l) := by
  pointwise [k0_pay3]

/-- Where each window's block lies at each grid point. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

/-- A grid point's share of the product. -/
def part (c : Dev nD) (t : Fin cfg0.N) (r : Fin 1024) (l : Fin 1024) : EReal :=
  (fun (x : FVec Ideal S1024x1024 .bf16) (y : FVec Ideal S1024x1024 .bf16) => ∑ k : Fin 1024, x (ix2 k r) * y (ix2 k l))
    (iblk m c 0 t) (iblk m c 1 t)

/-- The first point of a run leaves its share. -/
theorem sum_first (c : Dev nD) (t : Fin cfg0.N) (h : t.val % 4 = 0) (r : Fin 1024) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 1024) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point writes the carried sum plus its share. -/
theorem sum_last (c : Dev nD) (t : Fin cfg0.N) (h : t.val % 4 = 3) (r : Fin 1024) (l : Fin 1024) :
    (outsAt0 m c t.val t.isLt).1 (ix2 r l)
      = (outsAt0 m c (t.val - 1) (Nat.lt_of_le_of_lt (Nat.sub_le _ _) t.isLt)).2 (ix2 r l) + part m c t r l := by
  rw [outsAt0_C m c t (by omega) (by omega) h]; dsimp only; frame_out; rw [read_unread_whole]
  exact pay3_at _ _ _ r l

/-- The points of a run. -/
def pt (t : Fin cfg0.N) (s : Fin 4) : Fin cfg0.N :=
  ⟨4 * (t.val / 4) + s.val, lt_of_lt_of_eq (by have := (idx t).2.2.2; have := s.isLt; omega : _ < 4) N_0.symm⟩

/-- The last point of a run writes the sum of the run's shares. -/
theorem out_last (c : Dev nD) (t : Fin cfg0.N) (h : t.val % 4 = 3) (r : Fin 1024) (l : Fin 1024) :
    (outsAt0 m c t.val t.isLt).1 (ix2 r l) = ∑ s : Fin 4, part m c (pt t s) r l := by
  have e : ∀ (n n' : ℕ) (hn : n < cfg0.N) (hn' : n' < cfg0.N), n = n' → outsAt0 m c n hn = outsAt0 m c n' hn' := by
    intro n n' hn hn' q; subst q; rfl
  have p3 : pt t 3 = t := Fin.ext (by show 4 * (t.val / 4) + 3 = t.val; omega)
  rw [sum_last m c t h, e (t.val - 1) (pt t 2).val _ (pt t 2).isLt (by show t.val - 1 = 4 * (t.val / 4) + 2; omega),
    sum_later m c (pt t 2) (by show 1 ≤ (4 * (t.val / 4) + 2) % 4 ∧ (4 * (t.val / 4) + 2) % 4 ≤ 2; omega),
    e ((pt t 2).val - 1) (pt t 1).val _ (pt t 1).isLt (by show 4 * (t.val / 4) + 2 - 1 = 4 * (t.val / 4) + 1; omega),
    sum_later m c (pt t 1) (by show 1 ≤ (4 * (t.val / 4) + 1) % 4 ∧ (4 * (t.val / 4) + 1) % 4 ≤ 2; omega),
    e ((pt t 1).val - 1) (pt t 0).val _ (pt t 0).isLt (by show 4 * (t.val / 4) + 1 - 1 = 4 * (t.val / 4) + 0; omega),
    sum_first m c (pt t 0) (by show (4 * (t.val / 4) + 0) % 4 = 0; omega), Fin.sum_univ_four, p3]

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 1024) (l : Fin 1024), y = ix2 r l := ⟨y 0, y 1, by blk_ext⟩
  refine (out_last m c t h r l).trans ?_
  unfold prod part
  refine Fin.sum_mul_add_congr fun s k hl => ?_
  have q : (pt t s).val = 4 * (t.val / 4) + s.val := rfl
  have hs := s.isLt
  blk_point [iblk, V, idx t, idx (pt t s), q]

end Cert.Kernel12Ideal.Blk

namespace Cert.Reference12Ideal.Ref
open Idealize.ShloMosaic Idealize.ShloMosaic.TcCoe Idealize.SL.Sem
open Cert.Reference12Ideal Cert.Reference12Ideal.Read

/-- The reference's gradient of the output projection is that product. -/
theorem ref_eq (x : FVec Ideal Cert.Kernel12Ideal.S4096x1024 .bf16) (y : FVec Ideal Cert.Kernel12Ideal.S4096x1024 .bf16) :
    val_main_v5 (F := Ideal) x y = Cert.Kernel12Ideal.Blk.prod x y := by
  funext i
  obtain ⟨r, l, rfl⟩ : ∃ (r : Fin 1024) (l : Fin 1024), i = ix2 r l := ⟨i 0, i 1, by blk_ext⟩
  unfold Cert.Kernel12Ideal.Blk.prod
  rw [val_main_v5_apply, val_main_v4_apply]
  refine Finset.sum_congr rfl fun k _ => ?_
  rw [val_main_v3_apply, val_main_v1_apply]
  exact (congrArg₂ (fun a b : EReal => a * b) (congrArg y (by blk_ext)) (congrArg x (by blk_ext))).trans (mul_comm (G := EReal) _ _)

end Cert.Reference12Ideal.Ref
end
-- ==== Proof.OutDw1.lean ====
module

public import Idealize.ShloMosaic.Lib.Pointwise
public import Idealize.ShloMosaic.Lib.Pipeline.ValueKit
public import Idealize.ShloMosaic.Lib.Pipeline.ReadBack
public import proofs.«01_k».proof.Proof.Gen.Kernel13Ideal.Value
public import proofs.«01_k».proof.Proof.Gen.Reference13Ideal.Run
public import proofs.«01_k».proof.Proof.Gen.Reference13Ideal.Read

@[expose] public section
set_option maxRecDepth 16384

noncomputable section
namespace Cert.Kernel13Ideal.Blk
open Idealize.ShloMosaic Idealize.ShloMosaic.TcCoe Idealize.SL.Sem
open Cert.Kernel13Ideal Cert.Kernel13Ideal.Gen
variable (m : (ℓ : Loc nD τ sig) → Buf (Elt Ideal) ℓ)

/-- The call's first argument. -/
abbrev X (c : Dev nD) : FVec Ideal S4096x1024 .f32 := m ((c : Thread nD τ).loc main_arg0)
/-- The call's second argument. -/
abbrev Y (c : Dev nD) : FVec Ideal S4096x1024 .bf16 := m ((c : Thread nD τ).loc main_arg1)

/-- The product of the transposed first argument with the second. -/
def prod (x : FVec Ideal S4096x1024 .f32) (y : FVec Ideal S4096x1024 .bf16) : FVec Ideal S1024x1024 .f32 :=
  fun i => ∑ k : Fin 4096, x (ix2 k (⟨(i 0).val, (i 0).isLt⟩ : Fin 1024)) * y (ix2 k (⟨(i 1).val, (i 1).isLt⟩ : Fin 1024))

/-- The first block's product. -/
theorem pay1_at (x : FVec Ideal S1024x1024 .f32) (y : FVec Ideal S1024x1024 .bf16) (r : Fin 1024) (l : Fin 1024) :
    k0_pay1 (F := Ideal) x y (ix2 r l) = ∑ k : Fin 1024, x (ix2 k r) * y (ix2 k l) := by
  pointwise [k0_pay1]

/-- The carried sum plus a block's product. -/
theorem pay2_at (a : FVec Ideal S1024x1024 .f32) (x : FVec Ideal S1024x1024 .f32) (y : FVec Ideal S1024x1024 .bf16) (r : Fin 1024) (l : Fin 1024) :
    k0_pay2 (F := Ideal) a x y (ix2 r l) = a (ix2 r l) + ∑ k : Fin 1024, x (ix2 k r) * y (ix2 k l) := by
  pointwise [k0_pay2]

/-- The carried sum plus the last block's product. -/
theorem pay3_at (a : FVec Ideal S1024x1024 .f32) (x : FVec Ideal S1024x1024 .f32) (y : FVec Ideal S1024x1024 .bf16) (r : Fin 1024) (l : Fin 1024) :
    k0_pay3 (F := Ideal) a x y (ix2 r l) = a (ix2 r l) + ∑ k : Fin 1024, x (ix2 k r) * y (ix2 k l) := by
  pointwise [k0_pay3]

/-- Where each window's block lies at each grid point. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

/-- A grid point's share of the product. -/
def part (c : Dev nD) (t : Fin cfg0.N) (r : Fin 1024) (l : Fin 1024) : EReal :=
  (fun (x : FVec Ideal S1024x1024 .f32) (y : FVec Ideal S1024x1024 .bf16) => ∑ k : Fin 1024, x (ix2 k r) * y (ix2 k l))
    (iblk m c 0 t) (iblk m c 1 t)

/-- The first point of a run leaves its share. -/
theorem sum_first (c : Dev nD) (t : Fin cfg0.N) (h : t.val % 4 = 0) (r : Fin 1024) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 1024) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point writes the carried sum plus its share. -/
theorem sum_last (c : Dev nD) (t : Fin cfg0.N) (h : t.val % 4 = 3) (r : Fin 1024) (l : Fin 1024) :
    (outsAt0 m c t.val t.isLt).1 (ix2 r l)
      = (outsAt0 m c (t.val - 1) (Nat.lt_of_le_of_lt (Nat.sub_le _ _) t.isLt)).2 (ix2 r l) + part m c t r l := by
  rw [outsAt0_C m c t (by omega) (by omega) h]; dsimp only; frame_out; rw [read_unread_whole]
  exact pay3_at _ _ _ r l

/-- The points of a run. -/
def pt (t : Fin cfg0.N) (s : Fin 4) : Fin cfg0.N :=
  ⟨4 * (t.val / 4) + s.val, lt_of_lt_of_eq (by have := (idx t).2.2.2; have := s.isLt; omega : _ < 4) N_0.symm⟩

/-- The last point of a run writes the sum of the run's shares. -/
theorem out_last (c : Dev nD) (t : Fin cfg0.N) (h : t.val % 4 = 3) (r : Fin 1024) (l : Fin 1024) :
    (outsAt0 m c t.val t.isLt).1 (ix2 r l) = ∑ s : Fin 4, part m c (pt t s) r l := by
  have e : ∀ (n n' : ℕ) (hn : n < cfg0.N) (hn' : n' < cfg0.N), n = n' → outsAt0 m c n hn = outsAt0 m c n' hn' := by
    intro n n' hn hn' q; subst q; rfl
  have p3 : pt t 3 = t := Fin.ext (by show 4 * (t.val / 4) + 3 = t.val; omega)
  rw [sum_last m c t h, e (t.val - 1) (pt t 2).val _ (pt t 2).isLt (by show t.val - 1 = 4 * (t.val / 4) + 2; omega),
    sum_later m c (pt t 2) (by show 1 ≤ (4 * (t.val / 4) + 2) % 4 ∧ (4 * (t.val / 4) + 2) % 4 ≤ 2; omega),
    e ((pt t 2).val - 1) (pt t 1).val _ (pt t 1).isLt (by show 4 * (t.val / 4) + 2 - 1 = 4 * (t.val / 4) + 1; omega),
    sum_later m c (pt t 1) (by show 1 ≤ (4 * (t.val / 4) + 1) % 4 ∧ (4 * (t.val / 4) + 1) % 4 ≤ 2; omega),
    e ((pt t 1).val - 1) (pt t 0).val _ (pt t 0).isLt (by show 4 * (t.val / 4) + 1 - 1 = 4 * (t.val / 4) + 0; omega),
    sum_first m c (pt t 0) (by show (4 * (t.val / 4) + 0) % 4 = 0; omega), Fin.sum_univ_four, p3]

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 1024) (l : Fin 1024), y = ix2 r l := ⟨y 0, y 1, by blk_ext⟩
  refine (out_last m c t h r l).trans ?_
  unfold prod part
  refine Fin.sum_mul_add_congr fun s k hl => ?_
  have q : (pt t s).val = 4 * (t.val / 4) + s.val := rfl
  have hs := s.isLt
  blk_point [iblk, V, idx t, idx (pt t s), q]

end Cert.Kernel13Ideal.Blk

namespace Cert.Reference13Ideal.Ref
open Idealize.ShloMosaic Idealize.ShloMosaic.TcCoe Idealize.SL.Sem
open Cert.Reference13Ideal Cert.Reference13Ideal.Read

/-- The reference's gradient of the output projection is that product. -/
theorem ref_eq (x : FVec Ideal Cert.Kernel13Ideal.S4096x1024 .f32) (y : FVec Ideal Cert.Kernel13Ideal.S4096x1024 .bf16) :
    val_main_v4 (F := Ideal) x y = Cert.Kernel13Ideal.Blk.prod x y := by
  funext i
  obtain ⟨r, l, rfl⟩ : ∃ (r : Fin 1024) (l : Fin 1024), i = ix2 r l := ⟨i 0, i 1, by blk_ext⟩
  unfold Cert.Kernel13Ideal.Blk.prod
  rw [val_main_v4_apply, val_main_v3_apply]
  refine Finset.sum_congr rfl fun k _ => ?_
  rw [val_main_v2_apply]
  exact (congrArg₂ (fun a b : EReal => a * b) (congrArg y (by blk_ext)) (congrArg x (by blk_ext))).trans (mul_comm (G := EReal) _ _)

end Cert.Reference13Ideal.Ref
end
-- ==== Proof.OutDx.lean ====
module

public import Idealize.ShloMosaic.Lib.Pointwise
public import Idealize.ShloMosaic.Lib.Pipeline.ValueKit
public import Idealize.ShloMosaic.Lib.Pipeline.ReadBack
public import proofs.«01_k».proof.Proof.Gen.Kernel14Ideal.Value
public import proofs.«01_k».proof.Proof.Gen.Reference14Ideal.Run
public import proofs.«01_k».proof.Proof.Gen.Reference14Ideal.Read

@[expose] public section
set_option maxRecDepth 16384

noncomputable section
namespace Cert.Kernel14Ideal.Blk
open Idealize.ShloMosaic Idealize.ShloMosaic.TcCoe Idealize.SL.Sem
open Cert.Kernel14Ideal Cert.Kernel14Ideal.Gen
variable (m : (ℓ : Loc nD τ sig) → Buf (Elt Ideal) ℓ)

/-- The product of the first argument with the transposed second. -/
def prod (x : FVec Ideal S4096x1024 .bf16) (w : FVec Ideal S1024x1024 .bf16) : FVec Ideal S4096x1024 .f32 :=
  fun i => ∑ k : Fin 1024, x (ix2 (⟨(i 0).val, (i 0).isLt⟩ : Fin 4096) k) * w (ix2 (⟨(i 1).val, (i 1).isLt⟩ : Fin 1024) k)

/-- A block's product. -/
theorem pay1_at (x : FVec Ideal S2048x1024 .bf16) (w : FVec Ideal S1024x1024 .bf16) (r : Fin 2048) (l : Fin 1024) :
    k0_pay1 (F := Ideal) x w (ix2 r l) = ∑ k : Fin 1024, x (ix2 r k) * w (ix2 l k) := by
  pointwise [k0_pay1]

/-- Where each window's block lies at each grid point. -/
theorem idx : ∀ t : Fin cfg0.N, win0_0.index t = ![t.val, 0] ∧ win0_1.index t = ![0, 0] ∧ win0_2.index t = ![t.val, 0] ∧ t.val < 2 :=
  (by decide +kernel : ∀ t : Fin grid0.N, _)

/-- The array after the run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ (r : Fin 2048) (l : Fin 1024), y = ix2 r l := ⟨y 0, y 1, by blk_ext⟩
  frame_out
  refine (pay1_at _ _ r l).trans ?_
  unfold prod
  refine Fin.sum_fin_congr fun k => ?_
  blk_point [iblk, V, idx t]

end Cert.Kernel14Ideal.Blk

namespace Cert.Reference14Ideal.Ref
open Idealize.ShloMosaic Idealize.ShloMosaic.TcCoe Idealize.SL.Sem
open Cert.Reference14Ideal Cert.Reference14Ideal.Read

/-- The reference's gradient is that product. -/
theorem ref_eq (x : FVec Ideal Cert.Kernel14Ideal.S4096x1024 .bf16) (w : FVec Ideal Cert.Kernel14Ideal.S1024x1024 .bf16) :
    val_main_v4 (F := Ideal) x w = Cert.Kernel14Ideal.Blk.prod x w := by
  funext i
  obtain ⟨r, l, rfl⟩ : ∃ (r : Fin 4096) (l : Fin 1024), i = ix2 r l := ⟨i 0, i 1, by blk_ext⟩
  unfold Cert.Kernel14Ideal.Blk.prod
  rw [val_main_v4_apply]
  refine Finset.sum_congr rfl fun k _ => ?_
  rw [val_main_v3_apply, val_main_v1_apply]
  exact congrArg₂ (fun a b : EReal => a * b) (congrArg x (by blk_ext)) (congrArg w (by blk_ext))

end Cert.Reference14Ideal.Ref
end
-- ==== Proof.NormSpec.lean ====
module

public import Idealize.ShloMosaic.Lib.Pointwise

/-! A row scaled to mean square one, and the gradient of that scaling. -/

@[expose] public section

noncomputable section
namespace Cert.Norm
open Idealize.ShloMosaic

/-- The constant added to the mean square. -/
def eps : EReal := Ideal.ofBits .f32 0x358637BD#32
/-- One. -/
def one : EReal := Ideal.ofBits .f32 0x3F800000#32
/-- The length of a row. -/
def len : EReal := Ideal.ofBits .f32 0x44800000#32
/-- Minus one half. -/
def mhalf : EReal := Ideal.ofBits .f32 0xBF000000#32

variable {ι : Type} [Fintype ι]

/-- The mean square of a row plus the constant. -/
def meanSq (n : EReal) (x : ι → EReal) : EReal := Ideal.div (∑ j, x j * x j) n + eps

/-- The factor that scales the row. -/
def scl (n : EReal) (x : ι → EReal) : EReal := Ideal.rsqrt (meanSq n x)

/-- The gradient of the scaled row in the row, at the cotangent `d`. -/
def grad (n : EReal) (x d : ι → EReal) (j : ι) : EReal :=
  scl n x * (d j - x j * scl n x * Ideal.div (∑ k, d k * (x k * scl n x)) n)

/-- The added constant is a positive number. -/
theorem eps_pos : ∃ e : ℝ, 0 < e ∧ eps = ↑e := by
  refine ⟨_, ?_, by unfold eps; simp [Ideal.ofBits, Ideal.ieee, -EReal.coe_mul]; rfl⟩
  norm_num

theorem one_eq : one = ((1 : ℝ) : EReal) := by
  unfold one; simp [Ideal.ofBits, Ideal.ieee, -EReal.coe_mul]; norm_num

theorem len_eq : len = ((1024 : ℝ) : EReal) := by
  unfold len; simp [Ideal.ofBits, Ideal.ieee, -EReal.coe_mul]; norm_num

theorem mhalf_eq : mhalf = ((-(1 / 2) : ℝ) : EReal) := by
  unfold mhalf; simp [Ideal.ofBits, Ideal.ieee, -EReal.coe_mul]; norm_num

/-- A sum of real numbers. -/
theorem coe_sum (f : ι → ℝ) : (∑ j, (f j : EReal)) = ((∑ j, f j : ℝ) : EReal) := by
  induction (Finset.univ : Finset ι) using Finset.cons_induction with
  | empty => simp
  | cons a s h ih => rw [Finset.sum_cons, Finset.sum_cons, ih, EReal.coe_add]

/-- A quotient of real numbers. -/
theorem coe_div (a n : ℝ) (hn : n ≠ 0) : Ideal.div (a : EReal) (n : EReal) = ((a / n : ℝ) : EReal) := by
  rw [Ideal.div_coe hn, ← EReal.coe_mul]; congr 1; ring

/-- The mean square of a row of real numbers. -/
theorem meanSq_coe (n : ℝ) (hn : 0 < n) (x : ι → ℝ) : ∃ a : ℝ, 0 < a ∧ meanSq (n : EReal) (fun j => (x j : EReal)) = ↑a := by
  obtain ⟨e, he, hE⟩ := eps_pos
  refine ⟨(∑ j, x j * x j) / n + e, add_pos_of_nonneg_of_pos (div_nonneg (Finset.sum_nonneg fun j _ => mul_self_nonneg _) hn.le) he, ?_⟩
  unfold meanSq
  rw [hE, EReal.coe_add, ← coe_div _ _ hn.ne', ← coe_sum]
  simp only [EReal.coe_mul]

/-- The gradient as the chain rule gives it, term by term, is the gradient in closed form. -/
theorem grad_law (n : ℝ) (hn : 0 < n) (x d : ι → ℝ) (j : ι) :
    (d j : EReal) * scl (n : EReal) (fun k => (x k : EReal))
        + (x j : EReal) * Ideal.div ((∑ k, (x k : EReal) * (d k : EReal)) * (mhalf * Ideal.div (scl (n : EReal) (fun k => (x k : EReal))) (meanSq (n : EReal) (fun k => (x k : EReal))))) (n : EReal)
        + Ideal.div ((∑ k, (x k : EReal) * (d k : EReal)) * (mhalf * Ideal.div (scl (n : EReal) (fun k => (x k : EReal))) (meanSq (n : EReal) (fun k => (x k : EReal))))) (n : EReal) * (x j : EReal)
      = grad (n : EReal) (fun k => (x k : EReal)) (fun k => (d k : EReal)) j := by
  obtain ⟨a, ha, hA⟩ := meanSq_coe n hn x
  have hs : scl (n : EReal) (fun k => (x k : EReal)) = (((Real.sqrt a)⁻¹ : ℝ) : EReal) := by
    unfold scl; rw [hA, Ideal.rsqrt_coe, if_neg (not_lt.mpr ha.le), if_neg ha.ne']
  unfold grad
  rw [hs, hA, mhalf_eq, coe_div _ _ ha.ne']
  simp only [← EReal.coe_mul, coe_sum, coe_div _ _ hn.ne', ← EReal.coe_add, ← EReal.coe_sub]
  congr 1
  have hr : Real.sqrt a * Real.sqrt a = a := Real.mul_self_sqrt ha.le
  have hr0 : Real.sqrt a ≠ 0 := (Real.sqrt_pos.mpr ha).ne'
  have e : ∑ k, d k * (x k * (Real.sqrt a)⁻¹) = (∑ k, x k * d k) * (Real.sqrt a)⁻¹ := by
    rw [Finset.sum_mul]; exact Finset.sum_congr rfl fun k _ => by ring
  rw [e]
  generalize ∑ k, x k * d k = S
  generalize Real.sqrt a = q at *
  subst hr
  field_simp
  ring

end Cert.Norm
end
-- ==== Proof.NormMod.lean ====
module

public import Idealize.ShloMosaic.Lib.Pointwise
public import Idealize.ShloMosaic.Lib.Pipeline.ValueKit
public import Idealize.ShloMosaic.Lib.Pipeline.ReadBack
public import proofs.«01_k».proof.Proof.Gen.Kernel16Ideal.Value
public import proofs.«01_k».proof.Proof.Gen.Reference16Ideal.Run
public import proofs.«01_k».proof.Proof.Gen.Reference16Ideal.Read
public import proofs.«01_k».proof.Proof.NormSpec

@[expose] public section
set_option maxRecDepth 16384

noncomputable section
namespace Cert.Kernel16Ideal.Blk
open Idealize.ShloMosaic Idealize.ShloMosaic.TcCoe Idealize.SL.Sem
open Cert.Kernel16Ideal Cert.Kernel16Ideal.Gen Cert.Norm
variable (m : (ℓ : Loc nD τ sig) → Buf (Elt Ideal) ℓ)

/-- The scaled row, times the gain, modulated and shifted. -/
def out (x : FVec Ideal S4096x1024 .f32) (g sc sh : FVec Ideal S1x1024 .f32) : FVec Ideal S4096x1024 .bf16 :=
  fun i => x (ix2 (i 0) (i 1)) * scl len (fun k : Fin 1024 => x (ix2 (i 0) k)) * g (ix2 (0 : Fin 1) (i 1)) * (one + sc (ix2 (0 : Fin 1) (i 1)))
    + sh (ix2 (0 : Fin 1) (i 1))

/-- A block's result. -/
theorem pay1_at (x : FVec Ideal S512x1024 .f32) (g sc sh : FVec Ideal S1x1024 .f32) (r : Fin 512) (l : Fin 1024) :
    k0_pay1 (F := Ideal) x g sc sh (ix2 r l)
      = x (ix2 r l) * scl len (fun k : Fin 1024 => x (ix2 r k)) * g (ix2 (0 : Fin 1) l) * (one + sc (ix2 (0 : Fin 1) l)) + sh (ix2 (0 : Fin 1) l) := by
  unfold scl meanSq len eps one
  pointwise [k0_pay1]

/-- Where each window's block lies at each grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ t.val < 8 :=
  (by decide +kernel : ∀ t : Fin grid0.N, _)

/-- The array after the run. -/
theorem final (c : Dev nD) : (dats m 0 c).arrAt 4 cfg0.N
    = out (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, by blk_ext⟩
  frame_out
  refine (pay1_at _ _ _ _ r l).trans ?_
  unfold out
  blk_point [iblk, V, idx t]

end Cert.Kernel16Ideal.Blk

namespace Cert.Reference16Ideal.Ref
open Idealize.ShloMosaic Idealize.ShloMosaic.TcCoe Idealize.SL.Sem
open Cert.Reference16Ideal Cert.Reference16Ideal.Read Cert.Norm

/-- The reference's factor. -/
theorem ref_inv (x : FVec Ideal Cert.Kernel16Ideal.S4096x1024 .f32) (r : Fin 4096) :
    val_main_v7 (F := Ideal) x (ix2 r (0 : Fin 1)) = scl len (fun k : Fin 1024 => x (ix2 r k)) := by
  rw [val_main_v7_apply, val_main_v6_apply, val_main_v5_apply, val_main_cst_1_apply, val_main_v4_apply, val_main_v3_apply,
    val_main_cst_0_apply, val_main_v2_apply, val_main_v1_apply, val_main_cst_apply]
  unfold scl meanSq
  refine congrArg (fun s : EReal => Ideal.rsqrt (Ideal.div s len + eps)) ?_
  refine (congrArg (fun z : EReal => z + _) Ideal.ofBits_zero_f32).trans ((zero_add _).trans (Finset.sum_congr rfl fun k _ => ?_))
  rw [val_main_v0_apply]
  exact congrArg (fun z : EReal => z * z) (congrArg x (by blk_ext))

/-- The reference's result is that one. -/
theorem ref_eq (x : FVec Ideal Cert.Kernel16Ideal.S4096x1024 .f32) (g sc sh : FVec Ideal Cert.Kernel16Ideal.S1x1024 .f32) :
    val_main_v18 (F := Ideal) x g sc sh = Cert.Kernel16Ideal.Blk.out x g sc sh := by
  funext i
  obtain ⟨r, l, rfl⟩ : ∃ (r : Fin 4096) (l : Fin 1024), i = ix2 r l := ⟨i 0, i 1, by blk_ext⟩
  have e : idx_main_v8 (ix2 r l) = ix2 r (0 : Fin 1) := by blk_ext
  rw [val_main_v18_apply, val_main_v17_apply, val_main_v16_apply, val_main_v15_apply, val_main_v14_apply, val_main_v13_apply,
    val_main_v12_apply, val_main_cst_2_apply, val_main_v11_apply, val_main_v10_apply, val_main_v9_apply, val_main_v8_apply, e, ref_inv]
  have f : idx_main_v10 (ix2 r l) = ix2 (0 : Fin 1) l := by blk_ext
  have f' : idx_main_v14 (ix2 r l) = ix2 (0 : Fin 1) l := by blk_ext
  have f'' : idx_main_v16 (ix2 r l) = ix2 (0 : Fin 1) l := by blk_ext
  rw [f, f', f'']
  rfl

end Cert.Reference16Ideal.Ref
end
-- ==== Proof.RunSum.lean ====
module

public import Idealize.ShloMosaic.Lib.Pointwise

/-! Sums that a grid carries over the points of a run. -/

@[expose] public section

namespace Cert.RunSum

/-- The points of the run of four that a point lies in. -/
def pt {N : ℕ} (hN : 4 ∣ N) (t : Fin N) (s : Fin 4) : Fin N :=
  ⟨4 * (t.val / 4) + s.val, by have := t.isLt; have := s.isLt; omega⟩

/-- Where a run's first point leaves its share and each later one adds its own, the last has the sum of the run's shares. -/
theorem run_sum {N : ℕ} (hN : 4 ∣ N) (acc : (n : ℕ) → n < N → EReal) (part : Fin N → EReal)
    (first : ∀ t : Fin N, t.val % 4 = 0 → acc t.val t.isLt = part t)
    (later : ∀ t : Fin N, 1 ≤ t.val % 4 ∧ t.val % 4 ≤ 2 → acc t.val t.isLt
      = acc (t.val - 1) (Nat.lt_of_le_of_lt (Nat.sub_le _ _) t.isLt) + part t)
    (t : Fin N) (h : t.val % 4 = 3) :
    acc (t.val - 1) (Nat.lt_of_le_of_lt (Nat.sub_le _ _) t.isLt) + part t = ∑ s : Fin 4, part (pt hN t s) := by
  have e : ∀ (n n' : ℕ) (hn : n < N) (hn' : n' < N), n = n' → acc n hn = acc n' hn' := by
    intro n n' hn hn' q; subst q; rfl
  have v : ∀ s, (pt hN t s).val = 4 * (t.val / 4) + s.val := fun _ => rfl
  have p3 : pt hN t 3 = t := Fin.ext (by rw [v]; show 4 * (t.val / 4) + 3 = t.val; omega)
  have v2 : (pt hN t 2).val = 4 * (t.val / 4) + 2 := rfl
  have v1 : (pt hN t 1).val = 4 * (t.val / 4) + 1 := rfl
  have v0 : (pt hN t 0).val = 4 * (t.val / 4) := rfl
  rw [e (t.val - 1) (pt hN t 2).val _ (pt hN t 2).isLt (by omega), later (pt hN t 2) (by omega),
    e ((pt hN t 2).val - 1) (pt hN t 1).val _ (pt hN t 1).isLt (by omega), later (pt hN t 1) (by omega),
    e ((pt hN t 1).val - 1) (pt hN t 0).val _ (pt hN t 0).isLt (by omega), first (pt hN t 0) (by omega), Fin.sum_univ_four, p3]

/-- A sum over both halves of an index range. -/
theorem sum_halves {n : ℕ} (f : Fin (n + n) → EReal) :
    (∑ k : Fin n, f (Fin.castAdd n k)) + ∑ k : Fin n, f (Fin.natAdd n k) = ∑ k : Fin (n + n), f k :=
  (Fin.sum_univ_add f).symm

end Cert.RunSum
-- ==== Proof.QkvDh.lean ====
module

public import Idealize.ShloMosaic.Lib.Pointwise
public import Idealize.ShloMosaic.Lib.Pipeline.ValueKit
public import Idealize.ShloMosaic.Lib.Pipeline.ReadBack
public import proofs.«01_k».proof.Proof.Gen.Kernel20Ideal.Value
public import proofs.«01_k».proof.Proof.Gen.Reference20Ideal.Run
public import proofs.«01_k».proof.Proof.Gen.Reference20Ideal.Read
public import proofs.«01_k».proof.Proof.RunSum

@[expose] public section
set_option maxRecDepth 16384

noncomputable section
namespace Cert.Kernel20Ideal.Blk
open Idealize.ShloMosaic Idealize.ShloMosaic.TcCoe Idealize.SL.Sem
open Cert.Kernel20Ideal Cert.Kernel20Ideal.Gen Cert.RunSum
variable (m : (ℓ : Loc nD τ sig) → Buf (Elt Ideal) ℓ)

/-- The call's first argument. -/
abbrev X (c : Dev nD) : FVec Ideal S4096x3072 .bf16 := m ((c : Thread nD τ).loc main_arg0)
/-- The call's second argument. -/
abbrev Y (c : Dev nD) : FVec Ideal S8x1x1024x384 .bf16 := m ((c : Thread nD τ).loc main_arg1)

/-- The product of the first argument with the transposed weight whose columns the second holds in eight groups. -/
def prod (x : FVec Ideal S4096x3072 .bf16) (w : FVec Ideal S8x1x1024x384 .bf16) : FVec Ideal S4096x1024 .f32 :=
  fun i => ∑ k : Fin 3072, x (ix2 (⟨(i 0).val, (i 0).isLt⟩ : Fin 4096) k)
    * w (ix4 (⟨k.val / 384, by omega⟩ : Fin 8) (0 : Fin 1) (⟨(i 1).val, (i 1).isLt⟩ : Fin 1024) (⟨k.val % 384, by omega⟩ : Fin 384))

/-- A block's product: its two groups of columns together. -/
def bprod (x : FVec Ideal S2048x768 .bf16) (w : FVec Ideal S2x1x1024x384 .bf16) (r : Fin 2048) (l : Fin 1024) : EReal :=
  ∑ k : Fin 768, x (ix2 r k) * w (ix4 (⟨k.val / 384, by omega⟩ : Fin 2) (0 : Fin 1) l (⟨k.val % 384, by omega⟩ : Fin 384))

/-- The first group's sum and the second group's are the block's product. -/
theorem groups (x : FVec Ideal S2048x768 .bf16) (w : FVec Ideal S2x1x1024x384 .bf16) (r : Fin 2048) (l : Fin 1024) :
    (∑ k : Fin 384, x (ix2 r (⟨k.val, by omega⟩ : Fin 768)) * w (ix4 (0 : Fin 2) (0 : Fin 1) l k))
      + ∑ k : Fin 384, x (ix2 r (⟨384 + k.val, by omega⟩ : Fin 768)) * w (ix4 (1 : Fin 2) (0 : Fin 1) l k) = bprod x w r l := by
  refine Eq.trans ?_ (sum_halves (n := 384) fun k =>
    x (ix2 r k) * w (ix4 (⟨k.val / 384, by omega⟩ : Fin 2) (0 : Fin 1) l (⟨k.val % 384, by omega⟩ : Fin 384)))
  refine congrArg₂ (fun a b : EReal => a + b) (Finset.sum_congr rfl fun k _ => ?_) (Finset.sum_congr rfl fun k _ => ?_)
  · have hk := k.isLt
    have e : (⟨(Fin.castAdd 384 k).val / 384, by have := (Fin.castAdd 384 k).isLt; omega⟩ : Fin 2) = 0 :=
      Fin.ext (by show k.val / 384 = 0; omega)
    have f : (⟨(Fin.castAdd 384 k).val % 384, by omega⟩ : Fin 384) = k := Fin.ext (by show k.val % 384 = k.val; omega)
    rw [e, f]; rfl
  · have hk := k.isLt
    have e : (⟨(Fin.natAdd 384 k).val / 384, by have := (Fin.natAdd 384 k).isLt; omega⟩ : Fin 2) = 1 :=
      Fin.ext (by show (384 + k.val) / 384 = 1; omega)
    have f : (⟨(Fin.natAdd 384 k).val % 384, by omega⟩ : Fin 384) = k := Fin.ext (by show (384 + k.val) % 384 = k.val; omega)
    rw [e, f]; rfl

/-- The first group of a block of the weight. -/
abbrev g0 : Rect S2x1x1024x384 := Rect.unit (s := S2x1x1024x384) ![0, 0, 0, 0] S1x1x1024x384.size inb_S2x1x1024x384_S1x1x1024x384_0_0_0_0
/-- The second group of a block of the weight. -/
abbrev g1 : Rect S2x1x1024x384 := Rect.unit (s := S2x1x1024x384) ![1, 0, 0, 0] S1x1x1024x384.size inb_S2x1x1024x384_S1x1x1024x384_1_0_0_0

/-- The first block's product. -/
theorem pay1_at (x : FVec Ideal S2048x768 .bf16) (w : FVec Ideal S2x1x1024x384 .bf16) (r : Fin 2048) (l : Fin 1024) :
    k0_pay1 (F := Ideal) x (View.ld w g0) (View.ld w g1) (ix2 r l) = bprod x w r l := by
  rw [← groups]
  pointwise [k0_pay1]

/-- The carried sum plus a block's product. -/
theorem pay2_at (a : FVec Ideal S2048x1024 .f32) (x : FVec Ideal S2048x768 .bf16) (w : FVec Ideal S2x1x1024x384 .bf16) (r : Fin 2048) (l : Fin 1024) :
    k0_pay2 (F := Ideal) a x (View.ld w g0) (View.ld w g1) (ix2 r l) = a (ix2 r l) + bprod x w r l := by
  rw [← groups]
  pointwise [k0_pay2]

/-- The carried sum plus the last block's product. -/
theorem pay3_at (a : FVec Ideal S2048x1024 .f32) (x : FVec Ideal S2048x768 .bf16) (w : FVec Ideal S2x1x1024x384 .bf16) (r : Fin 2048) (l : Fin 1024) :
    k0_pay3 (F := Ideal) a x (View.ld w g0) (View.ld w g1) (ix2 r l) = a (ix2 r l) + bprod x w r l := by
  rw [← groups]
  pointwise [k0_pay3]

/-- Where each window's block lies at each grid point. -/
theorem idx : ∀ t : Fin cfg0.N, win0_0.index t = ![t.val / 4, t.val % 4] ∧ win0_1.index t = ![t.val % 4, 0, 0, 0]
    ∧ win0_2.index t = ![t.val / 4, 0] ∧ t.val < 8 :=
  (by decide +kernel : ∀ t : Fin grid0.N, _)

/-- The grid is whole runs of four points. -/
theorem runs : 4 ∣ cfg0.N := by rw [show cfg0.N = 8 from N_0]; decide

/-- A grid point's share of the product. -/
def part (c : Dev nD) (t : Fin cfg0.N) (r : Fin 2048) (l : Fin 1024) : EReal := bprod (iblk m c 0 t) (iblk m c 1 t) r l

/-- The first point of a run leaves its share. -/
theorem sum_first (c : Dev nD) (t : Fin cfg0.N) (h : t.val % 4 = 0) (r : Fin 2048) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 2048) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point of a run writes the sum of the run's shares. -/
theorem out_last (c : Dev nD) (t : Fin cfg0.N) (h : t.val % 4 = 3) (r : Fin 2048) (l : Fin 1024) :
    (outsAt0 m c t.val t.isLt).1 (ix2 r l) = ∑ s : Fin 4, part m c (pt runs t s) r l := by
  refine Eq.trans ?_ (run_sum runs (fun n hn => (outsAt0 m c n hn).2 (ix2 r l)) (fun t => part m c t r l)
    (fun t h => sum_first m c t h r l) (fun t h => sum_later m c t h r l) t h)
  rw [outsAt0_C m c t (by omega) (by omega) h]; dsimp only; frame_out; rw [read_unread_whole]
  exact pay3_at _ _ _ r l

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 2048) (l : Fin 1024), y = ix2 r l := ⟨y 0, y 1, by blk_ext⟩
  refine (out_last m c t h r l).trans ?_
  unfold prod part bprod
  refine Fin.sum_mul_add_congr fun s k hl => ?_
  have q : (pt runs t s).val = 4 * (t.val / 4) + s.val := rfl
  have hs := s.isLt
  blk_point [iblk, V, idx t, idx (pt runs t s), q]

end Cert.Kernel20Ideal.Blk

namespace Cert.Reference20Ideal.Ref
open Idealize.ShloMosaic Idealize.ShloMosaic.TcCoe Idealize.SL.Sem
open Cert.Reference20Ideal Cert.Reference20Ideal.Read

/-- The reference's gradient is that product. -/
theorem ref_eq (x : FVec Ideal Cert.Kernel20Ideal.S4096x3072 .bf16) (w : FVec Ideal Cert.Kernel20Ideal.S8x1x1024x384 .bf16) :
    val_main_v7 (F := Ideal) x w = Cert.Kernel20Ideal.Blk.prod x w := by
  funext i
  obtain ⟨r, l, rfl⟩ : ∃ (r : Fin 4096) (l : Fin 1024), i = ix2 r l := ⟨i 0, i 1, by blk_ext⟩
  unfold Cert.Kernel20Ideal.Blk.prod
  rw [val_main_v7_apply]
  refine Finset.sum_congr rfl fun k _ => ?_
  rw [val_main_v6_apply, val_main_v3_apply, val_main_v2_apply, val_main_v1_apply, val_main_v0_apply]
  refine congrArg₂ (fun a b : EReal => a * b) (congrArg x (by blk_ext)) (congrArg w ?_)
  have hl := l.isLt; have hk := k.isLt
  funext a
  match a with
  | ⟨0, _⟩ => exact Fin.ext (by show (((l.val * 3072 + k.val) / 384 % 8 * 1024 + (l.val * 3072 + k.val) / 3072) * 384 + (l.val * 3072 + k.val) % 384) / 393216 = k.val / 384; omega)
  | ⟨1, _⟩ => rfl
  | ⟨2, _⟩ => exact Fin.ext (by show (((l.val * 3072 + k.val) / 384 % 8 * 1024 + (l.val * 3072 + k.val) / 3072) * 384 + (l.val * 3072 + k.val) % 384) / 384 % 1024 = l.val; omega)
  | ⟨3, _⟩ => exact Fin.ext (by show (((l.val * 3072 + k.val) / 384 % 8 * 1024 + (l.val * 3072 + k.val) / 3072) * 384 + (l.val * 3072 + k.val) % 384) % 384 = k.val % 384; omega)

end Cert.Reference20Ideal.Ref
end
-- ==== Proof.MlpDh.lean ====
module

public import Idealize.ShloMosaic.Lib.Pointwise
public import Idealize.ShloMosaic.Lib.Pipeline.ValueKit
public import Idealize.ShloMosaic.Lib.Pipeline.ReadBack
public import proofs.«01_k».proof.Proof.Gen.Kernel21Ideal.Value
public import proofs.«01_k».proof.Proof.Gen.Reference21Ideal.Run
public import proofs.«01_k».proof.Proof.Gen.Reference21Ideal.Read
public import proofs.«01_k».proof.Proof.RunSum

@[expose] public section
set_option maxRecDepth 16384

noncomputable section
namespace Cert.Kernel21Ideal.Blk
open Idealize.ShloMosaic Idealize.ShloMosaic.TcCoe Idealize.SL.Sem
open Cert.Kernel21Ideal Cert.Kernel21Ideal.Gen Cert.RunSum
variable (m : (ℓ : Loc nD τ sig) → Buf (Elt Ideal) ℓ)

/-- The call's first argument. -/
abbrev X (c : Dev nD) : FVec Ideal S4096x4096 .bf16 := m ((c : Thread nD τ).loc main_arg0)
/-- The call's second argument. -/
abbrev Y (c : Dev nD) : FVec Ideal S8x1x1024x512 .bf16 := m ((c : Thread nD τ).loc main_arg1)

/-- The product of the first argument with the transposed weight whose columns the second holds in eight groups. -/
def prod (x : FVec Ideal S4096x4096 .bf16) (w : FVec Ideal S8x1x1024x512 .bf16) : FVec Ideal S4096x1024 .f32 :=
  fun i => ∑ k : Fin 4096, x (ix2 (⟨(i 0).val, (i 0).isLt⟩ : Fin 4096) k)
    * w (ix4 (⟨k.val / 512, by omega⟩ : Fin 8) (0 : Fin 1) (⟨(i 1).val, (i 1).isLt⟩ : Fin 1024) (⟨k.val % 512, by omega⟩ : Fin 512))

/-- A block's product: its two groups of columns together. -/
def bprod (x : FVec Ideal S2048x1024 .bf16) (w : FVec Ideal S2x1x1024x512 .bf16) (r : Fin 2048) (l : Fin 1024) : EReal :=
  ∑ k : Fin 1024, x (ix2 r k) * w (ix4 (⟨k.val / 512, by omega⟩ : Fin 2) (0 : Fin 1) l (⟨k.val % 512, by omega⟩ : Fin 512))

/-- The first group's sum and the second group's are the block's product. -/
theorem groups (x : FVec Ideal S2048x1024 .bf16) (w : FVec Ideal S2x1x1024x512 .bf16) (r : Fin 2048) (l : Fin 1024) :
    (∑ k : Fin 512, x (ix2 r (⟨k.val, by omega⟩ : Fin 1024)) * w (ix4 (0 : Fin 2) (0 : Fin 1) l k))
      + ∑ k : Fin 512, x (ix2 r (⟨512 + k.val, by omega⟩ : Fin 1024)) * w (ix4 (1 : Fin 2) (0 : Fin 1) l k) = bprod x w r l := by
  refine Eq.trans ?_ (sum_halves (n := 512) fun k =>
    x (ix2 r k) * w (ix4 (⟨k.val / 512, by omega⟩ : Fin 2) (0 : Fin 1) l (⟨k.val % 512, by omega⟩ : Fin 512)))
  refine congrArg₂ (fun a b : EReal => a + b) (Finset.sum_congr rfl fun k _ => ?_) (Finset.sum_congr rfl fun k _ => ?_)
  · have hk := k.isLt
    have e : (⟨(Fin.castAdd 512 k).val / 512, by have := (Fin.castAdd 512 k).isLt; omega⟩ : Fin 2) = 0 :=
      Fin.ext (by show k.val / 512 = 0; omega)
    have f : (⟨(Fin.castAdd 512 k).val % 512, by omega⟩ : Fin 512) = k := Fin.ext (by show k.val % 512 = k.val; omega)
    rw [e, f]; rfl
  · have hk := k.isLt
    have e : (⟨(Fin.natAdd 512 k).val / 512, by have := (Fin.natAdd 512 k).isLt; omega⟩ : Fin 2) = 1 :=
      Fin.ext (by show (512 + k.val) / 512 = 1; omega)
    have f : (⟨(Fin.natAdd 512 k).val % 512, by omega⟩ : Fin 512) = k := Fin.ext (by show (512 + k.val) % 512 = k.val; omega)
    rw [e, f]; rfl

/-- The first group of a block of the weight. -/
abbrev g0 : Rect S2x1x1024x512 := Rect.unit (s := S2x1x1024x512) ![0, 0, 0, 0] S1x1x1024x512.size inb_S2x1x1024x512_S1x1x1024x512_0_0_0_0
/-- The second group of a block of the weight. -/
abbrev g1 : Rect S2x1x1024x512 := Rect.unit (s := S2x1x1024x512) ![1, 0, 0, 0] S1x1x1024x512.size inb_S2x1x1024x512_S1x1x1024x512_1_0_0_0

/-- The first block's product. -/
theorem pay1_at (x : FVec Ideal S2048x1024 .bf16) (w : FVec Ideal S2x1x1024x512 .bf16) (r : Fin 2048) (l : Fin 1024) :
    k0_pay1 (F := Ideal) x (View.ld w g0) (View.ld w g1) (ix2 r l) = bprod x w r l := by
  rw [← groups]
  pointwise [k0_pay1]

/-- The carried sum plus a block's product. -/
theorem pay2_at (a : FVec Ideal S2048x1024 .f32) (x : FVec Ideal S2048x1024 .bf16) (w : FVec Ideal S2x1x1024x512 .bf16) (r : Fin 2048) (l : Fin 1024) :
    k0_pay2 (F := Ideal) a x (View.ld w g0) (View.ld w g1) (ix2 r l) = a (ix2 r l) + bprod x w r l := by
  rw [← groups]
  pointwise [k0_pay2]

/-- The carried sum plus the last block's product. -/
theorem pay3_at (a : FVec Ideal S2048x1024 .f32) (x : FVec Ideal S2048x1024 .bf16) (w : FVec Ideal S2x1x1024x512 .bf16) (r : Fin 2048) (l : Fin 1024) :
    k0_pay3 (F := Ideal) a x (View.ld w g0) (View.ld w g1) (ix2 r l) = a (ix2 r l) + bprod x w r l := by
  rw [← groups]
  pointwise [k0_pay3]

/-- Where each window's block lies at each grid point. -/
theorem idx : ∀ t : Fin cfg0.N, win0_0.index t = ![t.val / 4, t.val % 4] ∧ win0_1.index t = ![t.val % 4, 0, 0, 0]
    ∧ win0_2.index t = ![t.val / 4, 0] ∧ t.val < 8 :=
  (by decide +kernel : ∀ t : Fin grid0.N, _)

/-- The grid is whole runs of four points. -/
theorem runs : 4 ∣ cfg0.N := by rw [show cfg0.N = 8 from N_0]; decide

/-- A grid point's share of the product. -/
def part (c : Dev nD) (t : Fin cfg0.N) (r : Fin 2048) (l : Fin 1024) : EReal := bprod (iblk m c 0 t) (iblk m c 1 t) r l

/-- The first point of a run leaves its share. -/
theorem sum_first (c : Dev nD) (t : Fin cfg0.N) (h : t.val % 4 = 0) (r : Fin 2048) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 2048) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point of a run writes the sum of the run's shares. -/
theorem out_last (c : Dev nD) (t : Fin cfg0.N) (h : t.val % 4 = 3) (r : Fin 2048) (l : Fin 1024) :
    (outsAt0 m c t.val t.isLt).1 (ix2 r l) = ∑ s : Fin 4, part m c (pt runs t s) r l := by
  refine Eq.trans ?_ (run_sum runs (fun n hn => (outsAt0 m c n hn).2 (ix2 r l)) (fun t => part m c t r l)
    (fun t h => sum_first m c t h r l) (fun t h => sum_later m c t h r l) t h)
  rw [outsAt0_C m c t (by omega) (by omega) h]; dsimp only; frame_out; rw [read_unread_whole]
  exact pay3_at _ _ _ r l

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 2048) (l : Fin 1024), y = ix2 r l := ⟨y 0, y 1, by blk_ext⟩
  refine (out_last m c t h r l).trans ?_
  unfold prod part bprod
  refine Fin.sum_mul_add_congr fun s k hl => ?_
  have q : (pt runs t s).val = 4 * (t.val / 4) + s.val := rfl
  have hs := s.isLt
  blk_point [iblk, V, idx t, idx (pt runs t s), q]

end Cert.Kernel21Ideal.Blk

namespace Cert.Reference21Ideal.Ref
open Idealize.ShloMosaic Idealize.ShloMosaic.TcCoe Idealize.SL.Sem
open Cert.Reference21Ideal Cert.Reference21Ideal.Read

/-- The reference's gradient is that product. -/
theorem ref_eq (x : FVec Ideal Cert.Kernel21Ideal.S4096x4096 .bf16) (w : FVec Ideal Cert.Kernel21Ideal.S8x1x1024x512 .bf16) :
    val_main_v7 (F := Ideal) x w = Cert.Kernel21Ideal.Blk.prod x w := by
  funext i
  obtain ⟨r, l, rfl⟩ : ∃ (r : Fin 4096) (l : Fin 1024), i = ix2 r l := ⟨i 0, i 1, by blk_ext⟩
  unfold Cert.Kernel21Ideal.Blk.prod
  rw [val_main_v7_apply]
  refine Finset.sum_congr rfl fun k _ => ?_
  rw [val_main_v6_apply, val_main_v3_apply, val_main_v2_apply, val_main_v1_apply, val_main_v0_apply]
  refine congrArg₂ (fun a b : EReal => a * b) (congrArg x (by blk_ext)) (congrArg w ?_)
  have hl := l.isLt; have hk := k.isLt
  funext a
  match a with
  | ⟨0, _⟩ => exact Fin.ext (by show (((l.val * 4096 + k.val) / 512 % 8 * 1024 + (l.val * 4096 + k.val) / 4096) * 512 + (l.val * 4096 + k.val) % 512) / 524288 = k.val / 512; omega)
  | ⟨1, _⟩ => rfl
  | ⟨2, _⟩ => exact Fin.ext (by show (((l.val * 4096 + k.val) / 512 % 8 * 1024 + (l.val * 4096 + k.val) / 4096) * 512 + (l.val * 4096 + k.val) % 512) / 512 % 1024 = l.val; omega)
  | ⟨3, _⟩ => exact Fin.ext (by show (((l.val * 4096 + k.val) / 512 % 8 * 1024 + (l.val * 4096 + k.val) / 4096) * 512 + (l.val * 4096 + k.val) % 512) % 512 = k.val % 512; omega)

end Cert.Reference21Ideal.Ref
end
-- ==== Proof.InDh.lean ====
module

public import Idealize.ShloMosaic.Lib.Pointwise
public import Idealize.ShloMosaic.Lib.Pipeline.ValueKit
public import Idealize.ShloMosaic.Lib.Pipeline.ReadBack
public import proofs.«01_k».proof.Proof.Gen.Kernel22Ideal.Value
public import proofs.«01_k».proof.Proof.Gen.Reference22Ideal.Run
public import proofs.«01_k».proof.Proof.Gen.Reference22Ideal.Read
public import proofs.«01_k».proof.Proof.RunSum

@[expose] public section
set_option maxRecDepth 16384

noncomputable section
namespace Cert.Kernel22Ideal.Blk
open Idealize.ShloMosaic Idealize.ShloMosaic.TcCoe Idealize.SL.Sem
open Cert.Kernel22Ideal Cert.Kernel22Ideal.Gen Cert.RunSum
variable (m : (ℓ : Loc nD τ sig) → Buf (Elt Ideal) ℓ)

/-- The call's first argument. -/
abbrev X (c : Dev nD) : FVec Ideal S4096x3584 .bf16 := m ((c : Thread nD τ).loc main_arg0)
/-- The call's second argument. -/
abbrev Y (c : Dev nD) : FVec Ideal S1024x3584 .bf16 := m ((c : Thread nD τ).loc main_arg1)

/-- The product of the first argument with the transposed second. -/
def prod (x : FVec Ideal S4096x3584 .bf16) (w : FVec Ideal S1024x3584 .bf16) : FVec Ideal S4096x1024 .f32 :=
  fun i => ∑ k : Fin 3584, x (ix2 (⟨(i 0).val, (i 0).isLt⟩ : Fin 4096) k) * w (ix2 (⟨(i 1).val, (i 1).isLt⟩ : Fin 1024) k)

/-- A block's product. -/
def bprod (x : FVec Ideal S2048x896 .bf16) (w : FVec Ideal S1024x896 .bf16) (r : Fin 2048) (l : Fin 1024) : EReal :=
  ∑ k : Fin 896, x (ix2 r k) * w (ix2 l k)

/-- The first block's product. -/
theorem pay1_at (x : FVec Ideal S2048x896 .bf16) (w : FVec Ideal S1024x896 .bf16) (r : Fin 2048) (l : Fin 1024) :
    k0_pay1 (F := Ideal) x w (ix2 r l) = bprod x w r l := by
  unfold bprod
  pointwise [k0_pay1]

/-- The carried sum plus a block's product. -/
theorem pay2_at (a : FVec Ideal S2048x1024 .f32) (x : FVec Ideal S2048x896 .bf16) (w : FVec Ideal S1024x896 .bf16) (r : Fin 2048) (l : Fin 1024) :
    k0_pay2 (F := Ideal) a x w (ix2 r l) = a (ix2 r l) + bprod x w r l := by
  unfold bprod
  pointwise [k0_pay2]

/-- The carried sum plus the last block's product. -/
theorem pay3_at (a : FVec Ideal S2048x1024 .f32) (x : FVec Ideal S2048x896 .bf16) (w : FVec Ideal S1024x896 .bf16) (r : Fin 2048) (l : Fin 1024) :
    k0_pay3 (F := Ideal) a x w (ix2 r l) = a (ix2 r l) + bprod x w r l := by
  unfold bprod
  pointwise [k0_pay3]

/-- Where each window's block lies at each grid point. -/
theorem idx : ∀ t : Fin cfg0.N, win0_0.index t = ![t.val / 4, t.val % 4] ∧ win0_1.index t = ![0, t.val % 4]
    ∧ win0_2.index t = ![t.val / 4, 0] ∧ t.val < 8 :=
  (by decide +kernel : ∀ t : Fin grid0.N, _)

/-- The grid is whole runs of four points. -/
theorem runs : 4 ∣ cfg0.N := by rw [show cfg0.N = 8 from N_0]; decide

/-- A grid point's share of the product. -/
def part (c : Dev nD) (t : Fin cfg0.N) (r : Fin 2048) (l : Fin 1024) : EReal := bprod (iblk m c 0 t) (iblk m c 1 t) r l

/-- The first point of a run leaves its share. -/
theorem sum_first (c : Dev nD) (t : Fin cfg0.N) (h : t.val % 4 = 0) (r : Fin 2048) (l : Fin 1024) :
    (outsAt0 m c t.val t.isLt).2 (ix2 r l) = part m c t r l := by
  rw [outsAt0_A m c t h (by omega) (by omega)]; dsimp only; frame_out
  exact pay1_at _ _ r l

/-- A middle point adds its share. -/
theorem sum_later (c : Dev nD) (t : Fin cfg0.N) (h : 1 ≤ t.val % 4 ∧ t.val % 4 ≤ 2) (r : Fin 2048) (l : Fin 1024) :
    (outsAt0 m c t.val t.isLt).2 (ix2 r l)
      = (outsAt0 m c (t.val - 1) (Nat.lt_of_le_of_lt (Nat.sub_le _ _) t.isLt)).2 (ix2 r l) + part m c t r l := by
  rw [outsAt0_B m c t (by omega) h (by omega)]; dsimp only; frame_out; rw [read_unread_whole]
  exact pay2_at _ _ _ r l

/-- The last point of a run writes the sum of the run's shares. -/
theorem out_last (c : Dev nD) (t : Fin cfg0.N) (h : t.val % 4 = 3) (r : Fin 2048) (l : Fin 1024) :
    (outsAt0 m c t.val t.isLt).1 (ix2 r l) = ∑ s : Fin 4, part m c (pt runs t s) r l := by
  refine Eq.trans ?_ (run_sum runs (fun n hn => (outsAt0 m c n hn).2 (ix2 r l)) (fun t => part m c t r l)
    (fun t h => sum_first m c t h r l) (fun t h => sum_later m c t h r l) t h)
  rw [outsAt0_C m c t (by omega) (by omega) h]; dsimp only; frame_out; rw [read_unread_whole]
  exact pay3_at _ _ _ r l

/-- The array after the run. -/
theorem final (c : Dev nD) : (dats m 0 c).arrAt 2 cfg0.N = prod (X m c) (Y m c) := by
  refine (dats m 0 c).arrAt_eq_of_covers 2 _ (by decide +kernel) fun t hf y => ?_
  have h := (flush0_2 t).mp hf
  blk_simp
  rw [after0_2]
  obtain ⟨r, l, rfl⟩ : ∃ (r : Fin 2048) (l : Fin 1024), y = ix2 r l := ⟨y 0, y 1, by blk_ext⟩
  refine (out_last m c t h r l).trans ?_
  unfold prod part bprod
  refine Fin.sum_mul_add_congr fun s k hl => ?_
  have q : (pt runs t s).val = 4 * (t.val / 4) + s.val := rfl
  have hs := s.isLt
  blk_point [iblk, V, idx t, idx (pt runs t s), q]

end Cert.Kernel22Ideal.Blk

namespace Cert.Reference22Ideal.Ref
open Idealize.ShloMosaic Idealize.ShloMosaic.TcCoe Idealize.SL.Sem
open Cert.Reference22Ideal Cert.Reference22Ideal.Read

/-- The reference's gradient is that product. -/
theorem ref_eq (x : FVec Ideal Cert.Kernel22Ideal.S4096x3584 .bf16) (w : FVec Ideal Cert.Kernel22Ideal.S1024x3584 .bf16) :
    val_main_v4 (F := Ideal) x w = Cert.Kernel22Ideal.Blk.prod x w := by
  funext i
  obtain ⟨r, l, rfl⟩ : ∃ (r : Fin 4096) (l : Fin 1024), i = ix2 r l := ⟨i 0, i 1, by blk_ext⟩
  unfold Cert.Kernel22Ideal.Blk.prod
  rw [val_main_v4_apply]
  refine Finset.sum_congr rfl fun k _ => ?_
  rw [val_main_v3_apply, val_main_v1_apply]
  exact congrArg₂ (fun a b : EReal => a * b) (congrArg x (by blk_ext)) (congrArg w (by blk_ext))

end Cert.Reference22Ideal.Ref
end
-- ==== Proof.NormBwdSpec.lean ====
module

public import Idealize.ShloMosaic.Lib.Pointwise
public import proofs.«01_k».proof.Proof.NormSpec

/-! The gradient of a norm, its modulation and the gated residual before it, entry by entry. Arrays are read at natural row
numbers, with zero outside their extents. -/

@[expose] public section

noncomputable section
namespace Cert.Norm
open Idealize.ShloMosaic

/-- A row of an array. -/
def row {n : ℕ} {φ : FTy} (x : FVec Ideal (⟨2, ![n, 1024]⟩ : Shape) φ) (r : ℕ) : Fin 1024 → EReal :=
  fun k => if h : r < n then x (ix2 ⟨r, h⟩ k) else (0 : EReal)

theorem row_of_nat {n : ℕ} {φ : FTy} (x : FVec Ideal (⟨2, ![n, 1024]⟩ : Shape) φ) {r : ℕ} (h : r < n) :
    row x r = fun k => x (ix2 ⟨r, h⟩ k) := by funext k; rw [row, dif_pos h]

theorem row_of_lt {n : ℕ} {φ : FTy} (x : FVec Ideal (⟨2, ![n, 1024]⟩ : Shape) φ) (r : Fin n) :
    row x r = fun k => x (ix2 r k) := row_of_nat x r.isLt

/-- The one row of an array. -/
def lane (x : FVec Ideal (⟨2, ![1, 1024]⟩ : Shape) .f32) : Fin 1024 → EReal := fun k => x (ix2 (0 : Fin 1) k)

/-- The cotangent of the scaled row. -/
def cot (dh g sc : Fin 1024 → EReal) (k : Fin 1024) : EReal := dh k * (g k * (one + sc k))

/-- The gradient in a row. -/
def dxAt (x dh dr g sc : Fin 1024 → EReal) (l : Fin 1024) : EReal := dr l + grad len x (cot dh g sc) l

section
variable (x dh dr : FVec Ideal (⟨2, ![4096, 1024]⟩ : Shape) .f32) (g sc : FVec Ideal (⟨2, ![1, 1024]⟩ : Shape) .f32)
  (z : FVec Ideal (⟨2, ![4096, 1024]⟩ : Shape) .bf16) (gt : FVec Ideal (⟨2, ![1, 1024]⟩ : Shape) .f32)

/-- The gradient in row `r`. -/
def dxRow (r : ℕ) (l : Fin 1024) : EReal := dxAt (row x r) (row dh r) (row dr r) (lane g) (lane sc) l

/-- The gradient in the rows. -/
def dx : FVec Ideal (⟨2, ![4096, 1024]⟩ : Shape) .f32 := fun i => dxRow x dh dr g sc (i 0).val (i 1)

/-- The gradient in the residual branch, rounded to sixteen bits. -/
def dz : FVec Ideal (⟨2, ![4096, 1024]⟩ : Shape) .bf16 := fun i => dxRow x dh dr g sc (i 0).val (i 1) * lane gt (i 1)

/-- Row `r`'s share of the sums over rows: of the shift's gradient, the scale's, the gain's and the gate's. -/
def term (k r : ℕ) (l : Fin 1024) : EReal :=
  if k = 3 then dxRow x dh dr g sc r l * row z r l
  else if k = 2 then row dh r l * (row x r l * scl len (row x r)) * (one + lane sc l)
  else if k = 1 then row dh r l * (row x r l * scl len (row x r)) * lane g l
  else if k = 0 then row dh r l
  else 0

/-- The sums over rows; the rows after the fourth are zero. -/
def sums : FVec Ideal (⟨2, ![8, 1024]⟩ : Shape) .f32 :=
  fun j => ∑ r ∈ Finset.range 4096, term x dh dr g sc z (j 0).val r (j 1)

/-- Row `r`'s share of the sums over rows without a gate: of the shift's gradient, the scale's and the gain's. -/
def term3 (k r : ℕ) (l : Fin 1024) : EReal :=
  if k = 2 then row dh r l * (row x r l * scl len (row x r)) * (one + lane sc l)
  else if k = 1 then row dh r l * (row x r l * scl len (row x r)) * lane g l
  else if k = 0 then row dh r l
  else 0

/-- The sums over rows without a gate; the rows after the third are zero. -/
def sums3 : FVec Ideal (⟨2, ![8, 1024]⟩ : Shape) .f32 :=
  fun j => ∑ r ∈ Finset.range 4096, term3 x dh g sc (j 0).val r (j 1)

end
end Cert.Norm
end
-- ==== Proof.NormBwd.lean ====
module

public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.Gen.Kernel15Ideal.Value
public import proofs.«01_k».proof.Proof.NormBwdSpec

@[expose] public section
set_option maxRecDepth 16384

noncomputable section
namespace Cert.Kernel15Ideal.Blk
open Idealize.ShloMosaic Idealize.ShloMosaic.TcCoe Idealize.SL.Sem
open Cert.Kernel15Ideal Cert.Kernel15Ideal.Gen Cert.Norm
variable (m : (ℓ : Loc nD τ sig) → Buf (Elt Ideal) ℓ)

/-- The call's arguments. -/
abbrev X (c : Dev nD) : FVec Ideal S4096x1024 .f32 := m ((c : Thread nD τ).loc main_arg0)
abbrev DH (c : Dev nD) : FVec Ideal S4096x1024 .f32 := m ((c : Thread nD τ).loc main_arg1)
abbrev DR (c : Dev nD) : FVec Ideal S4096x1024 .f32 := m ((c : Thread nD τ).loc main_arg2)
abbrev G (c : Dev nD) : FVec Ideal S1x1024 .f32 := m ((c : Thread nD τ).loc main_arg3)
abbrev SC (c : Dev nD) : FVec Ideal S1x1024 .f32 := m ((c : Thread nD τ).loc main_arg4)
abbrev Z (c : Dev nD) : FVec Ideal S4096x1024 .bf16 := m ((c : Thread nD τ).loc main_arg5)
abbrev GT (c : Dev nD) : FVec Ideal S1x1024 .f32 := m ((c : Thread nD τ).loc main_arg6)

section payloads
variable (x dh dr : FVec Ideal S512x1024 .f32) (g sc gt old : FVec Ideal S1x1024 .f32) (z : FVec Ideal S512x1024 .bf16)

/-- The rows' factors. -/
theorem pay4_at (r : Fin 512) : k0_pay4 (F := Ideal) x (ix2 r (0 : Fin 1)) = scl len (row x r) := by
  unfold scl meanSq len eps; rw [row_of_lt]; pointwise [k0_pay4]

/-- The scaled rows. -/
theorem pay5_at (r : Fin 512) (l : Fin 1024) : k0_pay5 (F := Ideal) x (ix2 r l) = row x r l * scl len (row x r) := by
  rw [← pay4_at, row_of_lt]; unfold k0_pay5; generalize k0_pay4 (F := Ideal) x = y; pointwise

/-- One plus the scale. -/
theorem pay3_at (l : Fin 1024) : k0_pay3 (F := Ideal) sc (ix2 (0 : Fin 1) l) = one + sc (ix2 (0 : Fin 1) l) := by
  unfold one; pointwise [k0_pay3]

/-- The gradient in the rows. -/
theorem pay6_at (r : Fin 512) (l : Fin 1024) :
    k0_pay6 (F := Ideal) x dh g sc dr (ix2 r l) = dxAt (row x r) (row dh r) (row dr r) (lane g) (lane sc) l := by
  have e5 := pay5_at x r
  have e3 := pay3_at sc
  have e4 := pay4_at x r
  unfold dxAt grad cot
  simp only [← e5]
  simp only [← e4]
  unfold len lane
  simp only [← e3]
  rw [row_of_lt dh, row_of_lt dr]
  unfold k0_pay6
  generalize k0_pay5 (F := Ideal) x = y5
  generalize k0_pay4 (F := Ideal) x = y4
  generalize k0_pay3 (F := Ideal) sc = y3
  pointwise

/-- The zeros the sums start from. -/
theorem pay2_at (j : S8x1024.Idx) : k0_pay2 (F := Ideal) j = 0 := by
  unfold k0_pay2; exact Ideal.ofBits_zero_f32

/-- The sums' rows: each adds the block's column sums to the row before. -/
theorem pay8_at (l : Fin 1024) :
    k0_pay8 (F := Ideal) dh old (ix2 (0 : Fin 1) l) = old (ix2 (0 : Fin 1) l) + ∑ r : Fin 512, row dh r l := by
  simp only [row_of_lt]; pointwise [k0_pay8]

theorem pay9_at (l : Fin 1024) :
    k0_pay9 (F := Ideal) g (k0_pay7 x dh) old (ix2 (0 : Fin 1) l)
      = old (ix2 (0 : Fin 1) l) + ∑ r : Fin 512, row dh r l * (row x r l * scl len (row x r)) * lane g l := by
  simp only [← pay5_at]; simp only [row_of_lt]; unfold k0_pay9 k0_pay7 lane; generalize k0_pay5 (F := Ideal) x = y; pointwise

theorem pay10_at (l : Fin 1024) :
    k0_pay10 (F := Ideal) (k0_pay3 sc) (k0_pay7 x dh) old (ix2 (0 : Fin 1) l)
      = old (ix2 (0 : Fin 1) l) + ∑ r : Fin 512, row dh r l * (row x r l * scl len (row x r)) * (one + lane sc l) := by
  unfold lane
  simp only [← pay5_at, ← pay3_at]; simp only [row_of_lt]; unfold k0_pay10 k0_pay7; generalize k0_pay5 (F := Ideal) x = y
  generalize k0_pay3 (F := Ideal) sc = y'; pointwise

theorem pay1_at (y : FVec Ideal S512x1024 .f32) (l : Fin 1024) :
    k0_pay1 (F := Ideal) (k0_pay12 old) (k0_pay13 y z) (ix2 (0 : Fin 1) l)
      = old (ix2 (0 : Fin 1) l) + ∑ r : Fin 512, y (ix2 r l) * row z r l := by
  simp only [row_of_lt]; pointwise [k0_pay1, k0_pay12, k0_pay13]

/-- The gradient in the residual branch. -/
theorem pay11_at (y : FVec Ideal S512x1024 .f32) (r : Fin 512) (l : Fin 1024) :
    k0_pay11 (F := Ideal) y gt (ix2 r l) = y (ix2 r l) * lane gt l := by
  unfold lane; pointwise [k0_pay11]

end payloads

/-- Where each window's block lies at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] ∧ t.val < 8 :=
  (by decide +kernel : ∀ t : Fin grid0.N, _)

theorem lt8 (t : Fin cfg0.N) : t.val < 8 := (idx t).2.2.2.2.2.2.2.2.2.2

/-- A block's rows are rows of its array. -/
theorem blk0 (c : Dev nD) (t : Fin cfg0.N) (r : Fin 512) : row (n := 512) (φ := .f32) (iblk m c 0 t) r = row (X m c) (512 * t.val + r) := by
  have := lt8 t
  funext l
  rw [row_of_lt, row_of_nat _ (by omega)]
  blk_ext [iblk, V, idx t]

theorem blk1 (c : Dev nD) (t : Fin cfg0.N) (r : Fin 512) : row (n := 512) (φ := .f32) (iblk m c 1 t) r = row (DH m c) (512 * t.val + r) := by
  have := lt8 t
  funext l
  rw [row_of_lt, row_of_nat _ (by omega)]
  blk_ext [iblk, V, idx t]

theorem blk2 (c : Dev nD) (t : Fin cfg0.N) (r : Fin 512) : row (n := 512) (φ := .f32) (iblk m c 2 t) r = row (DR m c) (512 * t.val + r) := by
  have := lt8 t
  funext l
  rw [row_of_lt, row_of_nat _ (by omega)]
  blk_ext [iblk, V, idx t]

theorem blk5 (c : Dev nD) (t : Fin cfg0.N) (r : Fin 512) : row (n := 512) (φ := .bf16) (iblk m c 5 t) r = row (Z m c) (512 * t.val + r) := by
  have := lt8 t
  funext l
  rw [row_of_lt, row_of_nat _ (by omega)]
  blk_ext [iblk, V, idx t]

theorem blk3 (c : Dev nD) (t : Fin cfg0.N) : lane (iblk m c 3 t) = lane (G m c) := by
  funext l; unfold lane; blk_ext [iblk, V, idx t]

theorem blk4 (c : Dev nD) (t : Fin cfg0.N) : lane (iblk m c 4 t) = lane (SC m c) := by
  funext l; unfold lane; blk_ext [iblk, V, idx t]

theorem blk6 (c : Dev nD) (t : Fin cfg0.N) : lane (iblk m c 6 t) = lane (GT m c) := by
  funext l; unfold lane; blk_ext [iblk, V, idx t]

/-- The block's gradient in the rows. -/
theorem dx_blk (c : Dev nD) (t : Fin cfg0.N) (r : Fin 512) (l : Fin 1024) :
    k0_pay6 (F := Ideal) (iblk m c 0 t) (iblk m c 1 t) (iblk m c 3 t) (iblk m c 4 t) (iblk m c 2 t) (ix2 r l)
      = dxRow (X m c) (DH m c) (DR m c) (G m c) (SC m c) (512 * t.val + r) l := by
  rw [pay6_at, blk0, blk1, blk2, blk3, blk4]; rfl

theorem dx_point (c : Dev nD) (t : Fin cfg0.N) (r : Fin 512) (l : Fin 1024) :
    (outsAt0 m c t.val t.isLt).1 (ix2 r l) = dxRow (X m c) (DH m c) (DR m c) (G m c) (SC m c) (512 * t.val + r) l := by
  refine Eq.trans ?_ (dx_blk m c t r l)
  by_cases h : t.val % 8 = 0
  · rw [outsAt0_A m c t h]; dsimp only; frame_out
  · rw [outsAt0_B m c t h]; dsimp only; frame_out

theorem dz_point (c : Dev nD) (t : Fin cfg0.N) (r : Fin 512) (l : Fin 1024) :
    (outsAt0 m c t.val t.isLt).2.2 (ix2 r l)
      = dxRow (X m c) (DH m c) (DR m c) (G m c) (SC m c) (512 * t.val + r) l * lane (GT m c) l := by
  rw [← dx_blk m c t r l, ← blk6 m c t]
  refine Eq.trans ?_ (pay11_at _ _ r l)
  by_cases h : t.val % 8 = 0
  · rw [outsAt0_A m c t h]; dsimp only; frame_out
  · rw [outsAt0_B m c t h]; dsimp only; frame_out

/-- A one-row store over earlier contents, read at a row. -/
theorem row_step {sig : RefSig} {κ : Kind} {sp : Space} (v : View sig κ sp S8x1024 .f32) (f : v.ty.Contents (Elt Ideal)) (k : Fin 8) (l : Fin 1024)
    (n : ℕ) (p : FVec Ideal S1x1024 .f32) (L : List (View.Piece (Elt Ideal) S8x1024 .f32)) (i) :
    v.read (Elt Ideal) (v.writes (Elt Ideal) f (⟨Rect.unit ![n, 0] ![1, 1024] i, p⟩ :: L)) (ix2 k l)
      = if (k : ℕ) = n then p (ix2 0 l) else v.read (Elt Ideal) (v.writes (Elt Ideal) f L) (ix2 k l) := by
  by_cases h : (k : ℕ) = n
  · rw [if_pos h]
    exact View.read_writes_cons_unit_of_mem v f i p _ (ix2 k l) (ix2 (0 : Fin 1) l) rfl (Fin.forall_fin_two.mpr ⟨h, (Nat.zero_add _).symm⟩)
  · rw [if_neg h, View.read_writes_cons_unit_of_not_mem v f i p _ (ix2 k l) rfl 0 (by show (k : ℕ) < n ∨ n + 1 ≤ (k : ℕ); omega)]

/-- Three one-row stores over earlier contents, read at a row. -/
theorem rows3 {sig : RefSig} {κ : Kind} {sp : Space} (v : View sig κ sp S8x1024 .f32) (f : v.ty.Contents (Elt Ideal))
    (p2 p1 p0 : FVec Ideal S1x1024 .f32) (L : List (View.Piece (Elt Ideal) S8x1024 .f32)) (k : Fin 8) (l : Fin 1024) (i2 i1 i0) :
    v.read (Elt Ideal) (v.writes (Elt Ideal) f (⟨Rect.unit ![2, 0] ![1, 1024] i2, p2⟩ ::
        ⟨Rect.unit ![1, 0] ![1, 1024] i1, p1⟩ :: ⟨Rect.unit ![0, 0] ![1, 1024] i0, p0⟩ :: L)) (ix2 k l)
      = if (k : ℕ) = 2 then p2 (ix2 0 l) else if (k : ℕ) = 1 then p1 (ix2 0 l)
        else if (k : ℕ) = 0 then p0 (ix2 0 l) else v.read (Elt Ideal) (v.writes (Elt Ideal) f L) (ix2 k l) := by
  rw [row_step (n := 2), row_step (n := 1), row_step (n := 0)]

/-- Four one-row stores over earlier contents, read at a row. -/
theorem rows4 {sig : RefSig} {κ : Kind} {sp : Space} (v : View sig κ sp S8x1024 .f32) (f : v.ty.Contents (Elt Ideal))
    (p3 p2 p1 p0 : FVec Ideal S1x1024 .f32) (L : List (View.Piece (Elt Ideal) S8x1024 .f32)) (k : Fin 8) (l : Fin 1024)
    (i3 i2 i1 i0) :
    v.read (Elt Ideal) (v.writes (Elt Ideal) f (⟨Rect.unit ![3, 0] ![1, 1024] i3, p3⟩ :: ⟨Rect.unit ![2, 0] ![1, 1024] i2, p2⟩ ::
        ⟨Rect.unit ![1, 0] ![1, 1024] i1, p1⟩ :: ⟨Rect.unit ![0, 0] ![1, 1024] i0, p0⟩ :: L)) (ix2 k l)
      = if (k : ℕ) = 3 then p3 (ix2 0 l) else if (k : ℕ) = 2 then p2 (ix2 0 l) else if (k : ℕ) = 1 then p1 (ix2 0 l)
        else if (k : ℕ) = 0 then p0 (ix2 0 l) else v.read (Elt Ideal) (v.writes (Elt Ideal) f L) (ix2 k l) := by
  rw [row_step (n := 3), rows3]

/-- One row of a row's share of the sums. -/
abbrev tm (c : Dev nD) (k r : ℕ) (l : Fin 1024) : EReal :=
  term (X m c) (DH m c) (DR m c) (G m c) (SC m c) (Z m c) k r l

/-- A block's share of the sums. -/
def share (c : Dev nD) (n : ℕ) (j : S8x1024.Idx) : EReal := ∑ r : Fin 512, tm m c (j 0).val (512 * n + r) (j 1)

/-- One row of the body's stores into the sums. -/
theorem rows_share (c : Dev nD) (t : Fin cfg0.N) (Y : FVec Ideal S8x1024 .f32) (k : Fin 8) (l : Fin 1024) (g3 g2 g1 g0 : FVec Ideal S1x1024 .f32)
    (e3 : (k : ℕ) = 3 → g3 (ix2 0 l) = Y (ix2 k l)) (e2 : (k : ℕ) = 2 → g2 (ix2 0 l) = Y (ix2 k l))
    (e1 : (k : ℕ) = 1 → g1 (ix2 0 l) = Y (ix2 k l)) (e0 : (k : ℕ) = 0 → g0 (ix2 0 l) = Y (ix2 k l)) :
    (if (k : ℕ) = 3 then k0_pay1 (F := Ideal) (k0_pay12 g3)
        (k0_pay13 (k0_pay6 (iblk m c 0 t) (iblk m c 1 t) (iblk m c 3 t) (iblk m c 4 t) (iblk m c 2 t)) (iblk m c 5 t)) (ix2 0 l)
      else if (k : ℕ) = 2 then k0_pay10 (F := Ideal) (k0_pay3 (iblk m c 4 t)) (k0_pay7 (iblk m c 0 t) (iblk m c 1 t)) g2 (ix2 0 l)
      else if (k : ℕ) = 1 then k0_pay9 (F := Ideal) (iblk m c 3 t) (k0_pay7 (iblk m c 0 t) (iblk m c 1 t)) g1 (ix2 0 l)
      else if (k : ℕ) = 0 then k0_pay8 (F := Ideal) (iblk m c 1 t) g0 (ix2 0 l)
      else Y (ix2 k l)) = Y (ix2 k l) + share m c t.val (ix2 k l) := by
  unfold share
  show _ = Y (ix2 k l) + ∑ r : Fin 512, tm m c k.val (512 * t.val + r) l
  unfold tm term
  by_cases h3 : (k : ℕ) = 3
  · simp only [h3, ↓reduceIte, Nat.reduceEqDiff]
    rw [pay1_at, e3 h3]
    exact congrArg _ (Finset.sum_congr rfl fun r _ => by rw [dx_blk, blk5])
  rw [if_neg h3]
  by_cases h2 : (k : ℕ) = 2
  · simp only [h2, ↓reduceIte, Nat.reduceEqDiff]
    rw [pay10_at, e2 h2]
    exact congrArg _ (Finset.sum_congr rfl fun r _ => by rw [blk0, blk1, blk4])
  rw [if_neg h2]
  by_cases h1 : (k : ℕ) = 1
  · simp only [h1, ↓reduceIte, Nat.reduceEqDiff]
    rw [pay9_at, e1 h1]
    exact congrArg _ (Finset.sum_congr rfl fun r _ => by rw [blk0, blk1, blk3])
  rw [if_neg h1]
  by_cases h0 : (k : ℕ) = 0
  · rw [if_pos h0, pay8_at, e0 h0]
    exact congrArg _ (Finset.sum_congr rfl fun r _ => by rw [blk1, if_neg h3, if_neg h2, if_neg h1, if_pos h0])
  rw [if_neg h0]
  simp only [h0, h1, h2, h3, if_false, Finset.sum_const_zero, add_zero]

/-- The first point leaves its block's share. -/
theorem sums_first (c : Dev nD) (t : Fin cfg0.N) (h : t.val % 8 = 0) (j : S8x1024.Idx) :
    (outsAt0 m c t.val t.isLt).2.1 j = 0 + share m c t.val j := by
  obtain ⟨k, l, rfl⟩ : ∃ (k : Fin 8) (l : Fin 1024), j = ix2 k l := ⟨j 0, j 1, by blk_ext⟩
  rw [outsAt0_A m c t h]; dsimp only; frame_open
  simp (disch := decide) only [↓ View.readCov_skip, ↓ View.readCov_cons_toLoadRect, ↓ View.readCov_fill]
  frame_out
  rw [← View.read_writes_junk_apply_eq_canon (ms0_8 t).view, rows4, View.read_writes_junk_apply_eq_canon, View.canon_cons_unit_lit _ _ _ (by decide)]
  exact (rows_share m c t k0_pay2 k l _ _ _ _ (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))).trans (congrArg (· + _) (pay2_at _))

/-- Every later point adds its block's share. -/
theorem sums_later (c : Dev nD) (t : Fin cfg0.N) (h : ¬t.val % 8 = 0) (j : S8x1024.Idx) :
    (outsAt0 m c t.val t.isLt).2.1 j
      = (outsAt0 m c (t.val - 1) (Nat.lt_of_le_of_lt (Nat.sub_le _ _) t.isLt)).2.1 j + share m c t.val j := by
  obtain ⟨k, l, rfl⟩ : ∃ (k : Fin 8) (l : Fin 1024), j = ix2 k l := ⟨j 0, j 1, by blk_ext⟩
  rw [outsAt0_B m c t h]; dsimp only; frame_out
  rw [rows4, View.writes_nil, Memref.IsWhole.read_unread]
  exact rows_share m c t _ k l _ _ _ _ (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))

/-- The last point leaves the sums over all rows. -/
theorem sums_last (c : Dev nD) (j : S8x1024.Idx) :
    (outsAt0 m c t0_7.val t0_7.isLt).2.1 j = ∑ r ∈ Finset.range 4096, tm m c (j 0).val r (j 1) := by
  refine (Pipeline.eq_sum_of_reset_step_apply_single (fun n h => (outsAt0 m c n h).2.1) 8 (fun _ => 0)
    (fun n j => share m c n j) (fun t h i => sums_first m c t h i) (fun t h i => sums_later m c t h i) (by decide) t0_7 j).trans ?_
  rw [zero_add, show t0_7.val + 1 = 8 from rfl, show 4096 = 8 * 512 from rfl, Finset.sum_range_mul_split]
  refine Finset.sum_congr rfl fun s hs => ?_
  rw [share, Finset.sum_range]
  exact Finset.sum_congr rfl fun r _ => by rw [Nat.mul_comm]

/-- The gradient in the rows after the run. -/
theorem final_dx (c : Dev nD) : (dats m 0 c).arrAt 7 cfg0.N = dx (X m c) (DH m c) (DR m c) (G m c) (SC m c) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, by blk_ext⟩
  refine (dx_point m c t r l).trans ?_
  unfold dx
  have e : (win0_7.blk t).view.emb (ix2 r l) 1 = l := Fin.ext (by blk_simp [idx t])
  blk_simp [idx t]
  rw [Nat.mul_comm]
  rw [e]

/-- The gradient in the residual branch after the run. -/
theorem final_dz (c : Dev nD) : (dats m 0 c).arrAt 9 cfg0.N = dz (X m c) (DH m c) (DR m c) (G m c) (SC m c) (GT m c) := by
  refine (dats m 0 c).arrAt_eq_of_covers 9 _ (by decide +kernel) fun t hf y => ?_
  blk_simp
  rw [after0_9]
  obtain ⟨r, l, rfl⟩ : ∃ (r : Fin 512) (l : Fin 1024), y = ix2 r l := ⟨y 0, y 1, by blk_ext⟩
  refine (dz_point m c t r l).trans ?_
  unfold dz
  have e : (win0_9.blk t).view.emb (ix2 r l) 1 = l := Fin.ext (by blk_simp [idx t])
  blk_simp [idx t]
  rw [Nat.mul_comm]
  rw [e]

/-- The sums after the run. -/
theorem final_sums (c : Dev nD) : (dats m 0 c).arrAt 8 cfg0.N
    = sums (X m c) (DH m c) (DR m c) (G m c) (SC m c) (Z m c) := by
  refine (dats m 0 c).arrAt_eq_of_after_last 8 t0_7 (by decide +kernel) _ fun j => ?_
  blk_simp
  rw [after0_8]
  exact sums_last m c j

end Cert.Kernel15Ideal.Blk
end
-- ==== Proof.Finite.lean ====
module

public import Idealize.ShloMosaic.Lib.Pointwise
public import Idealize.ShloMosaic.Lib.ReduceAll
public import Idealize.ShloMosaic.Lib.Affine
public import proofs.«01_k».proof.Proof.Gen.Pre_finite15
public import proofs.«01_k».proof.Proof.Gen.Pre_finite23

/-! Arrays whose entries are all real numbers. -/

@[expose] public section

noncomputable section
namespace Cert.Finite
open Idealize.ShloMosaic

/-- Every entry is a real number. -/
def AllReal {ι : Type} (x : ι → EReal) : Prop := ∀ i, ∃ r : ℝ, x i = ↑r

/-- A number whose absolute value is below infinity is real. -/
theorem real_of_abs_lt (a : EReal) (h : Ideal.cmp .olt (max a (-a)) (Ideal.ofBits .f32 0x7F800000#32) = 1#1) :
    ∃ r : ℝ, a = ↑r := by
  have t : Ideal.ofBits .f32 0x7F800000#32 = ⊤ := by simp [Ideal.ofBits, Ideal.ieee]
  rw [t] at h
  induction a using EReal.rec with
  | bot => simp [Ideal.cmp] at h
  | top => simp [Ideal.cmp] at h
  | coe r => exact ⟨r, rfl⟩

/-- An array all of whose absolute values are below infinity. -/
theorem real_of_all {s u t v : Shape} [Subsingleton t.Idx] {axes : List (Fin s.rank)} {x : FVec Ideal s .f32} {init : v.Idx → BitVec 1}
    {dims : Fin u.rank → Fin s.rank} {hb : u.BroadcastsInDim s dims} {h : s.ReducesTo axes t} {hv : 0 < v.numel} {j : t.Idx}
    (e : Host.reduce IntOp.andi (cmpf .olt (Host.absf x) (broadcastInDim s dims hb (constant (F := Ideal) u .f32 0x7F800000#32))) init h hv j = 1#1) :
    AllReal (ι := s.Idx) x := by
  intro i
  have q := Host.reduce_andi_all _ init h hv j e i
  exact real_of_abs_lt _ q

end Cert.Finite

namespace Cert.Pre_finite15
open Idealize.ShloMosaic Cert.Finite

/-- The precondition of the norm's gradient: the rows, their cotangents, the gain and the scale are real. -/
theorem real [Facts] {x dh dres : FVec Ideal S4096x1024 .f32} {g sc : FVec Ideal S1x1024 .f32} {z : FVec Ideal S4096x1024 .bf16}
    {gate : FVec Ideal S1x1024 .f32} (h : fn (F := Ideal) x dh dres g sc z gate = fun _ => 1#1) :
    AllReal x ∧ AllReal dh ∧ AllReal g ∧ AllReal sc := by
  have e := congrFun h (fun a => a.elim0)
  haveI : Subsingleton S_.Idx := ⟨fun a b => funext fun k => k.elim0⟩
  obtain ⟨e, e4⟩ := IntOp.andi_eq_one.mp e
  obtain ⟨e, e3⟩ := IntOp.andi_eq_one.mp e
  obtain ⟨e1, e2⟩ := IntOp.andi_eq_one.mp e
  exact ⟨real_of_all e1, real_of_all e2, real_of_all e3, real_of_all e4⟩

end Cert.Pre_finite15

namespace Cert.Pre_finite23
open Idealize.ShloMosaic Cert.Finite

/-- The precondition of the gradient of the norm without a gate. -/
theorem real [Facts] {x dh dres : FVec Ideal S4096x1024 .f32} {g sc : FVec Ideal S1x1024 .f32}
    (h : fn (F := Ideal) x dh dres g sc = fun _ => 1#1) : AllReal x ∧ AllReal dh ∧ AllReal g ∧ AllReal sc := by
  have e := congrFun h (fun a => a.elim0)
  haveI : Subsingleton S_.Idx := ⟨fun a b => funext fun k => k.elim0⟩
  obtain ⟨e, e4⟩ := IntOp.andi_eq_one.mp e
  obtain ⟨e, e3⟩ := IntOp.andi_eq_one.mp e
  obtain ⟨e1, e2⟩ := IntOp.andi_eq_one.mp e
  exact ⟨real_of_all e1, real_of_all e2, real_of_all e3, real_of_all e4⟩

end Cert.Pre_finite23
end
-- ==== Proof.NormBwdRef.lean ====
module

public import Idealize.ShloMosaic.Lib.Pointwise
public import Idealize.ShloMosaic.Lib.Pipeline.ValueKit
public import proofs.«01_k».proof.Proof.Gen.Reference15Ideal.Run
public import proofs.«01_k».proof.Proof.Gen.Reference15Ideal.Read
public import proofs.«01_k».proof.Proof.NormBwdSpec
public import proofs.«01_k».proof.Proof.Finite

@[expose] public section
set_option maxRecDepth 16384

noncomputable section
namespace Cert.Reference15Ideal.Ref
open Idealize.ShloMosaic Idealize.ShloMosaic.TcCoe Idealize.SL.Sem
open Cert.Reference15Ideal Cert.Reference15Ideal.Read Cert.Norm Cert.Finite
variable (x dh dr : FVec Ideal S4096x1024 .f32) (g sc : FVec Ideal S1x1024 .f32) (z : FVec Ideal S4096x1024 .bf16)
  (gt : FVec Ideal S1x1024 .f32)

/-- The rows' mean squares and factors. -/
theorem v7_at (r : Fin 4096) : val_main_v7 (F := Ideal) x (ix2 r (0 : Fin 1)) = meanSq len (row x r) := by
  rw [row_of_lt, val_main_v7_apply, val_main_v6_apply, val_main_v5_apply, val_main_cst_2_apply, val_main_v4_apply, val_main_v3_apply,
    val_main_cst_1_apply, val_main_v2_apply, val_main_cst_0_apply]
  unfold meanSq
  refine congrArg (fun s : EReal => Ideal.div s len + eps) ?_
  refine (congrArg (fun z : EReal => z + _) Ideal.ofBits_zero_f32).trans ((zero_add _).trans (Finset.sum_congr rfl fun k _ => ?_))
  rw [val_main_v1_apply]
  exact congrArg (fun z : EReal => z * z) (congrArg x (by blk_ext))

theorem v8_at (r : Fin 4096) : val_main_v8 (F := Ideal) x (ix2 r (0 : Fin 1)) = scl len (row x r) := by
  rw [val_main_v8_apply, v7_at]; rfl

theorem v13_at (r : Fin 4096) (l : Fin 1024) : val_main_v13 (F := Ideal) x (ix2 r l) = row x r l * scl len (row x r) := by
  have e : idx_main_v12 (ix2 r l) = ix2 r (0 : Fin 1) := by blk_ext
  rw [val_main_v13_apply, val_main_v12_apply, e, v8_at, row_of_lt]; rfl

theorem v29_at (r : Fin 4096) (l : Fin 1024) : val_main_v29 (F := Ideal) dh sc (ix2 r l) = row dh r l * (one + lane sc l) := by
  have e : idx_main_v28 (ix2 r l) = ix2 (0 : Fin 1) l := by blk_ext
  have e' : idx_main_v22 (ix2 r l) = ix2 r l := by blk_ext
  rw [val_main_v29_apply, val_main_v22_apply, e', val_main_v28_apply, e, val_main_v17_apply, val_main_v16_apply, val_main_cst_4_apply,
    row_of_lt]; rfl

/-- The cotangent of the scaled rows. -/
theorem v34_at (r : Fin 4096) (l : Fin 1024) :
    val_main_v34 (F := Ideal) dh g sc (ix2 r l) = cot (row dh r) (lane g) (lane sc) l := by
  have e : idx_main_v33 (ix2 r l) = ix2 (0 : Fin 1) l := by blk_ext
  rw [val_main_v34_apply, v29_at, val_main_v33_apply, e, cot, mul_comm (lane g l), ← mul_assoc]; rfl

/-- The coefficient of the row in its gradient. -/
theorem v44_at (r : Fin 4096) (l : Fin 1024) :
    val_main_v44 (F := Ideal) x dh g sc (ix2 r l)
      = Ideal.div ((∑ k, row x r k * cot (row dh r) (lane g) (lane sc) k)
          * (mhalf * Ideal.div (scl len (row x r)) (meanSq len (row x r)))) len := by
  have e : ∀ k, idx_main_v43 (idx_main_v44 (ix2 r l)) k = ix2 r (0 : Fin 1) := fun k => by blk_ext
  have e' : ∀ k, idx_main_v36 (idx_main_v37 (ix2 r (0 : Fin 1))) k = ix2 r k := fun k => by blk_ext
  rw [val_main_v44_apply, val_main_v43_apply, val_main_cst_10_apply]
  refine (congrArg (fun z : EReal => z + _) Ideal.ofBits_zero_f32).trans ((zero_add _).trans ?_)
  rw [Fin.sum_univ_one, e, val_main_v42_apply, val_main_v41_apply, val_main_cst_9_apply, val_main_v40_apply, val_main_v37_apply,
    val_main_v36_apply, val_main_cst_8_apply, val_main_v11_apply, val_main_v10_apply, val_main_cst_3_apply, val_main_v9_apply, v8_at, v7_at]
  refine congrArg (fun s : EReal => Ideal.div (s * (mhalf * Ideal.div (scl len (row x r)) (meanSq len (row x r)))) len) ?_
  refine (congrArg (fun z : EReal => z + _) Ideal.ofBits_zero_f32).trans ((zero_add _).trans (Finset.sum_congr rfl fun k _ => ?_))
  rw [val_main_v35_apply, e', v34_at, row_of_lt x]; rfl

/-- The gradient in the rows, over the real numbers. -/
theorem v49_at (hx : AllReal x) (hdh : AllReal dh) (hg : AllReal g) (hsc : AllReal sc) (r : Fin 4096) (l : Fin 1024) :
    val_main_v49 (F := Ideal) x dh dr g sc (ix2 r l) = dxRow x dh dr g sc r l := by
  have e : idx_main_v38 (ix2 r l) = ix2 r (0 : Fin 1) := by blk_ext
  rw [val_main_v49_apply, val_main_v48_apply, val_main_v47_apply, val_main_v46_apply, val_main_v45_apply, val_main_v39_apply,
    val_main_v38_apply, e, v8_at, v34_at, v44_at]
  choose a ha using fun k => hx (ix2 r k)
  choose b hb using fun k => hdh (ix2 r k)
  choose p hp using fun k => hg (ix2 (0 : Fin 1) k)
  choose q hq using fun k => hsc (ix2 (0 : Fin 1) k)
  have ex : row x r = fun k => ((a k : ℝ) : EReal) := by rw [row_of_lt]; exact funext ha
  have ed : cot (row dh r) (lane g) (lane sc) = fun k => ((b k * (p k * (1 + q k)) : ℝ) : EReal) := by
    funext k
    rw [EReal.coe_mul, EReal.coe_mul, EReal.coe_add, ← hb, ← hp, ← hq, ← one_eq, cot, row_of_lt]; rfl
  have law := grad_law 1024 (by norm_num) a (fun k => b k * (p k * (1 + q k))) l
  rw [← len_eq, ← ex, ← ed] at law
  unfold dxRow dxAt
  rw [← law, row_of_lt dr]
  have hxl : x (ix2 r l) = row x r l := by rw [row_of_lt]
  rw [hxl]
  simp only [← congrFun ex, ← congrFun ed]
  rfl

/-- The gradient in the rows. -/
theorem ref_dx (hx : AllReal x) (hdh : AllReal dh) (hg : AllReal g) (hsc : AllReal sc) :
    val_main_v49 (F := Ideal) x dh dr g sc = dx x dh dr g sc := by
  funext i
  obtain ⟨r, l, rfl⟩ : ∃ (r : Fin 4096) (l : Fin 1024), i = ix2 r l := ⟨i 0, i 1, by blk_ext⟩
  exact v49_at x dh dr g sc hx hdh hg hsc r l

/-- The gradient in the residual branch. -/
theorem ref_dz (hx : AllReal x) (hdh : AllReal dh) (hg : AllReal g) (hsc : AllReal sc) :
    val_main_v60 (F := Ideal) x dh dr g sc gt = dz x dh dr g sc gt := by
  funext i
  obtain ⟨r, l, rfl⟩ : ∃ (r : Fin 4096) (l : Fin 1024), i = ix2 r l := ⟨i 0, i 1, by blk_ext⟩
  have e : idx_main_v53 (ix2 r l) = ix2 (0 : Fin 1) l := by blk_ext
  rw [val_main_v60_apply, val_main_v54_apply, val_main_v53_apply, e, v49_at x dh dr g sc hx hdh hg hsc]
  exact mul_comm (lane gt l) _

/-- A column's sum over the rows, started from zero. -/
theorem col {o : EReal} (ho : o = 0) (f : Fin 4096 → EReal) (h : ℕ → EReal) (e : ∀ r : Fin 4096, f r = h r) :
    o + ∑ r, f r = ∑ r ∈ Finset.range 4096, h r := by
  rw [ho, zero_add, Finset.sum_range]; exact Finset.sum_congr rfl fun r _ => e r

/-- The column sums of the cotangent. -/
theorem row0 (l : Fin 1024) : val_main_v24 (F := Ideal) dh (ix2 (0 : Fin 1) l) = ∑ r ∈ Finset.range 4096, row dh r l := by
  rw [val_main_v24_apply, val_main_v23_apply, val_main_cst_5_apply]
  refine col Ideal.ofBits_zero_f32 _ _ fun r => ?_
  rw [show idx_main_v23 (idx_main_v24 (ix2 (0 : Fin 1) l)) r = ix2 r l by blk_ext, row_of_lt]

/-- The column sums of the scale's gradient. -/
theorem row1 (l : Fin 1024) : val_main_v27 (F := Ideal) x dh g (ix2 (0 : Fin 1) l)
    = ∑ r ∈ Finset.range 4096, row dh r l * (row x r l * scl len (row x r)) * lane g l := by
  rw [val_main_v27_apply, val_main_v26_apply, val_main_cst_6_apply]
  refine col Ideal.ofBits_zero_f32 _ (fun r => row dh r l * (row x r l * scl len (row x r)) * lane g l) fun r => ?_
  have e : idx_main_v14 (ix2 r l) = ix2 (0 : Fin 1) l := by blk_ext
  have e' : idx_main_v22 (ix2 r l) = ix2 r l := by blk_ext
  rw [show idx_main_v26 (idx_main_v27 (ix2 (0 : Fin 1) l)) r = ix2 r l by blk_ext, val_main_v25_apply, val_main_v22_apply, e',
    val_main_v15_apply, v13_at, val_main_v14_apply, e, row_of_lt dh, mul_assoc]
  exact mul_comm _ _

/-- The column sums of the gain's gradient. -/
theorem row2 (l : Fin 1024) : val_main_v32 (F := Ideal) x dh sc (ix2 (0 : Fin 1) l)
    = ∑ r ∈ Finset.range 4096, row dh r l * (row x r l * scl len (row x r)) * (one + lane sc l) := by
  rw [val_main_v32_apply, val_main_v31_apply, val_main_cst_7_apply]
  refine col Ideal.ofBits_zero_f32 _ (fun r => row dh r l * (row x r l * scl len (row x r)) * (one + lane sc l)) fun r => ?_
  rw [show idx_main_v31 (idx_main_v32 (ix2 (0 : Fin 1) l)) r = ix2 r l by blk_ext, val_main_v30_apply, v13_at, v29_at,
    mul_comm (row dh r l) (row x r l * _), mul_assoc]; rfl

/-- The sums over the rows. -/
theorem ref_sums (hx : AllReal x) (hdh : AllReal dh) (hg : AllReal g) (hsc : AllReal sc) :
    val_main_v59 (F := Ideal) x dh dr g sc z = sums x dh dr g sc z := by
  funext i
  obtain ⟨k, l, rfl⟩ : ∃ (k : Fin 8) (l : Fin 1024), i = ix2 k l := ⟨i 0, i 1, by blk_ext⟩
  have h0 : val_main_v24 (F := Ideal) dh (ix2 (0 : Fin 1) l) = sums x dh dr g sc z (ix2 (0 : Fin 8) l) := row0 dh l
  have h1 : val_main_v27 (F := Ideal) x dh g (ix2 (0 : Fin 1) l) = sums x dh dr g sc z (ix2 (1 : Fin 8) l) := row1 x dh g l
  have h2 : val_main_v32 (F := Ideal) x dh sc (ix2 (0 : Fin 1) l) = sums x dh dr g sc z (ix2 (2 : Fin 8) l) := row2 x dh sc l
  have h3 : val_main_v57 (F := Ideal) x dh dr g sc z (ix2 (0 : Fin 1) l) = sums x dh dr g sc z (ix2 (3 : Fin 8) l) := by
    rw [val_main_v57_apply, val_main_v56_apply, val_main_cst_11_apply]
    refine col Ideal.ofBits_zero_f32 _ _ fun r => ?_
    rw [show idx_main_v56 (idx_main_v57 (ix2 (0 : Fin 1) l)) r = ix2 r l by blk_ext, val_main_v55_apply,
      v49_at x dh dr g sc hx hdh hg hsc, val_main_v50_apply]
    show _ = dxRow x dh dr g sc r l * row z r l
    rw [row_of_lt z]; rfl
  have h4 : ∀ q, val_main_v58 (F := Ideal) q = 0 := fun q => by
    rw [val_main_v58_apply, val_main_cst_12_apply]; exact Ideal.ofBits_zero_f32
  have hz : ∀ k : Fin 8, 4 ≤ k.val → sums x dh dr g sc z (ix2 k l) = 0 := fun k hk => by
    refine Finset.sum_eq_zero fun r _ => ?_
    show term x dh dr g sc z k.val r l = 0
    rw [term, if_neg (by omega), if_neg (by omega), if_neg (by omega), if_neg (by omega)]
  unfold val_main_v59
  generalize val_main_v24 (F := Ideal) dh = y0 at *
  generalize val_main_v27 (F := Ideal) x dh g = y1 at *
  generalize val_main_v32 (F := Ideal) x dh sc = y2 at *
  generalize val_main_v57 (F := Ideal) x dh dr g sc z = y3 at *
  generalize val_main_v58 (F := Ideal) = y4 at *
  pointwise
  fin_vals k with hk
  all_goals simp only [hk, Nat.reduceSub, Nat.reduceLT, ↓reduceDIte]
  · obtain rfl : k = 0 := Fin.ext hk; exact h0
  · obtain rfl : k = 1 := Fin.ext hk; exact h1
  · obtain rfl : k = 2 := Fin.ext hk; exact h2
  · obtain rfl : k = 3 := Fin.ext hk; exact h3
  all_goals exact (h4 _).trans (hz k (by omega)).symm

end Cert.Reference15Ideal.Ref
end
-- ==== Proof.ConvPay.lean ====
module

public import Idealize.ShloMosaic.Lib.Pointwise
public import proofs.«01_k».proof.Proof.Gen.KernelIdeal.Skeleton

/-! What the body of the convolution's backward kernel computes from one block of each operand, read at an element. -/

@[expose] public section
set_option maxRecDepth 16384

noncomputable section
namespace Cert.KernelIdeal.ConvPay
open Idealize.ShloMosaic Cert.KernelIdeal Cert.KernelIdeal.Gen

/-- A select on "row `r` is row `k`" is the `if` on the two numbers. -/
theorem select_row {α : Type} (r k : ℕ) (hr : r < 2 ^ 32) (hk : k < 2 ^ 32) (A B : α) :
    Scalar.select (IntOp.cmpi .eq (BitVec.ofNat 32 r) (BitVec.ofNat 32 k)) A B = if r = k then A else B := by
  by_cases h : r = k
  · subst h; simp [Scalar.select, IntOp.cmpi]
  · have : BitVec.ofNat 32 r ≠ BitVec.ofNat 32 k := fun e => h (by
      have := congrArg BitVec.toNat e
      rwa [BitVec.toNat_ofNat, BitVec.toNat_ofNat, Nat.mod_eq_of_lt hr, Nat.mod_eq_of_lt hk] at this)
    have e := beq_eq_false_iff_ne.mpr this
    simp [Scalar.select, IntOp.cmpi, e, h]

/-- A select on "the row block is the first one" is the `if` on the grid point being the last. -/
theorem select_first {α : Type} (n : ℕ) (hn : n < 8) (A B : α) :
    Scalar.select (Scalar.cmpi .eq (Scalar.subi 7#32 (BitVec.ofNat 32 n)) 0#32) A B = if n = 7 then A else B := by
  interval_cases n <;> rfl

/-- The zero the kernel fills its carry with. -/
theorem pay1_at (j : S8x512.Idx) : k0_pay1 (F := Ideal) j = 0 := by
  pointwise [k0_pay1]

/-- The zero the kernel fills the filter gradient with. -/
theorem pay2_at (j : S8x512.Idx) : k0_pay2 (F := Ideal) j = 0 := by
  pointwise [k0_pay2]

/-- The gated product. -/
theorem pay3_at (a b : Vec Ideal S512x512 .f32) (j : S512x512.Idx) : k0_pay3 a b j = a j * b j := by
  pointwise [k0_pay3]

/-- The gated product one row earlier; before the block's first row stands the last row of the rows above. -/
theorem pay5_at (i : grid0.Coords) (a b : Vec Ideal S512x512 .f32) (h g : Vec Ideal S8x512 .f32) (r l : Fin 512) :
    k0_pay5 i a b h g (ix2 r l) = if (r : ℕ) = 0 then (if (i 0 : ℕ) = 7 then 0 else h (ix2 7 l) * g (ix2 7 l))
      else a (ix2 ⟨r - 1, by omega⟩ l) * b (ix2 ⟨r - 1, by omega⟩ l) := by
  have hr := r.isLt
  have hi : (i 0 : ℕ) < 8 := (i 0).isLt
  pointwise [k0_pay5, k0_pay4, k0_pay3]
  rw [select_row _ _ (by omega) (by norm_num), select_first _ hi]
  split_ifs with h0 <;> first | rfl | skip
  have e : (⟨((r : ℕ) + 512 - 1) % 512, Nat.mod_lt _ (by norm_num)⟩ : Fin 512) = ⟨r - 1, by omega⟩ := Fin.ext (by dsimp only; omega)
  rw [e]

/-- The gated product two rows earlier. -/
theorem pay9_at (i : grid0.Coords) (a b : Vec Ideal S512x512 .f32) (h g : Vec Ideal S8x512 .f32) (r l : Fin 512) :
    k0_pay9 (k0_pay6 i a b h g) k0_pay7 (k0_pay8 i h g) (ix2 r l) =
      if (r : ℕ) = 1 then (if (i 0 : ℕ) = 7 then 0 else h (ix2 7 l) * g (ix2 7 l))
      else if (r : ℕ) = 0 then (if (i 0 : ℕ) = 7 then 0 else h (ix2 6 l) * g (ix2 6 l))
      else a (ix2 ⟨r - 2, by omega⟩ l) * b (ix2 ⟨r - 2, by omega⟩ l) := by
  have hr := r.isLt
  have hi : (i 0 : ℕ) < 8 := (i 0).isLt
  pointwise [k0_pay9, k0_pay8, k0_pay7, k0_pay6, k0_pay4, k0_pay3]
  rw [select_row _ _ (by omega) (by norm_num), select_row _ _ (by omega) (by norm_num), select_first _ hi, select_first _ hi]
  split_ifs with h0 h1 h2 <;> first | rfl | skip
  have e : (⟨((r : ℕ) + 512 - 2) % 512, Nat.mod_lt _ (by norm_num)⟩ : Fin 512) = ⟨r - 2, by omega⟩ := Fin.ext (by dsimp only; omega)
  rw [e]

/-- The gradient of the convolution's output. -/
theorem pay10_at (a b : Vec Ideal S512x512 .f32) (j : S512x512.Idx) : k0_pay10 a b j = b j * a j := by
  pointwise [k0_pay10]

/-- The gradient of the gated product: the gradients of this row and of the two after it against the filter; after the
    block's last row stand the carried rows. -/
theorem pay11_at (a b : Vec Ideal S512x512 .f32) (w : Vec Ideal S3x512 .f32) (g : Vec Ideal S8x512 .f32) (r l : Fin 512) :
    k0_pay11 a w b g (ix2 r l) =
      w (ix2 2 l) * (b (ix2 r l) * a (ix2 r l))
      + w (ix2 1 l) * (if h : (r : ℕ) + 1 < 512 then b (ix2 ⟨r + 1, h⟩ l) * a (ix2 ⟨r + 1, h⟩ l) else g (ix2 0 l))
      + w (ix2 0 l) * (if h : (r : ℕ) + 2 < 512 then b (ix2 ⟨r + 2, h⟩ l) * a (ix2 ⟨r + 2, h⟩ l)
          else if (r : ℕ) = 510 then g (ix2 0 l) else g (ix2 1 l)) := by
  have hr := r.isLt
  pointwise [k0_pay11, k0_pay10]
  rw [select_row _ _ (by omega) (by norm_num), select_row _ _ (by omega) (by norm_num), select_row _ _ (by omega) (by norm_num)]
  congr 1
  · congr 2
    by_cases h : (r : ℕ) = 511
    · rw [if_pos h, dif_neg (by omega)]
    · rw [if_neg h, dif_pos (by omega)]
      have e : (⟨((r : ℕ) + 512 - 511) % 512, Nat.mod_lt _ (by norm_num)⟩ : Fin 512) = ⟨r + 1, by omega⟩ := Fin.ext (by dsimp only; omega)
      rw [e]
  · congr 1
    by_cases h : (r : ℕ) = 511
    · rw [if_pos h, dif_neg (by omega), if_neg (by omega)]
    · rw [if_neg h]
      by_cases h' : (r : ℕ) = 510
      · rw [if_pos h', dif_neg (by omega), if_pos h']
      · rw [if_neg h', dif_pos (by omega)]
        have e : (⟨((r : ℕ) + 512 - 510) % 512, Nat.mod_lt _ (by norm_num)⟩ : Fin 512) = ⟨r + 2, by omega⟩ := Fin.ext (by dsimp only; omega)
        rw [e]

/-- The gradient of the outer gate's block. -/
theorem pay12_at (p : FVec Ideal S512x512 .f32) (w : Vec Ideal S3x512 .f32) (p1 p2 : FVec Ideal S512x512 .f32) (k : IVec S512x512 1)
    (q : FVec Ideal S512x512 .f32) (d : Vec Ideal S512x512 .f32) (r l : Fin 512) :
    k0_pay12 p w p1 p2 k q d (ix2 r l) = d (ix2 r l) * (w (ix2 2 l) * p (ix2 r l) + w (ix2 1 l) * p1 (ix2 r l)
      + w (ix2 0 l) * k0_pay9 p2 k q (ix2 r l)) := by
  pointwise [k0_pay12]

/-- The gradient of one factor of the gated product is the other times the product's gradient. -/
theorem pay13_at (a g : FVec Ideal S512x512 .f32) (j : S512x512.Idx) : k0_pay13 (F := Ideal) a g j = g j * a j := by
  pointwise [k0_pay13]

/-- The same for the other factor. -/
theorem pay14_at (a g : FVec Ideal S512x512 .f32) (j : S512x512.Idx) : k0_pay14 (F := Ideal) a g j = g j * a j := by
  pointwise [k0_pay14]

/-- A row of the filter gradient grows by a sum over the block's rows. -/
theorem pay15_at (a b : FVec Ideal S512x512 .f32) (g : FVec Ideal S1x512 .f32) (l : Fin 512) :
    k0_pay15 (F := Ideal) a b g (ix2 0 l) = g (ix2 0 l) + ∑ x : Fin 512, b (ix2 x l) * a (ix2 x l) := by
  pointwise [k0_pay15]

/-- The same for the second row. -/
theorem pay16_at (a b : FVec Ideal S512x512 .f32) (g : FVec Ideal S1x512 .f32) (l : Fin 512) :
    k0_pay16 (F := Ideal) a b g (ix2 0 l) = g (ix2 0 l) + ∑ x : Fin 512, b (ix2 x l) * a (ix2 x l) := by
  pointwise [k0_pay16]

/-- The same for the third row. -/
theorem pay17_at (a b : FVec Ideal S512x512 .f32) (g : FVec Ideal S1x512 .f32) (l : Fin 512) :
    k0_pay17 (F := Ideal) a b g (ix2 0 l) = g (ix2 0 l) + ∑ x : Fin 512, b (ix2 x l) * a (ix2 x l) := by
  pointwise [k0_pay17]

/-- The carry is the first eight rows of the block. -/
theorem pay18_at (a : FVec Ideal S512x512 .f32) (q : Fin 8) (l : Fin 512) :
    k0_pay18 (F := Ideal) a (ix2 q l) = a (ix2 ⟨q, by omega⟩ l) := by
  pointwise [k0_pay18]
  try (congr 1)

end Cert.KernelIdeal.ConvPay
-- ==== Proof.ConvSpec.lean ====
module

public import Idealize.ShloMosaic.Lib.Pointwise

/-! The gradients of the gated causal convolution, entry by entry, over the extended reals. Arrays are read at natural
numbers, with zero outside their extents, so that a shifted row needs no bound. -/

@[expose] public section

noncomputable section
namespace Cert.Conv
open Idealize.ShloMosaic

/-- A two-axis array read at two natural numbers, zero outside. -/
def at2 {n k : ℕ} (x : FVec Ideal (⟨2, ![n, k]⟩ : Shape) .f32) (a b : ℕ) : EReal :=
  if h : a < n ∧ b < k then x (ix2 ⟨a, h.1⟩ ⟨b, h.2⟩) else 0

theorem at2_of_lt {n k : ℕ} (x : FVec Ideal (⟨2, ![n, k]⟩ : Shape) .f32) {a b : ℕ} (ha : a < n) (hb : b < k) :
    at2 x a b = x (ix2 ⟨a, ha⟩ ⟨b, hb⟩) := by rw [at2, dif_pos ⟨ha, hb⟩]

theorem at2_of_ge {n k : ℕ} (x : FVec Ideal (⟨2, ![n, k]⟩ : Shape) .f32) {a b : ℕ} (ha : n ≤ a) :
    at2 x a b = 0 := by rw [at2, dif_neg fun h => absurd h.1 (by omega)]

variable (u : FVec Ideal (⟨2, ![4096, 3584]⟩ : Shape) .f32) (dy : FVec Ideal (⟨2, ![4096, 1024]⟩ : Shape) .f32)
  (w : FVec Ideal (⟨2, ![3, 512]⟩ : Shape) .f32)

/-- The gated product: row `t`, channel `l`. -/
def gated (t l : ℕ) : EReal := at2 u t (512 + l) * at2 u t (1024 + l)

/-- The gated product `k` rows earlier, zero before the first row. -/
def earlier (k t l : ℕ) : EReal := if k ≤ t then gated u (t - k) l else 0

/-- The gradient of the convolution's output. -/
def dconv (t l : ℕ) : EReal := at2 dy t l * at2 u t l

theorem dconv_of_ge {t l : ℕ} (h : 4096 ≤ t) : dconv u dy t l = 0 := by
  rw [dconv, at2_of_ge dy h, zero_mul]

/-- The convolution's output. -/
def conv (t l : ℕ) : EReal := at2 w 2 l * gated u t l + at2 w 1 l * earlier u 1 t l + at2 w 0 l * earlier u 2 t l

/-- The gradient of the gated product. -/
def dgated (t l : ℕ) : EReal :=
  at2 w 2 l * dconv u dy t l + at2 w 1 l * dconv u dy (t + 1) l + at2 w 0 l * dconv u dy (t + 2) l

/-- The gradient of the mixer's input columns. -/
def du (t l : ℕ) : EReal :=
  if l < 512 then at2 dy t l * conv u w t l
  else if l < 1024 then dgated u dy w t (l - 512) * at2 u t (512 + l)
  else dgated u dy w t (l - 1024) * at2 u t (l - 512)

/-- One row's share of the filter's gradient. -/
def dwTerm (k t l : ℕ) : EReal :=
  if k < 3 then dconv u dy t l * earlier u (2 - k) t l else 0

/-- The filter's gradient, its rows after the third zero. -/
def dw (k l : ℕ) : EReal := ∑ t ∈ Finset.range 4096, dwTerm u dy k t l

end Cert.Conv
-- ==== Proof.ConvRef.lean ====
module

public import Idealize.ShloMosaic.Lib.Pointwise
public import proofs.«01_k».proof.Proof.Gen.ReferenceIdeal.Read
public import proofs.«01_k».proof.Proof.ConvSpec

/-! The reference's two results are the convolution's gradients, entry by entry. -/

@[expose] public section
set_option maxRecDepth 16384

noncomputable section
namespace Cert.ReferenceIdeal.ConvRef
open Idealize.ShloMosaic Idealize.ShloMosaic.TcCoe
open Cert.ReferenceIdeal Cert.ReferenceIdeal.Gen Cert.ReferenceIdeal.Read Cert.Conv
variable (x0 : FVec Ideal S4096x3584 .f32) (x1 : FVec Ideal S4096x1024 .f32) (x2 : FVec Ideal S3x512 .f32)

/-- The first group of input columns. -/
theorem v1_at (t : Fin 4096) (l : Fin 512) : val_main_v1 (F := Ideal) x0 (ix2 t l) = at2 x0 t l := by
  rw [at2_of_lt _ t.isLt (by omega)]
  pointwise [val_main_v1, val_main_v0]

/-- The second group of input columns. -/
theorem v2_at (t : Fin 4096) (l : Fin 512) : val_main_v2 (F := Ideal) x0 (ix2 t l) = at2 x0 t (512 + l) := by
  rw [at2_of_lt _ t.isLt (by omega)]
  pointwise [val_main_v2, val_main_v0]

/-- The third group of input columns. -/
theorem v3_at (t : Fin 4096) (l : Fin 512) : val_main_v3 (F := Ideal) x0 (ix2 t l) = at2 x0 t (1024 + l) := by
  rw [at2_of_lt _ t.isLt (by omega)]
  pointwise [val_main_v3, val_main_v0]

/-- The gated product. -/
theorem v4_at (t : Fin 4096) (l : Fin 512) : val_main_v4 (F := Ideal) x0 (ix2 t l) = gated x0 t l := by
  rw [val_main_v4_apply, v2_at, v3_at]; rfl

/-- The gated product with two zero rows above it. -/
theorem v6_at (a : Fin 4098) (l : Fin 512) : val_main_v6 (F := Ideal) x0 (ix2 a l) = earlier x0 2 a l := by
  unfold val_main_v6 earlier
  by_cases h : 2 ≤ (a : ℕ)
  · rw [if_pos h, ← v4_at x0 ⟨a - 2, by omega⟩ l]
    generalize val_main_v4 (F := Ideal) x0 = y
    pointwise [val_main_v5, val_main_cst]
    rw [dif_neg (by omega)]
  · rw [if_neg h]
    generalize val_main_v4 (F := Ideal) x0 = y
    pointwise [val_main_v5, val_main_cst]
    rw [dif_pos (by omega)]

/-- The gated product two rows earlier. -/
theorem v9_at (t : Fin 4096) (l : Fin 512) : val_main_v9 (F := Ideal) x0 (ix2 t l) = earlier x0 2 t l := by
  refine Eq.trans ?_ (v6_at x0 ⟨t, by omega⟩ l)
  unfold val_main_v9
  generalize val_main_v6 (F := Ideal) x0 = y
  pointwise

/-- The gated product one row earlier. -/
theorem v13_at (t : Fin 4096) (l : Fin 512) : val_main_v13 (F := Ideal) x0 (ix2 t l) = earlier x0 1 t l := by
  have e : earlier x0 2 (1 + t) l = earlier x0 1 t l := by
    unfold earlier
    by_cases h : 1 ≤ (t : ℕ)
    · rw [if_pos (by omega), if_pos h, show 1 + (t : ℕ) - 2 = t - 1 by omega]
    · rw [if_neg (by omega), if_neg h]
  refine Eq.trans ?_ ((v6_at x0 ⟨1 + t, by omega⟩ l).trans e)
  unfold val_main_v13
  generalize val_main_v6 (F := Ideal) x0 = y
  pointwise

/-- The gated product. -/
theorem v18_at (t : Fin 4096) (l : Fin 512) : val_main_v18 (F := Ideal) x0 (ix2 t l) = gated x0 t l := by
  have e : earlier x0 2 (2 + t) l = gated x0 t l := by
    rw [earlier, if_pos (by omega), Nat.add_sub_cancel_left]
  refine Eq.trans ?_ ((v6_at x0 ⟨2 + t, by omega⟩ l).trans e)
  unfold val_main_v18
  generalize val_main_v6 (F := Ideal) x0 = y
  pointwise

/-- The filter's three rows, spread over the tokens. -/
theorem v10_at (t : Fin 4096) (l : Fin 512) : val_main_v10 (F := Ideal) x2 (ix2 t l) = at2 x2 0 l := by
  rw [at2_of_lt _ (by omega) (by omega)]
  pointwise [val_main_v10, val_main_v8]

theorem v14_at (t : Fin 4096) (l : Fin 512) : val_main_v14 (F := Ideal) x2 (ix2 t l) = at2 x2 1 l := by
  rw [at2_of_lt _ (by omega) (by omega)]
  pointwise [val_main_v14, val_main_v12]

theorem v19_at (t : Fin 4096) (l : Fin 512) : val_main_v19 (F := Ideal) x2 (ix2 t l) = at2 x2 2 l := by
  rw [at2_of_lt _ (by omega) (by omega)]
  pointwise [val_main_v19, val_main_v17]

/-- The output's gradient, its columns for this mixer. -/
theorem v23_at (t : Fin 4096) (l : Fin 512) : val_main_v23 (F := Ideal) x1 (ix2 t l) = at2 x1 t l := by
  rw [at2_of_lt _ t.isLt (by omega)]
  pointwise [val_main_v23]

/-- The convolution. -/
theorem v21_at (t : Fin 4096) (l : Fin 512) : val_main_v21 (F := Ideal) x0 x2 (ix2 t l) = conv x0 x2 t l := by
  rw [val_main_v21_apply, val_main_v16_apply, val_main_v11_apply, val_main_v15_apply, val_main_v20_apply, v9_at, v13_at,
    v18_at, v10_at, v14_at, v19_at]
  show at2 x2 0 l * earlier x0 2 t l + at2 x2 1 l * earlier x0 1 t l + at2 x2 2 l * gated x0 t l = _
  rw [conv, add_comm, add_comm (at2 x2 0 l * _), add_assoc]

/-- The gradient of the convolution's output. -/
theorem v24_at (t : Fin 4096) (l : Fin 512) : val_main_v24 (F := Ideal) x0 x1 (ix2 t l) = dconv x0 x1 t l := by
  rw [val_main_v24_apply, v1_at, v23_at]
  exact mul_comm (at2 x0 t l) _

/-- A filter row times the gradient of the convolution's output, past the last token too. -/
theorem tap (k : ℕ) (t : ℕ) (l : Fin 512) (y : FVec Ideal S4096x512 .f32)
    (hy : ∀ (a : Fin 4096), y (ix2 a l) = at2 x2 k l * dconv x0 x1 a l) :
    (if h : t < 4096 then y (ix2 ⟨t, h⟩ l) else 0) = at2 x2 k l * dconv x0 x1 t l := by
  by_cases h : t < 4096
  · rw [dif_pos h, hy]
  · rw [dif_neg h, dconv_of_ge _ _ (by omega), mul_zero]

theorem v27_at (t : Fin 4096) (l : Fin 512) :
    val_main_v27 (F := Ideal) x0 x1 x2 (ix2 t l) = at2 x2 2 l * dconv x0 x1 t l := by
  rw [val_main_v27_apply, v24_at, show val_main_v26 (F := Ideal) x2 (ix2 t l) = _ from v19_at x2 t l]; rfl

theorem v34_at (t : Fin 4096) (l : Fin 512) :
    val_main_v34 (F := Ideal) x0 x1 x2 (ix2 t l) = at2 x2 1 l * dconv x0 x1 t l := by
  rw [val_main_v34_apply, v24_at, show val_main_v33 (F := Ideal) x2 (ix2 t l) = _ from v14_at x2 t l]; rfl

theorem v43_at (t : Fin 4096) (l : Fin 512) :
    val_main_v43 (F := Ideal) x0 x1 x2 (ix2 t l) = at2 x2 0 l * dconv x0 x1 t l := by
  rw [val_main_v43_apply, v24_at, show val_main_v42 (F := Ideal) x2 (ix2 t l) = _ from v10_at x2 t l]; rfl

/-- The gradient of the gated product. -/
theorem v52_at (t : Fin 4096) (l : Fin 512) :
    val_main_v52 (F := Ideal) x0 x1 x2 (ix2 t l) = dgated x0 x1 x2 t l := by
  have e2 := tap x0 x1 x2 2 t l _ fun a => v27_at x0 x1 x2 a l
  have e1 := tap x0 x1 x2 1 (t + 1) l _ fun a => v34_at x0 x1 x2 a l
  have e0 := tap x0 x1 x2 0 (t + 2) l _ fun a => v43_at x0 x1 x2 a l
  rw [dgated, ← e2, ← e1, ← e0]
  unfold val_main_v52 val_main_v48 val_main_v39 val_main_v31 val_main_v38 val_main_v47
  generalize val_main_v27 (F := Ideal) x0 x1 x2 = y2
  generalize val_main_v34 (F := Ideal) x0 x1 x2 = y1
  generalize val_main_v43 (F := Ideal) x0 x1 x2 = y0
  pointwise [val_main_cst_2, val_main_cst_5, val_main_cst_8]
  refine congrArg₂ (· + ·) (congrArg₂ (· + ·) rfl ?_) ?_
  · by_cases h : (t : ℕ) + 1 < 4096
    · rw [dif_pos (by omega), dif_pos h]; congr 2; apply Fin.ext; show 2 + (t : ℕ) - 1 = t + 1; omega
    · rw [dif_neg (by omega), dif_neg h]
  · by_cases h : (t : ℕ) + 2 < 4096
    · rw [dif_pos (by omega), dif_pos h]; congr 2; apply Fin.ext; show 2 + (t : ℕ) = t + 2; omega
    · rw [dif_neg (by omega), dif_neg h]

/-- The first result: the gradient of the mixer's input columns. -/
theorem v60_at (t : Fin 4096) (l : Fin 1536) :
    val_main_v60 (F := Ideal) x0 x1 x2 (ix2 t l) = du x0 x1 x2 t l := by
  have e53 (l : Fin 512) : val_main_v53 (F := Ideal) x0 x1 x2 (ix2 t l) = dgated x0 x1 x2 t l * at2 x0 t (512 + l) := by
    rw [val_main_v53_apply, v2_at, v52_at]; exact mul_comm (at2 x0 t (512 + l)) _
  have e54 (l : Fin 512) : val_main_v54 (F := Ideal) x0 x1 x2 (ix2 t l) = dgated x0 x1 x2 t l * at2 x0 t (1024 + l) := by
    rw [val_main_v54_apply, v3_at, v52_at]; rfl
  have e25 (l : Fin 512) : val_main_v25 (F := Ideal) x0 x1 x2 (ix2 t l) = at2 x1 t l * conv x0 x2 t l := by
    rw [val_main_v25_apply, v23_at, v21_at]; rfl
  unfold val_main_v60 val_main_v59 val_main_v57 val_main_v55 val_main_v56 val_main_v58
  generalize val_main_v53 (F := Ideal) x0 x1 x2 = y1 at *
  generalize val_main_v54 (F := Ideal) x0 x1 x2 = y2 at *
  generalize val_main_v25 (F := Ideal) x0 x1 x2 = y3 at *
  pointwise [val_main_cst_10, val_main_cst_11, val_main_cst_12]
  unfold du
  by_cases h1 : (l : ℕ) < 512
  · rw [dif_neg (by omega), dif_neg (by omega), dif_pos h1, if_pos h1, add_zero, zero_add, e25]
  rw [dif_neg h1, if_neg h1, add_zero]
  by_cases h2 : (l : ℕ) < 1024
  · rw [dif_neg (by omega), dif_pos (by omega), if_pos h2, zero_add, e54]
    show dgated x0 x1 x2 t ((l : ℕ) - 512) * at2 x0 t (1024 + ((l : ℕ) - 512)) = _
    rw [show 1024 + ((l : ℕ) - 512) = 512 + l by omega]
  · rw [dif_pos (by omega), dif_neg (by omega), if_neg h2, add_zero, e53]
    show dgated x0 x1 x2 t ((l : ℕ) - 1024) * at2 x0 t (512 + ((l : ℕ) - 1024)) = _
    rw [show 512 + ((l : ℕ) - 1024) = l - 512 by omega]

/-- A channel's sum over the tokens. -/
theorem channel_sum (y : FVec Ideal S4096x512 .f32) (k : ℕ) (l : Fin 512)
    (h : ∀ t : Fin 4096, y (ix2 t l) = dwTerm x0 x1 k t l) : ∑ t : Fin 4096, y (ix2 t l) = dw x0 x1 k l := by
  rw [dw, Finset.sum_range]
  exact Finset.sum_congr rfl fun t _ => h t

/-- The second result: the filter's gradient. -/
theorem v61_at (k : Fin 8) (l : Fin 512) :
    val_main_v61 (F := Ideal) x0 x1 (ix2 k l) = dw x0 x1 k l := by
  have e30 : val_main_v30 (F := Ideal) x0 x1 (ix2 0 l) = dw x0 x1 2 l := by
    refine Eq.trans ?_ (channel_sum x0 x1 (val_main_v28 (F := Ideal) x0 x1) 2 l fun t => by
      rw [val_main_v28_apply, v24_at, v18_at]; rfl)
    unfold val_main_v30 val_main_v29
    generalize val_main_v28 (F := Ideal) x0 x1 = y at *
    pointwise [val_main_cst_1]
  have e37 : val_main_v37 (F := Ideal) x0 x1 (ix2 0 l) = dw x0 x1 1 l := by
    refine Eq.trans ?_ (channel_sum x0 x1 (val_main_v35 (F := Ideal) x0 x1) 1 l fun t => by
      rw [val_main_v35_apply, v24_at, v13_at]; rfl)
    unfold val_main_v37 val_main_v36
    generalize val_main_v35 (F := Ideal) x0 x1 = y at *
    pointwise [val_main_cst_4]
  have e46 : val_main_v46 (F := Ideal) x0 x1 (ix2 0 l) = dw x0 x1 0 l := by
    refine Eq.trans ?_ (channel_sum x0 x1 (val_main_v44 (F := Ideal) x0 x1) 0 l fun t => by
      rw [val_main_v44_apply, v24_at, v9_at]; rfl)
    unfold val_main_v46 val_main_v45
    generalize val_main_v44 (F := Ideal) x0 x1 = y at *
    pointwise [val_main_cst_7]
  unfold val_main_v61 val_main_v50 val_main_v49 val_main_v41 val_main_v40 val_main_v32
  generalize val_main_v30 (F := Ideal) x0 x1 = y2 at *
  generalize val_main_v37 (F := Ideal) x0 x1 = y1 at *
  generalize val_main_v46 (F := Ideal) x0 x1 = y0 at *
  pointwise [val_main_cst_3, val_main_cst_6, val_main_cst_9, val_main_call0_v0, val_main_c]
  obtain ⟨k, hk⟩ := k
  by_cases h3 : k < 3
  · rw [dif_pos h3]
    interval_cases k
    · rw [dif_neg (by simp), dif_neg (by simp), dif_pos (by simp), zero_add, zero_add]; exact e46
    · rw [dif_neg (by simp), dif_pos (by simp), dif_neg (by simp), zero_add, add_zero]; exact e37
    · rw [dif_pos (by simp), dif_neg (by simp), dif_neg (by simp), add_zero, add_zero]; exact e30
  · rw [dif_neg h3, dw, Finset.sum_eq_zero fun t _ => by rw [dwTerm, if_neg h3]]
    show (((0#32 : BitVec 32).toInt : ℝ) : EReal) = 0
    norm_num

end Cert.ReferenceIdeal.ConvRef
-- ==== Proof.ConvFwd.lean ====
module

public import Idealize.ShloMosaic.Lib.Pointwise
public import Idealize.ShloMosaic.Lib.Pipeline.ValueKit
public import Idealize.ShloMosaic.Lib.Pipeline.ReadBack
public import proofs.«01_k».proof.Proof.Gen.Kernel17Ideal.Value
public import proofs.«01_k».proof.Proof.Gen.Reference17Ideal.Run
public import proofs.«01_k».proof.Proof.Gen.Reference17Ideal.Read
public import proofs.«01_k».proof.Proof.ConvPay
public import proofs.«01_k».proof.Proof.ConvRef

@[expose] public section
set_option maxRecDepth 16384

noncomputable section
namespace Cert.Kernel17Ideal.Blk
open Idealize.ShloMosaic Idealize.ShloMosaic.TcCoe Idealize.SL.Sem
open Cert.Kernel17Ideal Cert.Kernel17Ideal.Gen Cert.Conv
variable (m : (ℓ : Loc nD τ sig) → Buf (Elt Ideal) ℓ)

/-- The gated convolution, rounded to sixteen bits. -/
def out (u : FVec Ideal S4096x3584 .f32) (w : FVec Ideal S3x512 .f32) : FVec Ideal S4096x512 .bf16 :=
  fun i => at2 u (i 0).val (i 1).val * conv u w (i 0).val (i 1).val

/-- The call's arguments. -/
abbrev U (c : Dev nD) : FVec Ideal S4096x3584 .f32 := m ((c : Thread nD τ).loc main_arg0)
abbrev W (c : Dev nD) : FVec Ideal S3x512 .f32 := m ((c : Thread nD τ).loc main_arg1)

/-- The zero the kernel fills its carry with. -/
theorem pay3_at (j : S8x512.Idx) : k0_pay3 (F := Ideal) j = 0 := by pointwise [k0_pay3]

/-- The gated product. -/
theorem pay4_at (a b : FVec Ideal S512x512 .f32) (j : S512x512.Idx) : k0_pay4 (F := Ideal) a b j = a j * b j := by pointwise [k0_pay4]

/-- The carry is the last eight rows of the block. -/
theorem pay2_at (a : FVec Ideal S512x512 .f32) (q : Fin 8) (l : Fin 512) :
    k0_pay2 (F := Ideal) a (ix2 q l) = a (ix2 ⟨504 + q, by omega⟩ l) := by pointwise [k0_pay2]

/-- The convolution of a block: before the block's first row stand the carried rows. -/
theorem pay5_at (a b : FVec Ideal S512x512 .f32) (p : FVec Ideal S8x512 .f32) (w : FVec Ideal S3x512 .f32) (r l : Fin 512) :
    k0_pay5 (F := Ideal) a b p w (ix2 r l)
      = w (ix2 2 l) * k0_pay4 (F := Ideal) a b (ix2 r l)
        + w (ix2 1 l) * (if (r : ℕ) = 0 then p (ix2 7 l) else k0_pay4 (F := Ideal) a b (ix2 ⟨r - 1, by omega⟩ l))
        + w (ix2 0 l) * (if (r : ℕ) = 1 then p (ix2 7 l) else if (r : ℕ) = 0 then p (ix2 6 l)
            else k0_pay4 (F := Ideal) a b (ix2 ⟨r - 2, by omega⟩ l)) := by
  have hr := r.isLt
  unfold k0_pay5
  generalize k0_pay4 (F := Ideal) a b = y
  pointwise
  rw [Cert.KernelIdeal.ConvPay.select_row _ _ (by omega) (by norm_num), Cert.KernelIdeal.ConvPay.select_row _ _ (by omega) (by norm_num),
    Cert.KernelIdeal.ConvPay.select_row _ _ (by omega) (by norm_num)]
  congr 1
  · congr 2
    split_ifs with h
    · rfl
    have e : (⟨((r : ℕ) + 512 - 1) % 512, Nat.mod_lt _ (by norm_num)⟩ : Fin 512) = ⟨r - 1, by omega⟩ := Fin.ext (by dsimp only; omega)
    rw [e]
  · congr 1
    split_ifs with h h'
    · rfl
    · rfl
    have e : (⟨((r : ℕ) + 512 - 2) % 512, Nat.mod_lt _ (by norm_num)⟩ : Fin 512) = ⟨r - 2, by omega⟩ := Fin.ext (by dsimp only; omega)
    rw [e]

/-- The block's result. -/
theorem pay1_at (a b : FVec Ideal S512x512 .f32) (j : S512x512.Idx) : k0_pay1 (F := Ideal) b a j = a j * b j := by pointwise [k0_pay1]

/-- Where each window's block lies at each grid point. -/
theorem idx : ∀ t : Fin cfg0.N, win0_0.index t = ![t.val, 0] ∧ win0_1.index t = ![t.val, 1] ∧ win0_2.index t = ![t.val, 2]
    ∧ win0_3.index t = ![0, 0] ∧ win0_4.index t = ![t.val, 0] ∧ t.val < 8 :=
  (by decide +kernel : ∀ t : Fin grid0.N, _)

theorem lt8 (t : Fin cfg0.N) : t.val < 8 := (idx t).2.2.2.2.2

theorem blk0 (c : Dev nD) (t : Fin cfg0.N) (r l : Fin 512) :
    (iblk m c 0 t : FVec Ideal S512x512 .f32) (ix2 r l) = at2 (U m c) (512 * t.val + r) l := by
  have := lt8 t
  rw [at2_of_lt _ (by omega) (by omega)]
  blk_ext [iblk, V, idx t]

theorem blk1 (c : Dev nD) (t : Fin cfg0.N) (r l : Fin 512) :
    (iblk m c 1 t : FVec Ideal S512x512 .f32) (ix2 r l) = at2 (U m c) (512 * t.val + r) (512 + l) := by
  have := lt8 t
  rw [at2_of_lt _ (by omega) (by omega)]
  blk_ext [iblk, V, idx t]

theorem blk2 (c : Dev nD) (t : Fin cfg0.N) (r l : Fin 512) :
    (iblk m c 2 t : FVec Ideal S512x512 .f32) (ix2 r l) = at2 (U m c) (512 * t.val + r) (1024 + l) := by
  have := lt8 t
  rw [at2_of_lt _ (by omega) (by omega)]
  blk_ext [iblk, V, idx t]

theorem blk3 (c : Dev nD) (t : Fin cfg0.N) (q : Fin 3) (l : Fin 512) :
    (iblk m c 3 t : FVec Ideal S3x512 .f32) (ix2 q l) = at2 (W m c) q l := by
  rw [at2_of_lt _ q.isLt l.isLt]
  blk_ext [iblk, V, idx t]

/-- The block's gated product. -/
theorem gated_blk (c : Dev nD) (t : Fin cfg0.N) (r l : Fin 512) :
    k0_pay4 (F := Ideal) (iblk m c 1 t) (iblk m c 2 t) (ix2 r l) = gated (U m c) (512 * t.val + r) l := by
  rw [pay4_at, gated]
  exact congrArg₂ (· * ·) (blk1 m c t r l) (blk2 m c t r l)

/-- The carried rows after a point are the last rows of its row block. -/
theorem carry (c : Dev nD) (t : Fin cfg0.N) (q : Fin 8) (l : Fin 512) :
    (outsAt0 m c t.val t.isLt).2 (ix2 q l) = gated (U m c) (512 * t.val + (504 + q)) l := by
  refine Eq.trans ?_ (gated_blk m c t ⟨504 + q, by omega⟩ l)
  refine Eq.trans ?_ (pay2_at _ q l)
  by_cases h : t.val % 8 = 0
  · rw [outsAt0_A m c t h]; dsimp only; frame_out
  · rw [outsAt0_B m c t h]; dsimp only; frame_out

/-- The rows a point finds carried are the rows before its row block: zero before the first row. -/
def prevRows (c : Dev nD) (t : Fin cfg0.N) : FVec Ideal S8x512 .f32 :=
  if t.val % 8 = 0 then k0_pay3 else (outsAt0 m c (t.val - 1) (Nat.lt_of_le_of_lt (Nat.sub_le _ _) t.isLt)).2

/-- They are the gated product at those rows. -/
theorem prevRows_at (c : Dev nD) (t : Fin cfg0.N) (q : Fin 8) (l : Fin 512) (k r : ℕ) (h : r + 8 = k + q) (hr : r < k) :
    prevRows m c t (ix2 q l) = earlier (U m c) k (512 * t.val + r) l := by
  have ht := lt8 t
  unfold prevRows earlier
  by_cases h0 : t.val % 8 = 0
  · rw [if_pos h0, pay3_at, if_neg (by omega)]
  · rw [if_neg h0, if_pos (by omega)]
    refine (carry m c ⟨t.val - 1, Nat.lt_of_le_of_lt (Nat.sub_le _ _) t.isLt⟩ q l).trans ?_
    congr 1; dsimp only; omega

/-- The block's convolution. -/
theorem conv_blk (c : Dev nD) (t : Fin cfg0.N) (r l : Fin 512) :
    k0_pay5 (F := Ideal) (iblk m c 1 t) (iblk m c 2 t) (prevRows m c t) (iblk m c 3 t) (ix2 r l)
      = conv (U m c) (W m c) (512 * t.val + r) l := by
  rw [pay5_at, conv]
  refine congrArg₂ (· + ·) (congrArg₂ (· + ·) (congrArg₂ (· * ·) (blk3 m c t 2 l) (gated_blk m c t r l))
    (congrArg₂ (· * ·) (blk3 m c t 1 l) ?_)) (congrArg₂ (· * ·) (blk3 m c t 0 l) ?_)
  · split_ifs with h
    · exact prevRows_at m c t 7 l 1 r (by omega) (by omega)
    · rw [gated_blk, earlier, if_pos (by omega)]; congr 1; dsimp only; omega
  · split_ifs with h h'
    · exact prevRows_at m c t 7 l 2 r (by omega) (by omega)
    · exact prevRows_at m c t 6 l 2 r (by omega) (by omega)
    · rw [gated_blk, earlier, if_pos (by omega)]; congr 1; dsimp only; omega

/-- What a point leaves in the result's block. -/
theorem point (c : Dev nD) (t : Fin cfg0.N) (r l : Fin 512) :
    (outsAt0 m c t.val t.isLt).1 (ix2 r l) = at2 (U m c) (512 * t.val + r) l * conv (U m c) (W m c) (512 * t.val + r) l := by
  refine Eq.trans ?_ (congrArg₂ (· * ·) (blk0 m c t r l) (conv_blk m c t r l))
  refine Eq.trans ?_ (pay1_at _ _ (ix2 r l))
  unfold prevRows
  by_cases h : t.val % 8 = 0
  · rw [outsAt0_A m c t h, if_pos h]; dsimp only; frame_out
  · rw [outsAt0_B m c t h, if_neg h]; dsimp only; frame_out; simp only [read_unread_whole]

/-- The array after the run. -/
theorem final (c : Dev nD) : (dats m 0 c).arrAt 4 cfg0.N = out (U m c) (W m c) := by
  refine (dats m 0 c).arrAt_eq_of_covers 4 _ (by decide +kernel) fun t hf y => ?_
  blk_simp
  rw [after0_4]
  obtain ⟨r, l, rfl⟩ : ∃ r l : Fin 512, y = ix2 r l := ⟨y 0, y 1, by blk_ext⟩
  refine (point m c t r l).trans ?_
  unfold out
  blk_simp [idx t]
  rw [Nat.mul_comm]

end Cert.Kernel17Ideal.Blk

namespace Cert.Reference17Ideal.Ref
open Idealize.ShloMosaic Cert.Reference17Ideal Cert.Reference17Ideal.Read Cert.Conv

/-- The reference's result is that one: its convolution is the one the backward reference differentiates. -/
theorem ref_eq (u : FVec Ideal Cert.Kernel17Ideal.S4096x3584 .f32) (w : FVec Ideal Cert.Kernel17Ideal.S3x512 .f32) :
    val_main_v22 (F := Ideal) u w = Cert.Kernel17Ideal.Blk.out u w := by
  funext i
  obtain ⟨t, l, rfl⟩ : ∃ (t : Fin 4096) (l : Fin 512), i = ix2 t l := ⟨i 0, i 1, by blk_ext⟩
  rw [val_main_v22_apply, val_main_v21_apply]
  exact congrArg₂ (fun a b : EReal => a * b) (Cert.ReferenceIdeal.ConvRef.v1_at u t l) (Cert.ReferenceIdeal.ConvRef.v21_at u w t l)

end Cert.Reference17Ideal.Ref
end
-- ==== Proof.HeadSpec.lean ====
module

public import Idealize.ShloMosaic.Lib.Pointwise
public import proofs.«01_k».proof.Proof.NormSpec
public import proofs.«01_k».proof.Proof.ConvSpec
public import proofs.«01_k».proof.Proof.Finite

/-! The norm of each head's sixty-four columns, and the sums over a head as products with a matrix of zeros and ones. -/

@[expose] public section

noncomputable section
namespace Cert.Head
open Idealize.ShloMosaic Cert.Norm Cert.Conv Cert.Finite

/-- The width of a head. -/
def wid : EReal := Ideal.ofBits .f32 0x42800000#32

theorem wid_eq : wid = ((64 : ℝ) : EReal) := by
  unfold wid; simp [Ideal.ofBits, Ideal.ieee, -EReal.coe_mul]; norm_num

/-- The product with the reciprocal of the width is the quotient by it. -/
theorem mul_inv (a : EReal) : a * Ideal.ofBits .f32 0x3C800000#32 = Ideal.div a wid := by
  have e : Ideal.ofBits .f32 0x3C800000#32 = ((1 / 64 : ℝ) : EReal) := by
    simp [Ideal.ofBits, Ideal.ieee, -EReal.coe_mul]; norm_num
  rw [wid_eq, Ideal.div_coe (by norm_num), e]

/-- One where two columns of a pair of heads lie in the same head. -/
def same (k l : Fin 128) : EReal := if 64 ≤ k.val ↔ 64 ≤ l.val then 1 else 0

/-- Column `j` of the head of column `l`, in a pair of heads. -/
def mate (l : Fin 128) (j : Fin 64) : Fin 128 := ⟨64 * (l.val / 64) + j.val, by omega⟩

/-- The product with the matrix sums over the column's head. -/
theorem pair_sum (f : Fin 128 → EReal) (l : Fin 128) : ∑ k, f k * same k l = ∑ j, f (mate l j) := by
  rw [Fin.sum_univ_add (a := 64) (b := 64)]
  by_cases h : 64 ≤ l.val
  · rw [Finset.sum_eq_zero fun j _ => ?_, zero_add]
    · refine Finset.sum_congr rfl fun j _ => ?_
      have : same (Fin.natAdd 64 j) l = 1 := if_pos (by simp [h])
      rw [this, mul_one]
      exact congrArg f (Fin.ext (by simp only [mate, Fin.natAdd]; omega))
    · have : same (Fin.castAdd 64 j) l = 0 := if_neg (by simp only [Fin.val_castAdd]; omega)
      rw [this, mul_zero]
  · rw [add_comm, Finset.sum_eq_zero fun j _ => ?_, zero_add]
    · refine Finset.sum_congr rfl fun j _ => ?_
      have : same (Fin.castAdd 64 j) l = 1 := if_pos (by simp only [Fin.val_castAdd]; omega)
      rw [this, mul_one]
      exact congrArg f (Fin.ext (by simp only [mate, Fin.val_castAdd]; omega))
    · have : same (Fin.natAdd 64 j) l = 0 := if_neg (by simp only [Fin.val_natAdd]; omega)
      rw [this, mul_zero]

/-- The matrix applied to a row and to what rounding left of it, nothing for real numbers, gives the head's mean. -/
theorem pair_mean (f : Fin 128 → EReal) (hf : ∀ k, ∃ a : ℝ, f k = ↑a) (l : Fin 128) :
    (∑ k, f k * same k l + ∑ k, (f k - f k) * same k l) * Ideal.ofBits .f32 0x3C800000#32
      = Ideal.div (∑ j, f (mate l j)) wid := by
  rw [mul_inv, pair_sum, Finset.sum_eq_zero (s := Finset.univ) (f := fun k => (f k - f k) * same k l) fun k _ => ?_, add_zero]
  obtain ⟨a, ha⟩ := hf k
  rw [ha, ← EReal.coe_sub, sub_self, EReal.coe_zero, zero_mul]

section
variable {n w : ℕ} (x : FVec Ideal (⟨2, ![n, w]⟩ : Shape) .f32)

/-- Head `h` of row `r`. -/
def hd (r h : ℕ) : Fin 64 → EReal := fun j => at2 x r (64 * h + j)

/-- Row `r`, column `k`, over the root mean square of the column's head. -/
def unit (r k : ℕ) : EReal := at2 x r k * scl wid (hd x r (k / 64))

end

/-- The queries' and keys' columns hold real numbers. -/
def RealQk (x : FVec Ideal (⟨2, ![4096, 3072]⟩ : Shape) .f32) : Prop := ∀ r k : ℕ, k < 2048 → ∃ a : ℝ, at2 x r k = ↑a

section
variable (x : FVec Ideal (⟨2, ![4096, 3072]⟩ : Shape) .f32) (g : FVec Ideal (⟨2, ![1, 1024]⟩ : Shape) .f32)

/-- The queries: normed by head, times the gain and the scale of the logits. -/
def qOut : FVec Ideal (⟨2, ![4096, 1024]⟩ : Shape) .bf16 :=
  fun i => unit x (i 0).val (i 1).val * at2 g 0 (i 1).val * Ideal.ofBits .f32 0x3E38AA3B#32

/-- The keys: normed by head, times the gain. -/
def kOut : FVec Ideal (⟨2, ![4096, 1024]⟩ : Shape) .bf16 :=
  fun i => unit x (i 0).val (1024 + (i 1).val) * at2 g 0 (i 1).val

/-- The values. -/
def vOut : FVec Ideal (⟨2, ![4096, 1024]⟩ : Shape) .bf16 := fun i => at2 x (i 0).val (2048 + (i 1).val)

end
end Cert.Head
end
-- ==== Proof.QkNorm.lean ====
module

public import Idealize.ShloMosaic.Lib.Pointwise
public import Idealize.ShloMosaic.Lib.Pipeline.ValueKit
public import Idealize.ShloMosaic.Lib.Pipeline.ReadBack
public import proofs.«01_k».proof.Proof.Gen.Kernel19Ideal.Value
public import proofs.«01_k».proof.Proof.HeadSpec

@[expose] public section
set_option maxRecDepth 16384

noncomputable section
namespace Cert.Kernel19Ideal.Blk
open Idealize.ShloMosaic Idealize.ShloMosaic.TcCoe Idealize.SL.Sem
open Cert.Kernel19Ideal Cert.Kernel19Ideal.Gen Cert.Norm Cert.Conv Cert.Head
variable (m : (ℓ : Loc nD τ sig) → Buf (Elt Ideal) ℓ)

/-- The call's arguments. -/
abbrev X (c : Dev nD) : FVec Ideal S4096x3072 .f32 := m ((c : Thread nD τ).loc main_arg0)
abbrev QN (c : Dev nD) : FVec Ideal S1x1024 .f32 := m ((c : Thread nD τ).loc main_arg1)
abbrev KN (c : Dev nD) : FVec Ideal S1x1024 .f32 := m ((c : Thread nD τ).loc main_arg2)

/-- The matrix's bits. -/
theorem bits : ∀ k l : Fin 128, BitVec.setWidth 32 (IntOp.xori (IntOp.xori (IntOp.cmpi CmpIPredicate.sge (BitVec.ofNat 32 k) 64#32)
    (IntOp.cmpi CmpIPredicate.sge (BitVec.ofNat 32 l) 64#32)) 1#1) = if 64 ≤ k.val ↔ 64 ≤ l.val then 1#32 else 0#32 := by
  decide +kernel

/-- The matrix of zeros and ones. -/
theorem pay1_at (k l : Fin 128) : k0_pay1 (F := Ideal) (ix2 k l) = same k l := by
  pointwise [k0_pay1]
  rw [bits, same]
  split
  · show ((((1#32 : BitVec 32).toInt : ℝ)) : EReal) = 1; norm_num
  · show ((((0#32 : BitVec 32).toInt : ℝ)) : EReal) = 0; norm_num

section payloads
variable (v : FVec Ideal S256x128 .f32) (g : FVec Ideal S1x128 .f32) (r : Fin 256) (l : Fin 128) (hv : ∀ k, ∃ a : ℝ, v (ix2 r k) = ↑a)
include hv

/-- The squares of a pair of heads are real, so their mean is that of the column's head. -/
theorem mean_at : (∑ k, v (ix2 r k) * v (ix2 r k) * same k l
      + ∑ k, (v (ix2 r k) * v (ix2 r k) - v (ix2 r k) * v (ix2 r k)) * same k l) * Ideal.ofBits .f32 0x3C800000#32
    = Ideal.div (∑ j, v (ix2 r (mate l j)) * v (ix2 r (mate l j))) wid :=
  pair_mean (fun k => v (ix2 r k) * v (ix2 r k)) (fun k => by obtain ⟨a, e⟩ := hv k; exact ⟨a * a, by rw [e, EReal.coe_mul]⟩) l

/-- A pair of heads of the queries. -/
theorem pay2_at : k0_pay2 (F := Ideal) v g (ix2 r l)
    = v (ix2 r l) * scl wid (fun j => v (ix2 r (mate l j))) * g (ix2 (0 : Fin 1) l) * Ideal.ofBits .f32 0x3E38AA3B#32 := by
  unfold scl meanSq eps
  rw [← mean_at v r l hv]
  simp only [← pay1_at]
  unfold k0_pay2
  generalize k0_pay1 (F := Ideal) = y
  pointwise

/-- A pair of heads of the keys. -/
theorem pay18_at : k0_pay18 (F := Ideal) k0_pay1 v g (ix2 r l)
    = v (ix2 r l) * scl wid (fun j => v (ix2 r (mate l j))) * g (ix2 (0 : Fin 1) l) := by
  unfold scl meanSq eps
  rw [← mean_at v r l hv]
  simp only [← pay1_at]
  unfold k0_pay18
  generalize k0_pay1 (F := Ideal) = y
  pointwise

end payloads

/-- The columns of a block from column `o` on. -/
theorem ld_at {n : ℕ} (x : FVec Ideal (⟨2, ![n, 1024]⟩ : Shape) .f32) (o : ℕ) (i) (r : Fin n) (l : Fin 128) :
    View.ld (Val := Elt Ideal) (e' := .f32) (S := (⟨2, ![n, 1024]⟩ : Shape)) x (Rect.unit ![0, o] ![n, 128] i) (ix2 r l) = at2 x r (o + l) := by
  have h : o + 128 ≤ 1024 := i 1
  rw [at2_of_lt _ r.isLt (by omega)]
  exact View.ld_unit_apply_of _ _ _ _ _ _ (Fin.forall_fin_two.mpr ⟨(Nat.zero_add _).symm, rfl⟩)

/-- The columns of a pair of heads, at an even head. -/
theorem group (x : FVec Ideal S256x1024 .f32) (r : Fin 256) (o : ℕ) (ho : o % 128 = 0) (l : Fin 128) :
    at2 x r (o + l) * scl wid (fun j => at2 x r (o + (mate l j).val)) = unit x r (o + l) := by
  unfold unit
  refine congrArg (fun f => at2 x r (o + l) * scl wid f) (funext fun j => ?_)
  show at2 x r (o + (64 * (l.val / 64) + j.val)) = at2 x r (64 * ((o + l.val) / 64) + j.val)
  congr 1; omega

/-- A pair of heads of the queries, in its block. -/
theorem q_piece (x : FVec Ideal S256x1024 .f32) (g : FVec Ideal S1x1024 .f32) (r : Fin 256) (hx : ∀ k, k < 1024 → ∃ a : ℝ, at2 x r k = ↑a)
    (o : ℕ) (ho : o % 128 = 0) (i i') (l : Fin 128) :
    k0_pay2 (F := Ideal) (View.ld (Val := Elt Ideal) (e' := .f32) (S := S256x1024) x (Rect.unit ![0, o] ![256, 128] i)) (View.ld (Val := Elt Ideal) (e' := .f32) (S := S1x1024) g (Rect.unit ![0, o] ![1, 128] i')) (ix2 r l)
      = unit x r (o + l) * at2 g 0 (o + l) * Ideal.ofBits .f32 0x3E38AA3B#32 := by
  have h : o + 128 ≤ 1024 := i 1
  refine (pay2_at _ _ r l fun k => ?_).trans ?_
  · exact (congrArg (fun z => ∃ a : ℝ, z = (a : EReal)) (ld_at x o i r k)).mpr (hx _ (by omega))
  · refine congrArg₂ (fun a b : EReal => a * b * _) ?_ (ld_at g o i' 0 l)
    refine Eq.trans ?_ (group x r o ho l)
    exact congrArg₂ (fun (a : EReal) f => a * scl wid f) (ld_at x o i r l) (funext fun j => ld_at x o i r _)

/-- A pair of heads of the keys, in its block. -/
theorem k_piece (x : FVec Ideal S256x1024 .f32) (g : FVec Ideal S1x1024 .f32) (r : Fin 256) (hx : ∀ k, k < 1024 → ∃ a : ℝ, at2 x r k = ↑a)
    (o : ℕ) (ho : o % 128 = 0) (i i') (l : Fin 128) :
    k0_pay18 (F := Ideal) k0_pay1 (View.ld (Val := Elt Ideal) (e' := .f32) (S := S256x1024) x (Rect.unit ![0, o] ![256, 128] i)) (View.ld (Val := Elt Ideal) (e' := .f32) (S := S1x1024) g (Rect.unit ![0, o] ![1, 128] i')) (ix2 r l)
      = unit x r (o + l) * at2 g 0 (o + l) := by
  have h : o + 128 ≤ 1024 := i 1
  refine (pay18_at _ _ r l fun k => ?_).trans ?_
  · exact (congrArg (fun z => ∃ a : ℝ, z = (a : EReal)) (ld_at x o i r k)).mpr (hx _ (by omega))
  · refine congrArg₂ (fun a b : EReal => a * b) ?_ (ld_at g o i' 0 l)
    refine Eq.trans ?_ (group x r o ho l)
    exact congrArg₂ (fun (a : EReal) f => a * scl wid f) (ld_at x o i r l) (funext fun j => ld_at x o i r _)

/-- What a point stores in the queries' block. -/
theorem q_out (x0 x1 x2 x3 x4) : out0_5 (F := Ideal) x0 x1 x2 x3 x4 = View.canon
    [⟨r0_14, k0_pay2 (View.ld x0 r0_14) (View.ld x3 r0_15)⟩, ⟨r0_12, k0_pay2 (View.ld x0 r0_12) (View.ld x3 r0_13)⟩,
      ⟨r0_10, k0_pay2 (View.ld x0 r0_10) (View.ld x3 r0_11)⟩, ⟨r0_8, k0_pay2 (View.ld x0 r0_8) (View.ld x3 r0_9)⟩,
      ⟨r0_6, k0_pay2 (View.ld x0 r0_6) (View.ld x3 r0_7)⟩, ⟨r0_4, k0_pay2 (View.ld x0 r0_4) (View.ld x3 r0_5)⟩,
      ⟨r0_2, k0_pay2 (View.ld x0 r0_2) (View.ld x3 r0_3)⟩, ⟨r0_0, k0_pay2 (View.ld x0 r0_0) (View.ld x3 r0_1)⟩] := rfl

/-- What a point stores in the keys' block. -/
theorem k_out (x0 x1 x2 x3 x4) : out0_6 (F := Ideal) x0 x1 x2 x3 x4 = View.canon
    [⟨r0_14, k0_pay18 k0_pay1 (View.ld x1 r0_14) (View.ld x4 r0_15)⟩, ⟨r0_12, k0_pay18 k0_pay1 (View.ld x1 r0_12) (View.ld x4 r0_13)⟩,
      ⟨r0_10, k0_pay18 k0_pay1 (View.ld x1 r0_10) (View.ld x4 r0_11)⟩, ⟨r0_8, k0_pay18 k0_pay1 (View.ld x1 r0_8) (View.ld x4 r0_9)⟩,
      ⟨r0_6, k0_pay18 k0_pay1 (View.ld x1 r0_6) (View.ld x4 r0_7)⟩, ⟨r0_4, k0_pay18 k0_pay1 (View.ld x1 r0_4) (View.ld x4 r0_5)⟩,
      ⟨r0_2, k0_pay18 k0_pay1 (View.ld x1 r0_2) (View.ld x4 r0_3)⟩, ⟨r0_0, k0_pay18 k0_pay1 (View.ld x1 r0_0) (View.ld x4 r0_1)⟩] := rfl

section blocks
variable (x0 x1 x2 : FVec Ideal S256x1024 .f32) (x3 x4 : FVec Ideal S1x1024 .f32) (r : Fin 256) (l : Fin 1024)

/-- What a point leaves in the queries' block: eight pairs of heads. -/
theorem q_block (hx : ∀ k, k < 1024 → ∃ a : ℝ, at2 x0 r k = ↑a) : out0_5 (F := Ideal) x0 x1 x2 x3 x4 (ix2 r l)
    = unit x0 r l * at2 x3 0 l * Ideal.ofBits .f32 0x3E38AA3B#32 := by
  rw [q_out]
  canon_tiles x h
  all_goals
    obtain ⟨p, q, rfl⟩ : ∃ (p : Fin 256) (q : Fin 128), x = ix2 p q := ⟨x 0, x 1, by blk_ext⟩
    obtain rfl : r = p := Fin.ext h0
    refine (q_piece x0 x3 r hx _ (by decide) _ _ q).trans ?_
    have h1' : l.val = _ := h1
    rw [h1']
    first | rfl | (rw [Nat.zero_add]; rfl)

/-- What a point leaves in the keys' block. -/
theorem k_block (hx : ∀ k, k < 1024 → ∃ a : ℝ, at2 x1 r k = ↑a) : out0_6 (F := Ideal) x0 x1 x2 x3 x4 (ix2 r l)
    = unit x1 r l * at2 x4 0 l := by
  rw [k_out]
  canon_tiles x h
  all_goals
    obtain ⟨p, q, rfl⟩ : ∃ (p : Fin 256) (q : Fin 128), x = ix2 p q := ⟨x 0, x 1, by blk_ext⟩
    obtain rfl : r = p := Fin.ext h0
    refine (k_piece x1 x4 r hx _ (by decide) _ _ q).trans ?_
    have h1' : l.val = _ := h1
    rw [h1']
    first | rfl | (rw [Nat.zero_add]; rfl)

/-- What a point leaves in the values' block. -/
theorem v_block : out0_7 (F := Ideal) x0 x1 x2 x3 x4 (ix2 r l) = x2 (ix2 r l) := by
  unfold out0_7 k0_pay35; frame_out; pointwise

end blocks

/-- Where each window's block lies at each grid point. -/
theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![t.val, 0] ∧ win0_6.index t = ![t.val, 0]
    ∧ win0_7.index t = ![t.val, 0] ∧ t.val < 16 :=
  (by decide +kernel : ∀ t : Fin grid0.N, _)

theorem lt16 (t : Fin cfg0.N) : t.val < 16 := (idx t).2.2.2.2.2.2.2.2

theorem blk0 (c : Dev nD) (t : Fin cfg0.N) (r : Fin 256) (k : ℕ) (hk : k < 1024) :
    at2 (n := 256) (k := 1024) (iblk m c 0 t) r k = at2 (X m c) (256 * t.val + r) k := by
  have := lt16 t
  rw [at2_of_lt _ r.isLt hk, at2_of_lt _ (by omega) (by omega)]
  blk_ext [iblk, V, idx t]

theorem blk1 (c : Dev nD) (t : Fin cfg0.N) (r : Fin 256) (k : ℕ) (hk : k < 1024) :
    at2 (n := 256) (k := 1024) (iblk m c 1 t) r k = at2 (X m c) (256 * t.val + r) (1024 + k) := by
  have := lt16 t
  rw [at2_of_lt _ r.isLt hk, at2_of_lt _ (by omega) (by omega)]
  blk_ext [iblk, V, idx t]

theorem blk2 (c : Dev nD) (t : Fin cfg0.N) (r : Fin 256) (l : Fin 1024) :
    (iblk m c 2 t : FVec Ideal S256x1024 .f32) (ix2 r l) = at2 (X m c) (256 * t.val + r) (2048 + l) := by
  have := lt16 t
  rw [at2_of_lt _ (by omega) (by omega)]
  blk_ext [iblk, V, idx t]

theorem blk3 (c : Dev nD) (t : Fin cfg0.N) (k : ℕ) (hk : k < 1024) :
    at2 (n := 1) (k := 1024) (iblk m c 3 t) 0 k = at2 (QN m c) 0 k := by
  rw [at2_of_lt _ (by omega) hk, at2_of_lt _ (by omega) hk]
  blk_ext [iblk, V, idx t]

theorem blk4 (c : Dev nD) (t : Fin cfg0.N) (k : ℕ) (hk : k < 1024) :
    at2 (n := 1) (k := 1024) (iblk m c 4 t) 0 k = at2 (KN m c) 0 k := by
  rw [at2_of_lt _ (by omega) hk, at2_of_lt _ (by omega) hk]
  blk_ext [iblk, V, idx t]

/-- A block's normed columns are its array's. -/
theorem unit0 (c : Dev nD) (t : Fin cfg0.N) (r : Fin 256) (l : Fin 1024) :
    unit (n := 256) (w := 1024) (iblk m c 0 t) r l = unit (X m c) (256 * t.val + r) l := by
  unfold unit hd
  refine congrArg₂ (fun (a : EReal) f => a * scl wid f) (blk0 m c t r l l.isLt) (funext fun j => blk0 m c t r _ ?_)
  omega

theorem unit1 (c : Dev nD) (t : Fin cfg0.N) (r : Fin 256) (l : Fin 1024) :
    unit (n := 256) (w := 1024) (iblk m c 1 t) r l = unit (X m c) (256 * t.val + r) (1024 + l) := by
  unfold unit hd
  refine congrArg₂ (fun (a : EReal) f => a * scl wid f) (blk1 m c t r l l.isLt) (funext fun j => (blk1 m c t r _ ?_).trans ?_)
  · omega
  · congr 1; omega

section final
variable (c : Dev nD) (hx : RealQk (X m c))
include hx

/-- The queries after the run. -/
theorem final_q : (dats m 0 c).arrAt 5 cfg0.N = qOut (X m c) (QN m c) := by
  refine (dats m 0 c).arrAt_eq_of_covers 5 _ (by decide +kernel) fun t hf y => ?_
  blk_simp
  rw [after0_5]
  obtain ⟨r, l, rfl⟩ : ∃ (r : Fin 256) (l : Fin 1024), y = ix2 r l := ⟨y 0, y 1, by blk_ext⟩
  refine (q_block _ _ _ _ _ r l fun k hk => ?_).trans ?_
  · rw [blk0 m c t r k hk]; exact hx _ _ (by omega)
  rw [unit0, blk3 m c t l l.isLt]
  unfold qOut
  blk_simp [idx t]
  rw [Nat.mul_comm]

/-- The keys after the run. -/
theorem final_k : (dats m 0 c).arrAt 6 cfg0.N = kOut (X m c) (KN m c) := by
  refine (dats m 0 c).arrAt_eq_of_covers 6 _ (by decide +kernel) fun t hf y => ?_
  blk_simp
  rw [after0_6]
  obtain ⟨r, l, rfl⟩ : ∃ (r : Fin 256) (l : Fin 1024), y = ix2 r l := ⟨y 0, y 1, by blk_ext⟩
  refine (k_block _ _ _ _ _ r l fun k hk => ?_).trans ?_
  · rw [blk1 m c t r k hk]; exact hx _ _ (by omega)
  rw [unit1, blk4 m c t l l.isLt]
  unfold kOut
  blk_simp [idx t]
  rw [Nat.mul_comm]

end final

/-- The values after the run. -/
theorem final_v (c : Dev nD) : (dats m 0 c).arrAt 7 cfg0.N = vOut (X m c) := by
  refine (dats m 0 c).arrAt_eq_of_covers 7 _ (by decide +kernel) fun t hf y => ?_
  blk_simp
  rw [after0_7]
  obtain ⟨r, l, rfl⟩ : ∃ (r : Fin 256) (l : Fin 1024), y = ix2 r l := ⟨y 0, y 1, by blk_ext⟩
  refine (v_block _ _ _ _ _ r l).trans ((blk2 m c t r l).trans ?_)
  unfold vOut
  blk_simp [idx t]
  rw [Nat.mul_comm]

end Cert.Kernel19Ideal.Blk
end
-- ==== Proof.QkNormRef.lean ====
module

public import Idealize.ShloMosaic.Lib.Pointwise
public import Idealize.ShloMosaic.Lib.Pipeline.ValueKit
public import proofs.«01_k».proof.Proof.Gen.Reference19Ideal.Run
public import proofs.«01_k».proof.Proof.Gen.Reference19Ideal.Read
public import proofs.«01_k».proof.Proof.HeadSpec
public import proofs.«01_k».proof.Proof.Gen.Pre_finite19

@[expose] public section
set_option maxRecDepth 16384

noncomputable section
namespace Cert.Pre_finite19
open Idealize.ShloMosaic Cert.Finite Cert.Conv Cert.Head

/-- The precondition of the per-head norms: the queries and keys are real. -/
theorem real [Facts] {x : FVec Ideal S4096x3072 .f32} {qn kn : FVec Ideal S1x1024 .f32}
    (h : fn (F := Ideal) x qn kn = fun _ => 1#1) : RealQk x := by
  have e := congrFun h (fun a => a.elim0)
  haveI : Subsingleton S_.Idx := ⟨fun a b => funext fun k => k.elim0⟩
  have q := real_of_all e
  intro r k hk
  by_cases hr : r < 4096
  · obtain ⟨a, ha⟩ := q (ix2 ⟨r, hr⟩ (⟨k, hk⟩ : Fin 2048))
    refine ⟨a, ?_⟩
    rw [at2_of_lt _ hr (by omega), ← ha]
    pointwise
    all_goals blk_ext
  · exact ⟨0, at2_of_ge x (by omega)⟩

end Cert.Pre_finite19

namespace Cert.Reference19Ideal.Ref
open Idealize.ShloMosaic Idealize.ShloMosaic.TcCoe Idealize.SL.Sem
open Cert.Reference19Ideal Cert.Reference19Ideal.Gen Cert.Reference19Ideal.Read Cert.Norm Cert.Conv Cert.Head
variable (x : FVec Ideal S4096x3072 .f32) (g : FVec Ideal S1x1024 .f32)

/-- Heads over their root mean squares, as the reference computes them. -/
def normed (y : FVec Ideal S4096x16x64 .f32) : FVec Ideal S4096x16x64 .f32 :=
  mulf y (broadcastInDim S4096x16x64 ![0, 1, 2] bcast_S4096x16x1_S4096x16x64_0_1_2 (Host.rsqrt (addf (Host.divf
    (broadcastInDim S4096x16x1 ![0, 1] bcast_S4096x16_S4096x16x1_0_1
      (Host.reduceAdd (mulf y y) (val_main_cst (F := Ideal)) reducesTo_S4096x16x64_S4096x16_d2 h_S_)) (val_main_v6 (F := Ideal)))
    (val_main_v8 (F := Ideal)))))

theorem normed_at (y : FVec Ideal S4096x16x64 .f32) (r : Fin 4096) (h : Fin 16) (j : Fin 64) :
    normed y (ix3 r h j) = y (ix3 r h j) * scl wid (fun j => y (ix3 r h j)) := by
  unfold scl meanSq eps wid
  pointwise [normed, val_main_v8, val_main_v6, val_main_cst, val_main_cst_0, val_main_cst_1]

/-- The queries' heads. -/
theorem v1_at (r : Fin 4096) (h : Fin 16) (j : Fin 64) : val_main_v1 (F := Ideal) x (ix3 r h j) = at2 x r (64 * h + j) := by
  rw [val_main_v1_apply, val_main_v0_apply, at2_of_lt _ r.isLt (by omega)]
  exact congrArg x (by blk_ext)

/-- The keys' heads. -/
theorem v20_at (r : Fin 4096) (h : Fin 16) (j : Fin 64) : val_main_v20 (F := Ideal) x (ix3 r h j) = at2 x r (64 * (16 + h) + j) := by
  rw [val_main_v20_apply, val_main_v19_apply, at2_of_lt _ r.isLt (by omega)]
  exact congrArg x (by blk_ext)

/-- The gain's heads. -/
theorem v2_at (h : Fin 16) (j : Fin 64) : val_main_v2 (F := Ideal) g (ix2 h j) = at2 g 0 (64 * h + j) := by
  rw [val_main_v2_apply, at2_of_lt _ (by omega) (by omega)]
  exact congrArg g (by blk_ext)

/-- A head's columns, normed. -/
theorem head_unit (r : ℕ) (h : ℕ) (j : Fin 64) (f : Fin 64 → EReal) (e : ∀ j, f j = at2 x r (64 * h + j)) :
    f j * scl wid f = unit x r (64 * h + j) := by
  obtain rfl : f = hd x r h := funext e
  unfold unit
  rw [show (64 * h + j.val) / 64 = h by omega]; rfl

/-- The gain read at a column through its head. -/
theorem col {y : FVec Ideal S4096x16x64 .f32} {f : ℕ → EReal} (r : Fin 4096) (l : Fin 1024) (i : S4096x16x64.Idx)
    (hi : i = ix3 r (⟨l.val / 64, by omega⟩ : Fin 16) (⟨l.val % 64, by omega⟩ : Fin 64))
    (e : ∀ (h : Fin 16) (j : Fin 64), y (ix3 r h j) = f (64 * h + j)) : y i = f l := by
  rw [hi, e]; congr 1; show 64 * (l.val / 64) + l.val % 64 = l.val; omega

theorem v15_at (r : Fin 4096) (h : Fin 16) (j : Fin 64) :
    val_main_v15 (F := Ideal) x g (ix3 r h j) = unit x r (64 * h + j) * at2 g 0 (64 * h + j) := by
  have e : idx_main_v13 (idx_main_v14 (ix3 r h j)) = ix2 h j := by blk_ext
  rw [val_main_v15_apply, val_main_v14_apply, val_main_v13_apply, e, v2_at]
  refine congrArg (fun a : EReal => a * _) ((normed_at (val_main_v1 (F := Ideal) x) r h j).trans ?_)
  exact head_unit x r h j (fun j => val_main_v1 (F := Ideal) x (ix3 r h j)) fun j => v1_at x r h j

theorem v34_at (r : Fin 4096) (h : Fin 16) (j : Fin 64) :
    val_main_v34 (F := Ideal) x g (ix3 r h j) = unit x r (1024 + (64 * h + j)) * at2 g 0 (64 * h + j) := by
  have e : idx_main_v32 (idx_main_v33 (ix3 r h j)) = ix2 h j := by blk_ext
  rw [val_main_v34_apply, val_main_v33_apply, val_main_v32_apply, e]
  refine congrArg₂ (fun a b : EReal => a * b) ((normed_at (val_main_v20 (F := Ideal) x) r h j).trans ?_) (v2_at g h j)
  refine (head_unit x r (16 + h) j (fun j => val_main_v20 (F := Ideal) x (ix3 r h j)) fun j => v20_at x r h j).trans ?_
  congr 1; omega

/-- The queries. -/
theorem ref_q : val_main_v36 (F := Ideal) x g = qOut x g := by
  funext i
  obtain ⟨r, l, rfl⟩ : ∃ (r : Fin 4096) (l : Fin 1024), i = ix2 r l := ⟨i 0, i 1, by blk_ext⟩
  rw [val_main_v36_apply, val_main_v18_apply, val_main_v17_apply, val_main_cst_2_apply, val_main_v16_apply]
  exact congrArg (fun a : EReal => a * _) (col (f := fun k => unit x r k * at2 g 0 k) r l _ (by blk_ext) (v15_at x g r))

/-- The keys. -/
theorem ref_k : val_main_v37 (F := Ideal) x g = kOut x g := by
  funext i
  obtain ⟨r, l, rfl⟩ : ∃ (r : Fin 4096) (l : Fin 1024), i = ix2 r l := ⟨i 0, i 1, by blk_ext⟩
  rw [val_main_v37_apply, val_main_v35_apply]
  exact col (f := fun k => unit x r (1024 + k) * at2 g 0 k) r l _ (by blk_ext) (v34_at x g r)

/-- The values. -/
theorem ref_v : val_main_v39 (F := Ideal) x = vOut x := by
  funext i
  obtain ⟨r, l, rfl⟩ : ∃ (r : Fin 4096) (l : Fin 1024), i = ix2 r l := ⟨i 0, i 1, by blk_ext⟩
  rw [val_main_v39_apply, val_main_v38_apply]
  show x _ = at2 x r.val (2048 + l.val)
  rw [at2_of_lt _ r.isLt (by omega)]
  exact congrArg x (by blk_ext)

end Cert.Reference19Ideal.Ref
end
-- ==== Proof.QkNormBwdSpec.lean ====
module

public import Idealize.ShloMosaic.Lib.Pointwise
public import Idealize.ShloMosaic.Lib.WritesUnit
public import proofs.«01_k».proof.Proof.HeadSpec

/-! The gradient of the norm of each head's sixty-four columns, column by column, and arrays filled by tiles. -/

@[expose] public section

noncomputable section
namespace Cert.Head
open Idealize.ShloMosaic Cert.Norm Cert.Conv Cert.Finite

/-- Column `l`'s place in its head. -/
def pos (l : ℕ) : Fin 64 := ⟨l % 64, by omega⟩

/-- The gradient in column `l` of a row `x`, at the cotangent `dy` and the gain `g`. -/
def dcol (x dy g : ℕ → EReal) (l : ℕ) : EReal :=
  grad wid (fun j : Fin 64 => x (64 * (l / 64) + j)) (fun j : Fin 64 => dy (64 * (l / 64) + j) * g (64 * (l / 64) + j)) (pos l)

/-- A row's share of the gradient of the gain in column `l`. -/
def gcol (x dy : ℕ → EReal) (l : ℕ) : EReal := dy l * (x l * scl wid (fun j : Fin 64 => x (64 * (l / 64) + j)))

/-- Both read the columns of the rows only. -/
theorem dcol_congr {x x' dy dy' g g' : ℕ → EReal} {l : ℕ} (hl : l < 1024) (hx : ∀ k, k < 1024 → x k = x' k)
    (hd : ∀ k, k < 1024 → dy k = dy' k) (hg : ∀ k, k < 1024 → g k = g' k) : dcol x dy g l = dcol x' dy' g' l := by
  unfold dcol
  refine congrArg₂ (fun a b => grad wid a b (pos l)) (funext fun j => hx _ (by omega)) (funext fun j => ?_)
  rw [hd _ (by omega), hg _ (by omega)]

theorem gcol_congr {x x' dy dy' : ℕ → EReal} {l : ℕ} (hl : l < 1024) (hx : ∀ k, k < 1024 → x k = x' k)
    (hd : ∀ k, k < 1024 → dy k = dy' k) : gcol x dy l = gcol x' dy' l := by
  unfold gcol
  rw [hd l hl, hx l hl]
  exact congrArg (fun f => dy' l * (x' l * scl wid f)) (funext fun j => hx _ (by omega))

/-- The factor of a head of real numbers is real. -/
theorem scl_real (f : Fin 64 → EReal) (hf : ∀ j, ∃ a : ℝ, f j = ↑a) : ∃ a : ℝ, scl wid f = ↑a := by
  choose a ha using hf
  obtain ⟨b, hb, e⟩ := meanSq_coe 64 (by norm_num) a
  refine ⟨(Real.sqrt b)⁻¹, ?_⟩
  rw [show f = fun j => (a j : EReal) from funext ha, scl, wid_eq, e, Ideal.rsqrt_coe, if_neg (not_lt.mpr hb.le), if_neg hb.ne']

/-- The columns of a pair of heads from a multiple of 128 on. -/
theorem mate_col (o : ℕ) (ho : o % 128 = 0) (l : Fin 128) (j : Fin 64) : o + (mate l j).val = 64 * ((o + l.val) / 64) + j.val := by
  simp only [mate]; omega

section
variable (x : FVec Ideal (⟨2, ![4096, 3072]⟩ : Shape) .f32) (dq dk dv : FVec Ideal (⟨2, ![4096, 1024]⟩ : Shape) .f32)
  (qn kn : FVec Ideal (⟨2, ![1, 1024]⟩ : Shape) .f32)

/-- The gradient in the projection's row `r`, column `l`: of the queries, the keys, the values. -/
def dqkvAt (r l : ℕ) : EReal :=
  if l < 1024 then dcol (at2 x r) (at2 dq r) (at2 qn 0) l
  else if l < 2048 then dcol (fun k => at2 x r (1024 + k)) (at2 dk r) (at2 kn 0) (l - 1024)
  else at2 dv r (l - 2048)

/-- The gradient in the projection, rounded to sixteen bits. -/
def dqkv : FVec Ideal (⟨2, ![4096, 3072]⟩ : Shape) .bf16 := fun i => dqkvAt x dq dk dv qn kn (i 0).val (i 1).val

/-- Row `r`'s share of the gradients of the two gains. -/
def gterm (k r l : ℕ) : EReal :=
  if k = 0 then gcol (at2 x r) (at2 dq r) l else if k = 1 then gcol (fun k => at2 x r (1024 + k)) (at2 dk r) l else 0

/-- The gradients of the two gains; the rows after the second are zero. -/
def dgains : FVec Ideal (⟨2, ![8, 1024]⟩ : Shape) .f32 :=
  fun j => ∑ r ∈ Finset.range 4096, gterm x dq dk (j 0).val r (j 1).val

end

section
variable {sig : RefSig} {κ : Kind} {sp : Space} {n w p q : ℕ} {e : EltTy} {ι : Type}
  (v : View sig κ sp (⟨2, ![n, w]⟩ : Shape) e) (f : v.ty.Contents (Elt Ideal)) (a b : ι → ℕ)
  (ib : ∀ i, ∀ d, (![a i, b i] : Fin 2 → ℕ) d + (![p, q] : Fin 2 → ℕ) d ≤ (⟨2, ![n, w]⟩ : Shape).size d)
  (pay : ι → (⟨2, ![p, q]⟩ : Shape).Idx → Elt Ideal e) (L' : List (View.Piece (Elt Ideal) (⟨2, ![n, w]⟩ : Shape) e))
  (r : Fin n) (l : Fin w)

/-- Stores of tiles that each hold one array's entries, read at an entry some tile holds. -/
theorem read_tiles (V : Elt Ideal e)
    (hV : ∀ i (x : Fin p) (y : Fin q), r.val = a i + x.val → l.val = b i + y.val → pay i (ix2 x y) = V)
    (L : List ι) (hL : ∃ i ∈ L, (a i ≤ r.val ∧ r.val < a i + p) ∧ b i ≤ l.val ∧ l.val < b i + q) :
    v.read (Elt Ideal) (v.writes (Elt Ideal) f (L.map (fun i => (⟨Rect.unit ![a i, b i] ![p, q] (ib i), pay i⟩ : View.Piece (Elt Ideal) (⟨2, ![n, w]⟩ : Shape) e)) ++ L'))
      (ix2 r l) = V := by
  induction L with
  | nil => obtain ⟨i, h, _⟩ := hL; simp at h
  | cons i L ih =>
    by_cases hi : (a i ≤ r.val ∧ r.val < a i + p) ∧ b i ≤ l.val ∧ l.val < b i + q
    · refine (View.read_writes_cons_unit_of_mem v f (ib i) (pay i) _ (ix2 r l)
        (ix2 (⟨r.val - a i, by omega⟩ : Fin p) (⟨l.val - b i, by omega⟩ : Fin q)) rfl
        (Fin.forall_fin_two.mpr ⟨?_, ?_⟩)).trans (hV i _ _ ?_ ?_)
      · show r.val = a i + (r.val - a i); omega
      · show l.val = b i + (l.val - b i); omega
      · show r.val = a i + (r.val - a i); omega
      · show l.val = b i + (l.val - b i); omega
    · have h' : ∃ i ∈ L, (a i ≤ r.val ∧ r.val < a i + p) ∧ b i ≤ l.val ∧ l.val < b i + q := by
        obtain ⟨k, hk, c⟩ := hL
        rcases List.mem_cons.mp hk with rfl | hk
        · exact absurd c hi
        · exact ⟨k, hk, c⟩
      refine Eq.trans ?_ (ih h')
      by_cases h0 : a i ≤ r.val ∧ r.val < a i + p
      · exact View.read_writes_cons_unit_of_not_mem v f (ib i) (pay i) _ (ix2 r l) rfl 1
          (by show l.val < b i ∨ b i + q ≤ l.val; by_contra hc; exact hi ⟨h0, by omega, by omega⟩)
      · exact View.read_writes_cons_unit_of_not_mem v f (ib i) (pay i) _ (ix2 r l) rfl 0
          (by show r.val < a i ∨ a i + p ≤ r.val; by_contra hc; exact h0 ⟨by omega, by omega⟩)

/-- Stores of tiles, read in a row no tile holds. -/
theorem read_tiles_not (L : List ι) (hL : ∀ i, r.val < a i ∨ a i + p ≤ r.val) :
    v.read (Elt Ideal) (v.writes (Elt Ideal) f (L.map (fun i => (⟨Rect.unit ![a i, b i] ![p, q] (ib i), pay i⟩ : View.Piece (Elt Ideal) (⟨2, ![n, w]⟩ : Shape) e)) ++ L'))
      (ix2 r l) = v.read (Elt Ideal) (v.writes (Elt Ideal) f L') (ix2 r l) := by
  induction L with
  | nil => rfl
  | cons i L ih =>
    exact (View.read_writes_cons_unit_of_not_mem v f (ib i) (pay i) _ (ix2 r l) rfl 0 (hL i)).trans ih

end
end Cert.Head
end
-- ==== Proof.QkNormBwd.lean ====
module

public import Idealize.ShloMosaic.Lib.Pointwise
public import Idealize.ShloMosaic.Lib.Pipeline.ValueKit
public import Idealize.ShloMosaic.Lib.Pipeline.ReadBack
public import proofs.«01_k».proof.Proof.Gen.Kernel18Ideal.Value
public import proofs.«01_k».proof.Proof.QkNormBwdSpec

@[expose] public section
set_option maxRecDepth 16384

noncomputable section
namespace Cert.Kernel18Ideal.Blk
open Idealize.ShloMosaic Idealize.ShloMosaic.TcCoe Idealize.SL.Sem
open Cert.Kernel18Ideal Cert.Kernel18Ideal.Gen Cert.Norm Cert.Conv Cert.Finite Cert.Head
variable (m : (ℓ : Loc nD τ sig) → Buf (Elt Ideal) ℓ)

/-- The call's arguments. -/
abbrev X (c : Dev nD) : FVec Ideal S4096x3072 .f32 := m ((c : Thread nD τ).loc main_arg0)
abbrev DQ (c : Dev nD) : FVec Ideal S4096x1024 .f32 := m ((c : Thread nD τ).loc main_arg1)
abbrev DK (c : Dev nD) : FVec Ideal S4096x1024 .f32 := m ((c : Thread nD τ).loc main_arg2)
abbrev DV (c : Dev nD) : FVec Ideal S4096x1024 .f32 := m ((c : Thread nD τ).loc main_arg3)
abbrev QN (c : Dev nD) : FVec Ideal S1x1024 .f32 := m ((c : Thread nD τ).loc main_arg4)
abbrev KN (c : Dev nD) : FVec Ideal S1x1024 .f32 := m ((c : Thread nD τ).loc main_arg5)

/-- The matrix's bits. -/
theorem bits : ∀ k l : Fin 128, BitVec.setWidth 32 (IntOp.xori (IntOp.xori (IntOp.cmpi CmpIPredicate.sge (BitVec.ofNat 32 k) 64#32)
    (IntOp.cmpi CmpIPredicate.sge (BitVec.ofNat 32 l) 64#32)) 1#1) = if 64 ≤ k.val ↔ 64 ≤ l.val then 1#32 else 0#32 := by
  decide +kernel

/-- The matrix of zeros and ones. -/
theorem pay4_at (k l : Fin 128) : k0_pay4 (F := Ideal) (ix2 k l) = same k l := by
  pointwise [k0_pay4]
  rw [bits, same]
  split
  · show ((((1#32 : BitVec 32).toInt : ℝ)) : EReal) = 1; norm_num
  · show ((((0#32 : BitVec 32).toInt : ℝ)) : EReal) = 0; norm_num

/-- What a point stores for a pair of heads: the gradient in its columns, and its share of the gain's gradient. -/
def outPay (x dy : FVec Ideal S256x128 .f32) (g : FVec Ideal S1x128 .f32) : FVec Ideal S256x128 .bf16 :=
  k0_pay12 (F := Ideal) k0_pay4 dy (k0_pay9 k0_pay4 x) (k0_pay10 k0_pay4 x) g
def accPay (x dy : FVec Ideal S256x128 .f32) (old : FVec Ideal S1x128 .f32) : FVec Ideal S1x128 .f32 :=
  k0_pay11 (F := Ideal) k0_pay4 x dy old

section payloads
variable (x dy : FVec Ideal S256x128 .f32) (g old : FVec Ideal S1x128 .f32) (r : Fin 256) (l : Fin 128)

/-- The squares of a pair of heads are real, so the factor is that of the column's head. -/
theorem pay9_at (hx : ∀ k, ∃ a : ℝ, x (ix2 r k) = ↑a) :
    k0_pay9 (F := Ideal) k0_pay4 x (ix2 r l) = scl wid (fun j => x (ix2 r (mate l j))) := by
  unfold scl meanSq eps
  rw [← pair_mean (fun k => x (ix2 r k) * x (ix2 r k)) (fun k => by obtain ⟨a, e⟩ := hx k; exact ⟨a * a, by rw [e, EReal.coe_mul]⟩) l]
  simp only [← pay4_at]
  unfold k0_pay9
  generalize k0_pay4 (F := Ideal) = y
  pointwise

theorem pay10_at (hx : ∀ k, ∃ a : ℝ, x (ix2 r k) = ↑a) :
    k0_pay10 (F := Ideal) k0_pay4 x (ix2 r l) = x (ix2 r l) * scl wid (fun j => x (ix2 r (mate l j))) := by
  rw [← pay9_at x r l hx]
  unfold k0_pay10
  generalize k0_pay9 (F := Ideal) k0_pay4 x = y
  pointwise

theorem pay12_at (p9 p10 : FVec Ideal S256x128 .f32) :
    k0_pay12 (F := Ideal) k0_pay4 dy p9 p10 g (ix2 r l) = p9 (ix2 r l) * (dy (ix2 r l) * g (ix2 (0 : Fin 1) l) - p10 (ix2 r l)
      * ((∑ k, dy (ix2 r k) * g (ix2 (0 : Fin 1) k) * p10 (ix2 r k) * same k l
          + ∑ k, (dy (ix2 r k) * g (ix2 (0 : Fin 1) k) * p10 (ix2 r k) - dy (ix2 r k) * g (ix2 (0 : Fin 1) k) * p10 (ix2 r k)) * same k l)
        * Ideal.ofBits .f32 0x3C800000#32)) := by
  simp only [← pay4_at]
  unfold k0_pay12
  generalize k0_pay4 (F := Ideal) = y
  pointwise

theorem mate_mate (j j' : Fin 64) : mate (mate l j) j' = mate l j' := by
  apply Fin.ext; simp only [mate]; omega

theorem mate_pos : mate l (pos l) = l := by
  apply Fin.ext; simp only [mate, pos]; omega

/-- The gradient in a pair of heads, over the real numbers. -/
theorem outPay_at (hx : ∀ k, ∃ a : ℝ, x (ix2 r k) = ↑a) (hd : ∀ k, ∃ a : ℝ, dy (ix2 r k) = ↑a)
    (hg : ∀ k, ∃ a : ℝ, g (ix2 (0 : Fin 1) k) = ↑a) :
    outPay x dy g (ix2 r l)
      = grad wid (fun j => x (ix2 r (mate l j))) (fun j => dy (ix2 r (mate l j)) * g (ix2 (0 : Fin 1) (mate l j))) (pos l) := by
  unfold outPay
  rw [pay12_at, pair_mean (fun k => dy (ix2 r k) * g (ix2 (0 : Fin 1) k) * k0_pay10 (F := Ideal) k0_pay4 x (ix2 r k)) ?_ l, pay9_at x r l hx, pay10_at x r l hx]
  · unfold grad
    simp only [pay10_at x r _ hx, mate_mate, mate_pos]
  · intro k
    obtain ⟨a, ha⟩ := hx k
    obtain ⟨b, hb⟩ := hd k
    obtain ⟨c, hc⟩ := hg k
    obtain ⟨s, hs⟩ := scl_real (fun j => x (ix2 r (mate k j))) fun j => hx _
    exact ⟨b * c * (a * s), by simp only [pay10_at x r _ hx, ha, hb, hc, hs, EReal.coe_mul]⟩

/-- The gain's gradient: the sum over the block's rows is added. -/
theorem accPay_at (hx : ∀ r k, ∃ a : ℝ, x (ix2 r k) = ↑a) :
    accPay x dy old (ix2 (0 : Fin 1) l) = old (ix2 (0 : Fin 1) l)
      + ∑ r : Fin 256, dy (ix2 r l) * (x (ix2 r l) * scl wid (fun j => x (ix2 r (mate l j)))) := by
  simp only [← pay10_at x _ l (hx _)]
  unfold accPay k0_pay11
  generalize k0_pay10 (F := Ideal) k0_pay4 x = y
  pointwise

end payloads

/-- The body's pairs of heads, the last stored first. -/
def order : List (Fin 2 × Fin 8) :=
  [(1, 7), (1, 6), (1, 5), (1, 4), (1, 3), (1, 2), (1, 1), (1, 0), (0, 7), (0, 6), (0, 5), (0, 4), (0, 3), (0, 2), (0, 1), (0, 0)]

/-- Every pair of heads is stored. -/
theorem mem_order : ∀ i : Fin 2 × Fin 8, i ∈ order := by decide +kernel

/-- The columns of a pair of heads lie in their block, and its stores in theirs. -/
theorem ib (n : ℕ) (g : Fin 8) : ∀ d, (![0, 128 * g.val] : Fin 2 → ℕ) d + (![n, 128] : Fin 2 → ℕ) d ≤ (⟨2, ![n, 1024]⟩ : Shape).size d :=
  Fin.forall_fin_two.mpr ⟨by simp, by simp; omega⟩
theorem ib3 (i : Fin 2 × Fin 8) : ∀ d, (![0, 1024 * i.1.val + 128 * i.2.val] : Fin 2 → ℕ) d + (![256, 128] : Fin 2 → ℕ) d ≤ S256x3072.size d :=
  Fin.forall_fin_two.mpr ⟨by simp, by simp; omega⟩
theorem ib8 (i : Fin 2 × Fin 8) : ∀ d, (![i.1.val, 128 * i.2.val] : Fin 2 → ℕ) d + (![1, 128] : Fin 2 → ℕ) d ≤ S8x1024.size d :=
  Fin.forall_fin_two.mpr ⟨by simp; omega, by simp; omega⟩

/-- A pair of heads' columns. -/
abbrev cols {n : ℕ} (x : FVec Ideal (⟨2, ![n, 1024]⟩ : Shape) .f32) (g : Fin 8) : FVec Ideal (⟨2, ![n, 128]⟩ : Shape) .f32 :=
  View.ld (Val := Elt Ideal) (e' := .f32) (S := (⟨2, ![n, 1024]⟩ : Shape)) x (Rect.unit ![0, 128 * g.val] ![n, 128] (ib n g))

section pieces
variable (x0 x1 d0 d1 : FVec Ideal S256x1024 .f32) (g0 g1 : FVec Ideal S1x1024 .f32) (old : FVec Ideal S8x1024 .f32) (i : Fin 2 × Fin 8)

/-- The stores of a pair of heads. -/
abbrev outAt : FVec Ideal S256x128 .bf16 := outPay (cols (![x0, x1] i.1) i.2) (cols (![d0, d1] i.1) i.2) (cols (![g0, g1] i.1) i.2)
abbrev accAt : FVec Ideal S1x128 .f32 := accPay (cols (![x0, x1] i.1) i.2) (cols (![d0, d1] i.1) i.2)
  (View.ld (Val := Elt Ideal) (e' := .f32) (S := S8x1024) old (Rect.unit ![i.1.val, 128 * i.2.val] ![1, 128] (ib8 i)))

end pieces

set_option maxHeartbeats 1600000 in
/-- The block of the projection's gradient after a point: the values' columns, and the pairs of heads. -/
theorem out_pieces (c : Dev nD) (t : Fin cfg0.N) (ib4) : (outsAt0 m c t.val t.isLt).1 = View.canon (s := S256x3072) (Val := Elt Ideal) (e := .bf16)
    (⟨Rect.unit ![0, 2048] ![256, 1024] ib4, k0_pay2 (F := Ideal) (iblk m c 4 t)⟩ ::
      order.map fun i => ⟨Rect.unit ![0, 1024 * i.1.val + 128 * i.2.val] ![256, 128] (ib3 i),
        outAt (iblk m c 0 t) (iblk m c 1 t) (iblk m c 2 t) (iblk m c 3 t) (iblk m c 5 t) (iblk m c 6 t) i⟩) := by
  by_cases h : t.val % 16 = 0
  · rw [outsAt0_A m c t h]; dsimp only; frame_out; rfl
  · rw [outsAt0_B m c t h]; dsimp only; frame_out; rfl

/-- The gains' gradients after a later point: the pairs of heads over what the point before left. -/
theorem acc_later (c : Dev nD) (t : Fin cfg0.N) (h : ¬t.val % 16 = 0) (old : FVec Ideal S8x1024 .f32)
    (ho : old = (outsAt0 m c (t.val - 1) (Nat.lt_of_le_of_lt (Nat.sub_le _ _) t.isLt)).2) :
    (outsAt0 m c t.val t.isLt).2 = (ms0_8 t).view.read (Elt Ideal) ((ms0_8 t).view.writes (Elt Ideal) ((hs0_8 t).unread old)
      (order.map fun i => ⟨Rect.unit ![i.1.val, 128 * i.2.val] ![1, 128] (ib8 i),
        accAt (iblk m c 0 t) (iblk m c 1 t) (iblk m c 2 t) (iblk m c 3 t) old i⟩)) := by
  subst ho
  rw [outsAt0_B m c t h]; dsimp only; frame_out; rfl

/-- The gains' gradients after the first point: the pairs of heads over zeros. -/
theorem acc_first (c : Dev nD) (t : Fin cfg0.N) (h : t.val % 16 = 0) (ib9) :
    (outsAt0 m c t.val t.isLt).2 = View.canon (s := S8x1024) (Val := Elt Ideal) (e := .f32)
      ((order.map fun i => ⟨Rect.unit ![i.1.val, 128 * i.2.val] ![1, 128] (ib8 i),
        accAt (iblk m c 0 t) (iblk m c 1 t) (iblk m c 2 t) (iblk m c 3 t) (k0_pay3 (F := Ideal)) i⟩) ++ [⟨Rect.unit ![0, 0] ![8, 1024] ib9, k0_pay3 (F := Ideal)⟩]) := by
  rw [outsAt0_A m c t h]; dsimp only; frame_open
  simp (disch := decide) only [↓ View.readCov_skip, ↓ View.readCov_cons_toLoadRect, ↓ View.readCov_fill]
  frame_out; rfl

/-- A pair of heads' columns, read. -/
theorem cols_at {n : ℕ} (x : FVec Ideal (⟨2, ![n, 1024]⟩ : Shape) .f32) (g : Fin 8) (r : Fin n) (l : Fin 128) :
    cols x g (ix2 r l) = at2 x r (128 * g.val + l.val) := by
  rw [at2_of_lt _ r.isLt (by omega)]
  exact View.ld_unit_apply_of _ _ _ _ _ _ (Fin.forall_fin_two.mpr ⟨(Nat.zero_add _).symm, rfl⟩)

/-- The gradient in a pair of heads, in its block. -/
theorem out_col (x dy : FVec Ideal S256x1024 .f32) (g : FVec Ideal S1x1024 .f32) (r : Fin 256) (q : Fin 8) (l : Fin 128)
    (hx : ∀ k, k < 1024 → ∃ a : ℝ, at2 x r k = ↑a) (hd : ∀ k, k < 1024 → ∃ a : ℝ, at2 dy r k = ↑a)
    (hg : ∀ k, k < 1024 → ∃ a : ℝ, at2 g 0 k = ↑a) :
    outPay (cols x q) (cols dy q) (cols g q) (ix2 r l) = dcol (at2 x r) (at2 dy r) (at2 g 0) (128 * q.val + l.val) := by
  have ex := cols_at x q r
  have ed := cols_at dy q r
  have eg := cols_at g q (0 : Fin 1)
  generalize cols x q = x' at ex ⊢
  generalize cols dy q = d' at ed ⊢
  generalize cols g q = g' at eg ⊢
  refine (outPay_at x' d' g' r l (fun k => ?_) (fun k => ?_) fun k => ?_).trans ?_
  · rw [ex]; exact hx _ (by omega)
  · rw [ed]; exact hd _ (by omega)
  · rw [eg]; exact hg _ (by omega)
  · simp only [ex, ed, eg, mate_col (128 * q.val) (by omega)]
    unfold dcol
    rw [show pos (128 * q.val + l.val) = pos l from Fin.ext (by simp only [pos]; omega)]
    rfl

/-- The share of the gain's gradient in a pair of heads, in its block. -/
theorem acc_col (x dy : FVec Ideal S256x1024 .f32) (old : FVec Ideal S1x128 .f32) (q : Fin 8) (l : Fin 128)
    (hx : ∀ (r : Fin 256) k, k < 1024 → ∃ a : ℝ, at2 x r k = ↑a) :
    accPay (cols x q) (cols dy q) old (ix2 (0 : Fin 1) l)
      = old (ix2 (0 : Fin 1) l) + ∑ r : Fin 256, gcol (at2 x r) (at2 dy r) (128 * q.val + l.val) := by
  have ex := cols_at x q
  have ed := cols_at dy q
  generalize cols x q = x' at ex ⊢
  generalize cols dy q = d' at ed ⊢
  refine (accPay_at x' d' old l fun r k => ?_).trans ?_
  · rw [ex]; exact hx _ _ (by omega)
  · simp only [ex, ed, mate_col (128 * q.val) (by omega)]
    rfl

/-- Where each window's block lies at each grid point. -/
theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ t.val < 16 :=
  (by decide +kernel : ∀ t : Fin grid0.N, _)

theorem lt16 (t : Fin cfg0.N) : t.val < 16 := (idx t).2.2.2.2.2.2.2.2.2

/-- A block's entries are entries of its array. -/
theorem blk0 (c : Dev nD) (t : Fin cfg0.N) (r : Fin 256) (k : ℕ) (hk : k < 1024) :
    at2 (n := 256) (k := 1024) (iblk m c 0 t) r k = at2 (X m c) (256 * t.val + r) k := by
  have := lt16 t
  rw [at2_of_lt _ r.isLt hk, at2_of_lt _ (by omega) (by omega)]
  blk_ext [iblk, V, idx t]

theorem blk1 (c : Dev nD) (t : Fin cfg0.N) (r : Fin 256) (k : ℕ) (hk : k < 1024) :
    at2 (n := 256) (k := 1024) (iblk m c 1 t) r k = at2 (X m c) (256 * t.val + r) (1024 + k) := by
  have := lt16 t
  rw [at2_of_lt _ r.isLt hk, at2_of_lt _ (by omega) (by omega)]
  blk_ext [iblk, V, idx t]

theorem blk2 (c : Dev nD) (t : Fin cfg0.N) (r : Fin 256) (k : ℕ) (hk : k < 1024) :
    at2 (n := 256) (k := 1024) (iblk m c 2 t) r k = at2 (DQ m c) (256 * t.val + r) k := by
  have := lt16 t
  rw [at2_of_lt _ r.isLt hk, at2_of_lt _ (by omega) (by omega)]
  blk_ext [iblk, V, idx t]

theorem blk3 (c : Dev nD) (t : Fin cfg0.N) (r : Fin 256) (k : ℕ) (hk : k < 1024) :
    at2 (n := 256) (k := 1024) (iblk m c 3 t) r k = at2 (DK m c) (256 * t.val + r) k := by
  have := lt16 t
  rw [at2_of_lt _ r.isLt hk, at2_of_lt _ (by omega) (by omega)]
  blk_ext [iblk, V, idx t]

theorem blk4 (c : Dev nD) (t : Fin cfg0.N) (r : Fin 256) (l : Fin 1024) :
    (iblk m c 4 t : FVec Ideal S256x1024 .f32) (ix2 r l) = at2 (DV m c) (256 * t.val + r) l := by
  have := lt16 t
  rw [at2_of_lt _ (by omega) (by omega)]
  blk_ext [iblk, V, idx t]

theorem blk5 (c : Dev nD) (t : Fin cfg0.N) (k : ℕ) (hk : k < 1024) :
    at2 (n := 1) (k := 1024) (iblk m c 5 t) 0 k = at2 (QN m c) 0 k := by
  rw [at2_of_lt _ (by omega) hk, at2_of_lt _ (by omega) hk]
  blk_ext [iblk, V, idx t]

theorem blk6 (c : Dev nD) (t : Fin cfg0.N) (k : ℕ) (hk : k < 1024) :
    at2 (n := 1) (k := 1024) (iblk m c 6 t) 0 k = at2 (KN m c) 0 k := by
  rw [at2_of_lt _ (by omega) hk, at2_of_lt _ (by omega) hk]
  blk_ext [iblk, V, idx t]

/-- The two inputs' gradients, and the gains' shares, of a block are those of the arrays' rows. -/
def Real (c : Dev nD) : Prop := RealQk (X m c) ∧ AllReal (DQ m c) ∧ AllReal (DK m c) ∧ AllReal (QN m c) ∧ AllReal (KN m c)

/-- Real entries, read at natural numbers. -/
theorem at2_real {n k : ℕ} (x : FVec Ideal (⟨2, ![n, k]⟩ : Shape) .f32) (h : AllReal x) (a b : ℕ) : ∃ s : ℝ, at2 x a b = ↑s := by
  unfold at2
  split
  · exact h _
  · exact ⟨0, rfl⟩

/-- The zeros the sums start from. -/
theorem pay3_at (j : S8x1024.Idx) : k0_pay3 (F := Ideal) j = 0 := by
  unfold k0_pay3; exact Ideal.ofBits_zero_f32

section point
variable (c : Dev nD) (t : Fin cfg0.N) (hr : Real m c)
include hr

/-- A pair of heads of the queries (`0`) or keys (`1`) in the gradient's block. -/
theorem out_pair (i : Fin 2 × Fin 8) (r : Fin 256) (l : Fin 128) :
    outAt (iblk m c 0 t) (iblk m c 1 t) (iblk m c 2 t) (iblk m c 3 t) (iblk m c 5 t) (iblk m c 6 t) i (ix2 r l)
      = dqkvAt (X m c) (DQ m c) (DK m c) (DV m c) (QN m c) (KN m c) (256 * t.val + r) (1024 * i.1.val + (128 * i.2.val + l.val)) := by
  obtain ⟨hx, hq, hk, hqn, hkn⟩ := hr
  obtain ⟨k, q⟩ := i
  have hl : 128 * q.val + l.val < 1024 := by omega
  unfold dqkvAt
  fin_cases k
  · refine (out_col (iblk m c 0 t) (iblk m c 2 t) (iblk m c 5 t) r q l (fun k h => ?_) (fun k h => ?_) fun k h => ?_).trans ?_
    · rw [blk0 m c t r k h]; exact hx _ _ (by omega)
    · rw [blk2 m c t r k h]; exact at2_real _ hq _ _
    · rw [blk5 m c t k h]; exact at2_real _ hqn _ _
    · rw [if_pos (by simp; omega)]
      refine (dcol_congr hl (blk0 m c t r) (blk2 m c t r) (blk5 m c t)).trans ?_
      congr 1; simp
  · refine (out_col (iblk m c 1 t) (iblk m c 3 t) (iblk m c 6 t) r q l (fun k h => ?_) (fun k h => ?_) fun k h => ?_).trans ?_
    · rw [blk1 m c t r k h]; exact hx _ _ (by omega)
    · rw [blk3 m c t r k h]; exact at2_real _ hk _ _
    · rw [blk6 m c t k h]; exact at2_real _ hkn _ _
    · rw [if_neg (by simp), if_pos (by simp; omega)]
      refine (dcol_congr hl (blk1 m c t r) (blk3 m c t r) (blk6 m c t)).trans ?_
      congr 1; simp

/-- A block's share of the gains' gradients. -/
def share (n : ℕ) (j : S8x1024.Idx) : EReal := ∑ r : Fin 256, gterm (X m c) (DQ m c) (DK m c) (j 0).val (256 * n + r) (j 1).val

/-- A pair of heads of the gains' gradients. -/
theorem acc_pair (old : FVec Ideal S8x1024 .f32) (i : Fin 2 × Fin 8) (l : Fin 128) (k : Fin 8) (y : Fin 1024)
    (hk : k.val = i.1.val) (hy : y.val = 128 * i.2.val + l.val) :
    accAt (iblk m c 0 t) (iblk m c 1 t) (iblk m c 2 t) (iblk m c 3 t) old i (ix2 (0 : Fin 1) l)
      = old (ix2 k y) + share m c t.val (ix2 k y) := by
  obtain ⟨hx, hq, hk', hqn, hkn⟩ := hr
  obtain ⟨b, q⟩ := i
  have ho : View.ld (Val := Elt Ideal) (e' := .f32) (S := S8x1024) old (Rect.unit ![b.val, 128 * q.val] ![1, 128] (ib8 (b, q))) (ix2 (0 : Fin 1) l)
      = old (ix2 k y) := View.ld_unit_apply_of _ _ _ _ _ _ (Fin.forall_fin_two.mpr ⟨hk, hy⟩)
  have hl : 128 * q.val + l.val < 1024 := by omega
  rw [← ho]
  unfold share gterm
  show _ = _ + ∑ r : Fin 256, (if k.val = 0 then gcol _ _ y.val else if k.val = 1 then gcol _ _ y.val else 0)
  rw [hy, hk]
  fin_cases b
  · refine (acc_col (iblk m c 0 t) (iblk m c 2 t) _ q l fun r k h => ?_).trans (congrArg _ (Finset.sum_congr rfl fun r _ => ?_))
    · rw [blk0 m c t r k h]; exact hx _ _ (by omega)
    · rw [if_pos rfl]; exact gcol_congr hl (blk0 m c t r) (blk2 m c t r)
  · refine (acc_col (iblk m c 1 t) (iblk m c 3 t) _ q l fun r k h => ?_).trans (congrArg _ (Finset.sum_congr rfl fun r _ => ?_))
    · rw [blk1 m c t r k h]; exact hx _ _ (by omega)
    · rw [if_neg (by simp), if_pos rfl]; exact gcol_congr hl (blk1 m c t r) (blk3 m c t r)

/-- The gradient's block after a point. -/
theorem out_point (r : Fin 256) (l : Fin 3072) :
    (outsAt0 m c t.val t.isLt).1 (ix2 r l)
      = dqkvAt (X m c) (DQ m c) (DK m c) (DV m c) (QN m c) (KN m c) (256 * t.val + r) l := by
  have e := congrFun (out_pieces m c t (Fin.forall_fin_two.mpr ⟨by decide, by decide⟩)) (ix2 r l)
  refine e.trans ?_
  rw [← View.read_writes_junk_apply_eq_canon (ms0_7 t).view]
  by_cases h : 2048 ≤ l.val
  · refine (View.read_writes_cons_unit_of_mem _ _ _ _ _ _ (ix2 r (⟨l.val - 2048, by omega⟩ : Fin 1024)) rfl
      (Fin.forall_fin_two.mpr ⟨(Nat.zero_add _).symm, (by show l.val = 2048 + (l.val - 2048); omega)⟩)).trans ?_
    refine Eq.trans ?_ ((blk4 m c t r (⟨l.val - 2048, by omega⟩ : Fin 1024)).trans ?_)
    · pointwise [k0_pay2]
    · unfold dqkvAt; rw [if_neg (by omega), if_neg (by omega)]
  · refine (View.read_writes_cons_unit_of_not_mem _ _ _ _ _ _ rfl 1 (by show l.val < 2048 ∨ _; omega)).trans ?_
    rw [← List.append_nil (order.map _)]
    refine read_tiles _ _ (fun _ => 0) (fun i : Fin 2 × Fin 8 => 1024 * i.1.val + 128 * i.2.val) ib3 _ [] r l _ (fun i x y h0 h1 => ?_) order
      ⟨(⟨l.val / 1024, by omega⟩, ⟨l.val % 1024 / 128, by omega⟩), mem_order _, ⟨Nat.zero_le _, by omega⟩, ?_, ?_⟩
    · refine (out_pair m c t hr i x y).trans ?_
      rw [h1, ← Nat.add_assoc, show r.val = x.val by omega]
    · show 1024 * (l.val / 1024) + 128 * (l.val % 1024 / 128) ≤ l.val; omega
    · show l.val < 1024 * (l.val / 1024) + 128 * (l.val % 1024 / 128) + 128; omega

/-- The stores of a point's shares over earlier contents. -/
theorem acc_rows (v : View sig .tc .vmem S8x1024 .f32) (f : v.ty.Contents (Elt Ideal)) (L') (old : FVec Ideal S8x1024 .f32)
    (h0 : ∀ j, v.read (Elt Ideal) (v.writes (Elt Ideal) f L') j = old j) (k : Fin 8) (l : Fin 1024) :
    v.read (Elt Ideal) (v.writes (Elt Ideal) f ((order.map fun i => ⟨Rect.unit ![i.1.val, 128 * i.2.val] ![1, 128] (ib8 i),
        accAt (iblk m c 0 t) (iblk m c 1 t) (iblk m c 2 t) (iblk m c 3 t) old i⟩) ++ L')) (ix2 k l)
      = old (ix2 k l) + share m c t.val (ix2 k l) := by
  by_cases h : k.val < 2
  · refine read_tiles v f (fun i : Fin 2 × Fin 8 => i.1.val) (fun i => 128 * i.2.val) ib8 _ L' k l _ (fun i x y h0 h1 => ?_) order
      ⟨(⟨k.val, h⟩, ⟨l.val / 128, by omega⟩), mem_order _, ⟨Nat.le_refl _, Nat.lt_succ_self _⟩, ?_, ?_⟩
    · obtain rfl : x = 0 := Subsingleton.elim _ _
      exact acc_pair m c t hr old i y k l h0 h1
    · show 128 * (l.val / 128) ≤ l.val; omega
    · show l.val < 128 * (l.val / 128) + 128; omega
  · refine (read_tiles_not v f (fun i : Fin 2 × Fin 8 => i.1.val) (fun i => 128 * i.2.val) ib8 _ L' k l order fun i => Or.inr ?_).trans ?_
    · have := i.1.isLt; show i.1.val + 1 ≤ k.val; omega
    · rw [h0]
      have : share m c t.val (ix2 k l) = 0 := Finset.sum_eq_zero fun r _ => by
        show gterm _ _ _ k.val _ l.val = 0
        rw [gterm, if_neg (by omega), if_neg (by omega)]
      rw [this, add_zero]

/-- The first point leaves its block's share. -/
theorem sums_first (h : t.val % 16 = 0) (j : S8x1024.Idx) : (outsAt0 m c t.val t.isLt).2 j = 0 + share m c t.val j := by
  obtain ⟨k, l, rfl⟩ : ∃ (k : Fin 8) (l : Fin 1024), j = ix2 k l := ⟨j 0, j 1, by blk_ext⟩
  refine (congrFun (acc_first m c t h (Fin.forall_fin_two.mpr ⟨by decide, by decide⟩)) (ix2 k l)).trans ?_
  rw [← View.read_writes_junk_apply_eq_canon (ms0_8 t).view]
  refine (acc_rows m c t hr _ _ _ k0_pay3 (fun j => ?_) k l).trans (congrArg (· + _) (pay3_at _))
  rw [View.read_writes_junk_apply_eq_canon, View.canon_cons_unit_lit _ _ _ (by decide)]

/-- Every later point adds its block's share. -/
theorem sums_later (h : ¬t.val % 16 = 0) (j : S8x1024.Idx) : (outsAt0 m c t.val t.isLt).2 j
    = (outsAt0 m c (t.val - 1) (Nat.lt_of_le_of_lt (Nat.sub_le _ _) t.isLt)).2 j + share m c t.val j := by
  obtain ⟨k, l, rfl⟩ : ∃ (k : Fin 8) (l : Fin 1024), j = ix2 k l := ⟨j 0, j 1, by blk_ext⟩
  refine (congrFun (acc_later m c t h _ rfl) (ix2 k l)).trans ?_
  rw [← List.append_nil (order.map _)]
  refine acc_rows m c t hr _ _ [] _ (fun j => ?_) k l
  rw [View.writes_nil, Memref.IsWhole.read_unread]

end point

section final
variable (c : Dev nD) (hr : Real m c)
include hr

/-- The last point leaves the sums over all rows. -/
theorem sums_last (j : S8x1024.Idx) : (outsAt0 m c t0_15.val t0_15.isLt).2 j = dgains (X m c) (DQ m c) (DK m c) j := by
  refine (Pipeline.eq_sum_of_reset_step_apply_single (fun n h => (outsAt0 m c n h).2) 16 (fun _ => 0)
    (fun n j => share m c n j) (fun t h i => sums_first m c t hr h i) (fun t h i => sums_later m c t hr h i) (by decide) t0_15 j).trans ?_
  unfold dgains
  rw [zero_add, show t0_15.val + 1 = 16 from rfl, show 4096 = 16 * 256 from rfl, Finset.sum_range_mul_split]
  refine Finset.sum_congr rfl fun s hs => ?_
  rw [share, Finset.sum_range]
  exact Finset.sum_congr rfl fun r _ => by rw [Nat.mul_comm]

/-- The gradient in the projection after the run. -/
theorem final_dqkv : (dats m 0 c).arrAt 7 cfg0.N = dqkv (X m c) (DQ m c) (DK m c) (DV m c) (QN m c) (KN m c) := by
  refine (dats m 0 c).arrAt_eq_of_covers 7 _ (by decide +kernel) fun t hf y => ?_
  blk_simp
  rw [after0_7]
  obtain ⟨r, l, rfl⟩ : ∃ (r : Fin 256) (l : Fin 3072), y = ix2 r l := ⟨y 0, y 1, by blk_ext⟩
  refine (out_point m c t hr r l).trans ?_
  unfold dqkv
  blk_simp [idx t]
  rw [Nat.mul_comm]

/-- The gains' gradients after the run. -/
theorem final_dgains : (dats m 0 c).arrAt 8 cfg0.N = dgains (X m c) (DQ m c) (DK m c) := by
  refine (dats m 0 c).arrAt_eq_of_after_last 8 t0_15 (by decide +kernel) _ fun j => ?_
  blk_simp
  rw [after0_8]
  exact sums_last m c hr j

end final

end Cert.Kernel18Ideal.Blk
end
-- ==== Proof.QkNormBwdRef.lean ====
module

public import Idealize.ShloMosaic.Lib.Pointwise
public import Idealize.ShloMosaic.Lib.Pipeline.ValueKit
public import proofs.«01_k».proof.Proof.Gen.Reference18Ideal.Run
public import proofs.«01_k».proof.Proof.Gen.Reference18Ideal.Read
public import proofs.«01_k».proof.Proof.QkNormBwdSpec
public import proofs.«01_k».proof.Proof.Gen.Pre_finite18

@[expose] public section
set_option maxRecDepth 16384

noncomputable section
namespace Cert.Pre_finite18
open Idealize.ShloMosaic Cert.Finite Cert.Conv Cert.Head

/-- The precondition of the per-head norms' gradient: the queries and keys, their cotangents and the gains are real. -/
theorem real [Facts] {x : FVec Ideal S4096x3072 .f32} {dq dk dv : FVec Ideal S4096x1024 .f32} {qn kn : FVec Ideal S1x1024 .f32}
    (h : fn (F := Ideal) x dq dk dv qn kn = fun _ => 1#1) : RealQk x ∧ AllReal dq ∧ AllReal dk ∧ AllReal qn ∧ AllReal kn := by
  have e := congrFun h (fun a => a.elim0)
  haveI : Subsingleton S_.Idx := ⟨fun a b => funext fun k => k.elim0⟩
  obtain ⟨e, e5⟩ := IntOp.andi_eq_one.mp e
  obtain ⟨e, e4⟩ := IntOp.andi_eq_one.mp e
  obtain ⟨e, e3⟩ := IntOp.andi_eq_one.mp e
  obtain ⟨e1, e2⟩ := IntOp.andi_eq_one.mp e
  refine ⟨?_, real_of_all e2, real_of_all e3, real_of_all e4, real_of_all e5⟩
  have q := real_of_all e1
  intro r k hk
  by_cases hr : r < 4096
  · obtain ⟨a, ha⟩ := q (ix2 ⟨r, hr⟩ (⟨k, hk⟩ : Fin 2048))
    refine ⟨a, ?_⟩
    rw [at2_of_lt _ hr (by omega), ← ha]
    pointwise
    all_goals blk_ext
  · exact ⟨0, at2_of_ge x (by omega)⟩

end Cert.Pre_finite18

namespace Cert.Reference18Ideal.Ref
open Idealize.ShloMosaic Idealize.ShloMosaic.TcCoe Idealize.SL.Sem
open Cert.Reference18Ideal Cert.Reference18Ideal.Gen Cert.Reference18Ideal.Read Cert.Norm Cert.Conv Cert.Head Cert.Finite

section stages
variable (y d : FVec Ideal S4096x16x64 .f32) (γ : FVec Ideal S16x64 .f32) (r : Fin 4096) (h : Fin 16) (j : Fin 64)

/-- A head's columns, and the cotangent times the gain. -/
def head : Fin 64 → EReal := fun j => y (ix3 r h j)
def dhead : Fin 64 → EReal := fun j => d (ix3 r h j) * γ (ix2 h j)

/-- The heads' mean squares and factors, as the reference computes them. -/
def ms : FVec Ideal S4096x16x1 .f32 :=
  addf (Host.divf (broadcastInDim S4096x16x1 ![0, 1] bcast_S4096x16_S4096x16x1_0_1
      (Host.reduceAdd (mulf y y) (val_main_cst (F := Ideal)) reducesTo_S4096x16x64_S4096x16_d2 h_S_)) (val_main_v6 (F := Ideal)))
    (val_main_v8 (F := Ideal))
def rs : FVec Ideal S4096x16x1 .f32 := Host.rsqrt (ms y)

theorem ms_at : ms y (ix3 r h (0 : Fin 1)) = meanSq wid (head y r h) := by
  unfold head meanSq eps wid
  pointwise [ms, val_main_v8, val_main_v6, val_main_cst, val_main_cst_0, val_main_cst_1]

theorem rs_at : rs y (ix3 r h (0 : Fin 1)) = scl wid (head y r h) := congrArg Ideal.rsqrt (ms_at y r h)

/-- One number for each head, repeated over its columns. -/
def spread (z : FVec Ideal S4096x16x1 .f32) : FVec Ideal S4096x16x64 .f32 :=
  broadcastInDim S4096x16x64 ![0, 1, 2] bcast_S4096x16x1_S4096x16x64_0_1_2 z

theorem spread_at (z) : spread z (ix3 r h j) = z (ix3 r h (0 : Fin 1)) := by
  pointwise [spread]

/-- The cotangent times the gain. -/
def gained : FVec Ideal S4096x16x64 .f32 := mulf d (broadcastInDim S4096x16x64 ![0, 1, 2] bcast_S1x16x64_S4096x16x64_0_1_2
  (broadcastInDim S1x16x64 ![1, 2] bcast_S16x64_S1x16x64_1_2 γ))

theorem gained_at : gained d γ (ix3 r h j) = dhead d γ r h j := by
  unfold dhead
  pointwise [gained]

/-- The sum of the columns times their cotangents. -/
def inner (e : FVec Ideal S4096x16x64 .f32) : FVec Ideal S4096x16x1 .f32 := shapeCast _
  (Host.reduceAdd (mulf y e) (val_main_cst_5 (F := Ideal)) reducesTo_S4096x16x64_S4096x16_d2 h_S_) shapeCasts_S4096x16_S4096x16x1

theorem inner_at (e) : inner y e (ix3 r h (0 : Fin 1)) = ∑ k, y (ix3 r h k) * e (ix3 r h k) := by
  pointwise [inner, val_main_cst_5]

/-- The coefficient of the columns in their gradient. -/
def coef : FVec Ideal S4096x16x1 .f32 :=
  Host.divf (mulf (inner y (gained d γ)) (mulf (val_main_v12 (F := Ideal)) (Host.divf (rs y) (ms y)))) (val_main_v33 (F := Ideal))

theorem coef_at : coef y d γ (ix3 r h (0 : Fin 1)) = Ideal.div ((∑ k, head y r h k * dhead d γ r h k)
    * (mhalf * Ideal.div (scl wid (head y r h)) (meanSq wid (head y r h)))) wid := by
  have e := inner_at y r h (gained d γ)
  simp only [gained_at] at e
  unfold coef
  rw [← rs_at, ← ms_at]
  refine Eq.trans ?_ (congrArg (fun s : EReal => Ideal.div (s * _) wid) e)
  generalize inner y (gained d γ) = a
  generalize rs y = b
  generalize ms y = c
  unfold mhalf wid
  pointwise [val_main_v12, val_main_v33, val_main_cst_2, val_main_cst_6]

/-- The coefficient, repeated over a head's columns. -/
def spread' (z : FVec Ideal S4096x16x1 .f32) : FVec Ideal S4096x16x64 .f32 :=
  broadcastInDim S4096x16x64 ![0, 1] bcast_S4096x16_S4096x16x64_0_1
    (Host.reduceAdd z (val_main_cst_7 (F := Ideal)) reducesTo_S4096x16x1_S4096x16_d2 h_S_)

theorem spread'_at (z) : spread' z (ix3 r h j) = z (ix3 r h (0 : Fin 1)) := by
  pointwise [spread', val_main_cst_7]
  exact Fin.sum_univ_one _

/-- The gradient in the columns. -/
def gradRef : FVec Ideal S4096x16x64 .f32 :=
  addf (addf (mulf (gained d γ) (spread (rs y))) (mulf y (spread' (coef y d γ)))) (mulf (spread' (coef y d γ)) y)

theorem gradRef_at (hy : ∀ j, ∃ a : ℝ, y (ix3 r h j) = ↑a) (hd : ∀ j, ∃ a : ℝ, d (ix3 r h j) = ↑a) (hγ : ∀ j, ∃ a : ℝ, γ (ix2 h j) = ↑a) :
    gradRef y d γ (ix3 r h j) = grad wid (head y r h) (dhead d γ r h) j := by
  have e : gradRef y d γ (ix3 r h j) = gained d γ (ix3 r h j) * spread (rs y) (ix3 r h j)
      + y (ix3 r h j) * spread' (coef y d γ) (ix3 r h j) + spread' (coef y d γ) (ix3 r h j) * y (ix3 r h j) := rfl
  rw [e, gained_at, spread_at, rs_at, spread'_at, coef_at]
  choose a ha using hy
  choose b hb using hd
  choose c hc using hγ
  have ex : head y r h = fun j => ((a j : ℝ) : EReal) := funext ha
  have ed : dhead d γ r h = fun j => ((b j * c j : ℝ) : EReal) := by
    funext j; rw [EReal.coe_mul, ← hb, ← hc]; rfl
  have law := grad_law 64 (by norm_num) a (fun k => b k * c k) j
  rw [← wid_eq, ← ex, ← ed] at law
  rw [← law]
  simp only [← congrFun ex, ← congrFun ed]
  rfl

/-- The gain's gradient. -/
def gainRef : FVec Ideal S1x1024 .f32 := shapeCast _ (Host.reduceAdd (shapeCast _ (Host.reduceAdd (mulf (mulf y (spread (rs y))) d)
    (val_main_cst_3 (F := Ideal)) reducesTo_S4096x16x64_S16x64_d0 h_S_) shapeCasts_S16x64_S1x16x64)
    (val_main_cst_4 (F := Ideal)) reducesTo_S1x16x64_S16x64_d0 h_S_) shapeCasts_S16x64_S1x1024

theorem gainRef_at (l : Fin 1024) : gainRef y d (ix2 (0 : Fin 1) l) = ∑ r : Fin 4096,
    head y r (⟨l.val / 64, by omega⟩ : Fin 16) (pos l) * scl wid (head y r ⟨l.val / 64, by omega⟩) * d (ix3 r ⟨l.val / 64, by omega⟩ (pos l)) := by
  have e : ∀ r h j, (mulf (mulf y (spread (rs y))) d) (ix3 r h j) = head y r h j * scl wid (head y r h) * d (ix3 r h j) := fun r h j => by
    rw [← rs_at, ← spread_at r h j (rs y)]; rfl
  simp only [← e]
  unfold gainRef
  generalize mulf (mulf y (spread (rs y))) d = z
  pointwise [val_main_cst_3, val_main_cst_4]
  exact Fin.sum_univ_one _

end stages

variable (x : FVec Ideal S4096x3072 .f32) (dy : FVec Ideal S4096x1024 .f32) (g : FVec Ideal S1x1024 .f32)

/-- The queries' and keys' heads, their cotangents' and their gains'. -/
theorem v1_at (r : Fin 4096) (h : Fin 16) (j : Fin 64) : val_main_v1 (F := Ideal) x (ix3 r h j) = at2 x r (64 * h + j) := by
  rw [val_main_v1_apply, val_main_v0_apply, at2_of_lt _ r.isLt (by omega)]
  exact congrArg x (by blk_ext)

theorem v44_at (r : Fin 4096) (h : Fin 16) (j : Fin 64) : val_main_v44 (F := Ideal) x (ix3 r h j) = at2 x r (1024 + (64 * h + j)) := by
  rw [val_main_v44_apply, val_main_v43_apply, at2_of_lt _ r.isLt (by omega)]
  exact congrArg x (by blk_ext)

theorem v20_at (r : Fin 4096) (h : Fin 16) (j : Fin 64) : val_main_v20 (F := Ideal) dy (ix3 r h j) = at2 dy r (64 * h + j) := by
  rw [val_main_v20_apply, at2_of_lt _ r.isLt (by omega)]
  exact congrArg dy (by blk_ext)

theorem v2_at (h : Fin 16) (j : Fin 64) : val_main_v2 (F := Ideal) g (ix2 h j) = at2 g 0 (64 * h + j) := by
  rw [val_main_v2_apply, at2_of_lt _ (by omega) (by omega)]
  exact congrArg g (by blk_ext)

section column
variable (y d : FVec Ideal S4096x16x64 .f32) (γ : FVec Ideal S16x64 .f32) (f e : ℕ → ℕ → EReal) (q : ℕ → EReal)
  (hy : ∀ (r : Fin 4096) (h : Fin 16) (j : Fin 64), y (ix3 r h j) = f r (64 * h + j))
  (hd : ∀ (r : Fin 4096) (h : Fin 16) (j : Fin 64), d (ix3 r h j) = e r (64 * h + j))
include hy hd

/-- The gradient in a column of the array whose heads are given. -/
theorem grad_col (hγ : ∀ (h : Fin 16) (j : Fin 64), γ (ix2 h j) = q (64 * h + j)) (hf : ∀ r k, k < 1024 → ∃ a : ℝ, f r k = ↑a) (he : ∀ r k, ∃ a : ℝ, e r k = ↑a) (hq : ∀ k, ∃ a : ℝ, q k = ↑a)
    (r : Fin 4096) (l : Fin 1024) (i : S4096x16x64.Idx) (hi : i = ix3 r (⟨l.val / 64, by omega⟩ : Fin 16) (⟨l.val % 64, by omega⟩ : Fin 64)) :
    gradRef y d γ i = dcol (f r) (e r) q l := by
  subst hi
  refine (gradRef_at y d γ r _ _ (fun j => ?_) (fun j => ?_) fun j => ?_).trans ?_
  · rw [hy]; exact hf _ _ (by show 64 * (l.val / 64) + j.val < 1024; omega)
  · rw [hd]; exact he _ _
  · rw [hγ]; exact hq _
  · refine congrArg₂ (fun a b => grad wid a b (pos l)) (funext fun j => hy r _ j) (funext fun j => ?_)
    exact congrArg₂ (fun a b : EReal => a * b) (hd r _ j) (hγ _ j)

/-- The gain's gradient in a column. -/
theorem gain_col (l : Fin 1024) : gainRef y d (ix2 (0 : Fin 1) l) = ∑ r ∈ Finset.range 4096, gcol (f r) (e r) l := by
  rw [gainRef_at, Finset.sum_range]
  refine Finset.sum_congr rfl fun r _ => ?_
  have hl : 64 * (l.val / 64) + l.val % 64 = l.val := by omega
  have h1 : head y r (⟨l.val / 64, by omega⟩ : Fin 16) (pos l) = f r l := (hy r _ _).trans (congrArg (f r) hl)
  have h2 : d (ix3 r (⟨l.val / 64, by omega⟩ : Fin 16) (pos l)) = e r l := (hd r _ _).trans (congrArg (e r) hl)
  have h3 : head y r (⟨l.val / 64, by omega⟩ : Fin 16) = fun j : Fin 64 => f r (64 * (l.val / 64) + j) := funext fun j => hy r _ j
  rw [h2, h1, h3, mul_comm]
  rfl

end column

/-- The reference's stages for queries and keys. -/
theorem v40_eq : val_main_v40 (F := Ideal) x dy g = gradRef (val_main_v1 (F := Ideal) x) (val_main_v20 (F := Ideal) dy) (val_main_v2 (F := Ideal) g) := rfl
theorem v83_eq : val_main_v83 (F := Ideal) x dy g = gradRef (val_main_v44 (F := Ideal) x) (val_main_v20 (F := Ideal) dy) (val_main_v2 (F := Ideal) g) := rfl
theorem v41_eq : val_main_v41 (F := Ideal) x dy = gainRef (val_main_v1 (F := Ideal) x) (val_main_v20 (F := Ideal) dy) := rfl
theorem v84_eq : val_main_v84 (F := Ideal) x dy = gainRef (val_main_v44 (F := Ideal) x) (val_main_v20 (F := Ideal) dy) := rfl

/-- Real entries, read at natural numbers. -/
theorem at2_real {n k : ℕ} (x : FVec Ideal (⟨2, ![n, k]⟩ : Shape) .f32) (h : AllReal x) (a b : ℕ) : ∃ s : ℝ, at2 x a b = ↑s := by
  unfold at2
  split
  · exact h _
  · exact ⟨0, rfl⟩

/-- The queries' and keys' gradients. -/
theorem v42_at (hx : RealQk x) (hd : AllReal dy) (hg : AllReal g) (r : Fin 4096) (l : Fin 1024) :
    val_main_v42 (F := Ideal) x dy g (ix2 r l) = dcol (at2 x r) (at2 dy r) (at2 g 0) l := by
  rw [val_main_v42_apply, v40_eq]
  exact grad_col _ _ _ (at2 x) (at2 dy) (at2 g 0) (v1_at x) (v20_at dy) (v2_at g) (fun r k h => hx r k (by omega)) (at2_real dy hd) (at2_real g hg 0)
    r l _ (by blk_ext)

theorem v85_at (hx : RealQk x) (hd : AllReal dy) (hg : AllReal g) (r : Fin 4096) (l : Fin 1024) :
    val_main_v85 (F := Ideal) x dy g (ix2 r l) = dcol (fun k => at2 x r (1024 + k)) (at2 dy r) (at2 g 0) l := by
  rw [val_main_v85_apply, v83_eq]
  exact grad_col _ _ _ (fun r k => at2 x r (1024 + k)) (at2 dy) (at2 g 0) (v44_at x) (v20_at dy) (v2_at g) (fun r k h => hx r (1024 + k) (by omega))
    (at2_real dy hd) (at2_real g hg 0) r l _ (by blk_ext)

variable (dq dk dv : FVec Ideal S4096x1024 .f32) (qn kn : FVec Ideal S1x1024 .f32)

/-- The gradient in the projection. -/
theorem ref_dqkv (h : RealQk x ∧ AllReal dq ∧ AllReal dk ∧ AllReal qn ∧ AllReal kn) :
    val_main_v87 (F := Ideal) x dq dk dv qn kn = dqkv x dq dk dv qn kn := by
  obtain ⟨hx, hq, hk, hqn, hkn⟩ := h
  funext i
  obtain ⟨r, l, rfl⟩ : ∃ (r : Fin 4096) (l : Fin 3072), i = ix2 r l := ⟨i 0, i 1, by blk_ext⟩
  rw [val_main_v87_apply]
  show val_main_v86 (F := Ideal) x dq dk dv qn kn (ix2 r l) = dqkvAt x dq dk dv qn kn r l
  have h0 := v42_at x dq qn hx hq hqn r
  have h1 := v85_at x dk kn hx hk hkn r
  unfold val_main_v86 dqkvAt
  generalize val_main_v42 (F := Ideal) x dq qn = y0 at *
  generalize val_main_v85 (F := Ideal) x dk kn = y1 at *
  pointwise
  by_cases c0 : l.val < 1024
  · rw [dif_pos c0, if_pos c0]; exact h0 ⟨l, c0⟩
  · rw [dif_neg c0, if_neg c0]
    by_cases c1 : l.val < 2048
    · rw [dif_pos (by omega), if_pos c1]; exact h1 ⟨l.val - 1024, by omega⟩
    · rw [dif_neg (by omega), if_neg c1, at2_of_lt _ r.isLt (by omega)]
      exact congrArg dv (by blk_ext)

/-- The gradients of the gains. -/
theorem ref_dgains : val_main_v89 (F := Ideal) x dq dk = dgains x dq dk := by
  funext i
  obtain ⟨k, l, rfl⟩ : ∃ (k : Fin 8) (l : Fin 1024), i = ix2 k l := ⟨i 0, i 1, by blk_ext⟩
  have h0 : val_main_v41 (F := Ideal) x dq (ix2 (0 : Fin 1) l) = dgains x dq dk (ix2 (0 : Fin 8) l) := by
    rw [v41_eq]; exact gain_col _ _ (at2 x) (at2 dq) (v1_at x) (v20_at dq) l
  have h1 : val_main_v84 (F := Ideal) x dk (ix2 (0 : Fin 1) l) = dgains x dq dk (ix2 (1 : Fin 8) l) := by
    rw [v84_eq]; exact gain_col _ _ (fun r k => at2 x r (1024 + k)) (at2 dk) (v44_at x) (v20_at dk) l
  have h2 : ∀ q, val_main_v88 (F := Ideal) q = 0 := fun q => by
    rw [val_main_v88_apply, val_main_cst_17_apply]; exact Ideal.ofBits_zero_f32
  have hz : ∀ k : Fin 8, 2 ≤ k.val → dgains x dq dk (ix2 k l) = 0 := fun k hk => by
    refine Finset.sum_eq_zero fun r _ => ?_
    show gterm x dq dk k.val r l = 0
    rw [gterm, if_neg (by omega), if_neg (by omega)]
  unfold val_main_v89
  generalize val_main_v41 (F := Ideal) x dq = y0 at *
  generalize val_main_v84 (F := Ideal) x dk = y1 at *
  generalize val_main_v88 (F := Ideal) = y2 at *
  pointwise
  fin_vals k with hk
  all_goals simp only [hk, Nat.reduceSub, Nat.reduceLT, ↓reduceDIte]
  · obtain rfl : k = 0 := Fin.ext hk; exact h0
  · obtain rfl : k = 1 := Fin.ext hk; exact h1
  all_goals exact (h2 _).trans (hz k (by omega)).symm

end Cert.Reference18Ideal.Ref
end
-- ==== Proof.NormBwd3.lean ====
module

public import proofs.«01_k».proof.Proof.NormBwd
public import proofs.«01_k».proof.Proof.NormBwdRef
public import proofs.«01_k».proof.Proof.Gen.Kernel23Ideal.Value
public import proofs.«01_k».proof.Proof.Gen.Reference23Ideal.Run
public import proofs.«01_k».proof.Proof.Gen.Reference23Ideal.Read

/-! The gradient of the norm and its modulation without a gate; the blocks' operations are those of the gated call. -/

@[expose] public section
set_option maxRecDepth 16384

noncomputable section
namespace Cert.Kernel23Ideal.Blk
open Idealize.ShloMosaic Idealize.ShloMosaic.TcCoe Idealize.SL.Sem
open Cert.Kernel23Ideal Cert.Kernel23Ideal.Gen Cert.Norm
variable (m : (ℓ : Loc nD τ sig) → Buf (Elt Ideal) ℓ)

/-- The call's arguments. -/
abbrev X (c : Dev nD) : FVec Ideal S4096x1024 .f32 := m ((c : Thread nD τ).loc main_arg0)
abbrev DH (c : Dev nD) : FVec Ideal S4096x1024 .f32 := m ((c : Thread nD τ).loc main_arg1)
abbrev DR (c : Dev nD) : FVec Ideal S4096x1024 .f32 := m ((c : Thread nD τ).loc main_arg2)
abbrev G (c : Dev nD) : FVec Ideal S1x1024 .f32 := m ((c : Thread nD τ).loc main_arg3)
abbrev SC (c : Dev nD) : FVec Ideal S1x1024 .f32 := m ((c : Thread nD τ).loc main_arg4)

section payloads
variable (x dh dr : FVec Ideal S512x1024 .f32) (g sc old : FVec Ideal S1x1024 .f32)

/-- The gradient in the rows. -/
theorem pay8_at (r : Fin 512) (l : Fin 1024) :
    k0_pay8 (F := Ideal) x dh g sc dr (ix2 r l) = dxAt (row x r) (row dh r) (row dr r) (lane g) (lane sc) l :=
  Cert.Kernel15Ideal.Blk.pay6_at x dh dr g sc r l

/-- The zeros the sums start from. -/
theorem pay4_at (j : S8x1024.Idx) : k0_pay4 (F := Ideal) j = 0 := Cert.Kernel15Ideal.Blk.pay2_at j

/-- The sums' rows: each adds the block's column sums to the row before. -/
theorem pay1_at (l : Fin 1024) :
    k0_pay1 (F := Ideal) dh old (ix2 (0 : Fin 1) l) = old (ix2 (0 : Fin 1) l) + ∑ r : Fin 512, row dh r l :=
  Cert.Kernel15Ideal.Blk.pay8_at dh old l

theorem pay2_at (l : Fin 1024) :
    k0_pay2 (F := Ideal) g (k0_pay9 x dh) old (ix2 (0 : Fin 1) l)
      = old (ix2 (0 : Fin 1) l) + ∑ r : Fin 512, row dh r l * (row x r l * scl len (row x r)) * lane g l :=
  Cert.Kernel15Ideal.Blk.pay9_at x dh g old l

theorem pay3_at (l : Fin 1024) :
    k0_pay3 (F := Ideal) (k0_pay5 sc) (k0_pay9 x dh) old (ix2 (0 : Fin 1) l)
      = old (ix2 (0 : Fin 1) l) + ∑ r : Fin 512, row dh r l * (row x r l * scl len (row x r)) * (one + lane sc l) :=
  Cert.Kernel15Ideal.Blk.pay10_at x dh sc old l

end payloads

/-- Where each window's block lies at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] ∧ t.val < 8 :=
  (by decide +kernel : ∀ t : Fin grid0.N, _)

theorem lt8 (t : Fin cfg0.N) : t.val < 8 := (idx t).2.2.2.2.2.2.2

/-- A block's rows are rows of its array. -/
theorem blk0 (c : Dev nD) (t : Fin cfg0.N) (r : Fin 512) : row (n := 512) (φ := .f32) (iblk m c 0 t) r = row (X m c) (512 * t.val + r) := by
  have := lt8 t
  funext l
  rw [row_of_lt, row_of_nat _ (by omega)]
  blk_ext [iblk, V, idx t]

theorem blk1 (c : Dev nD) (t : Fin cfg0.N) (r : Fin 512) : row (n := 512) (φ := .f32) (iblk m c 1 t) r = row (DH m c) (512 * t.val + r) := by
  have := lt8 t
  funext l
  rw [row_of_lt, row_of_nat _ (by omega)]
  blk_ext [iblk, V, idx t]

theorem blk2 (c : Dev nD) (t : Fin cfg0.N) (r : Fin 512) : row (n := 512) (φ := .f32) (iblk m c 2 t) r = row (DR m c) (512 * t.val + r) := by
  have := lt8 t
  funext l
  rw [row_of_lt, row_of_nat _ (by omega)]
  blk_ext [iblk, V, idx t]

theorem blk3 (c : Dev nD) (t : Fin cfg0.N) : lane (iblk m c 3 t) = lane (G m c) := by
  funext l; unfold lane; blk_ext [iblk, V, idx t]

theorem blk4 (c : Dev nD) (t : Fin cfg0.N) : lane (iblk m c 4 t) = lane (SC m c) := by
  funext l; unfold lane; blk_ext [iblk, V, idx t]

/-- The block's gradient in the rows. -/
theorem dx_point (c : Dev nD) (t : Fin cfg0.N) (r : Fin 512) (l : Fin 1024) :
    (outsAt0 m c t.val t.isLt).1 (ix2 r l) = dxRow (X m c) (DH m c) (DR m c) (G m c) (SC m c) (512 * t.val + r) l := by
  have e := pay8_at (iblk m c 0 t) (iblk m c 1 t) (iblk m c 2 t) (iblk m c 3 t) (iblk m c 4 t) r l
  rw [blk0, blk1, blk2, blk3, blk4] at e
  refine Eq.trans ?_ e
  by_cases h : t.val % 8 = 0
  · rw [outsAt0_A m c t h]; dsimp only; frame_out
  · rw [outsAt0_B m c t h]; dsimp only; frame_out

/-- A block's share of the sums. -/
def share (c : Dev nD) (n : ℕ) (j : S8x1024.Idx) : EReal :=
  ∑ r : Fin 512, term3 (X m c) (DH m c) (G m c) (SC m c) (j 0).val (512 * n + r) (j 1)

/-- One row of the body's stores into the sums. -/
theorem rows_share (c : Dev nD) (t : Fin cfg0.N) (Y : FVec Ideal S8x1024 .f32) (k : Fin 8) (l : Fin 1024) (g2 g1 g0 : FVec Ideal S1x1024 .f32)
    (e2 : (k : ℕ) = 2 → g2 (ix2 0 l) = Y (ix2 k l))
    (e1 : (k : ℕ) = 1 → g1 (ix2 0 l) = Y (ix2 k l)) (e0 : (k : ℕ) = 0 → g0 (ix2 0 l) = Y (ix2 k l)) :
    (if (k : ℕ) = 2 then k0_pay3 (F := Ideal) (k0_pay5 (iblk m c 4 t)) (k0_pay9 (iblk m c 0 t) (iblk m c 1 t)) g2 (ix2 0 l)
      else if (k : ℕ) = 1 then k0_pay2 (F := Ideal) (iblk m c 3 t) (k0_pay9 (iblk m c 0 t) (iblk m c 1 t)) g1 (ix2 0 l)
      else if (k : ℕ) = 0 then k0_pay1 (F := Ideal) (iblk m c 1 t) g0 (ix2 0 l)
      else Y (ix2 k l)) = Y (ix2 k l) + share m c t.val (ix2 k l) := by
  unfold share
  show _ = Y (ix2 k l) + ∑ r : Fin 512, term3 (X m c) (DH m c) (G m c) (SC m c) k.val (512 * t.val + r) l
  unfold term3
  by_cases h2 : (k : ℕ) = 2
  · simp only [h2, ↓reduceIte, Nat.reduceEqDiff]
    rw [pay3_at, e2 h2]
    exact congrArg _ (Finset.sum_congr rfl fun r _ => by rw [blk0, blk1, blk4])
  rw [if_neg h2]
  by_cases h1 : (k : ℕ) = 1
  · simp only [h1, ↓reduceIte, Nat.reduceEqDiff]
    rw [pay2_at, e1 h1]
    exact congrArg _ (Finset.sum_congr rfl fun r _ => by rw [blk0, blk1, blk3])
  rw [if_neg h1]
  by_cases h0 : (k : ℕ) = 0
  · rw [if_pos h0, pay1_at, e0 h0]
    exact congrArg _ (Finset.sum_congr rfl fun r _ => by rw [blk1, if_neg h2, if_neg h1, if_pos h0])
  rw [if_neg h0]
  simp only [h0, h1, h2, if_false, Finset.sum_const_zero, add_zero]

/-- The first point leaves its block's share. -/
theorem sums_first (c : Dev nD) (t : Fin cfg0.N) (h : t.val % 8 = 0) (j : S8x1024.Idx) :
    (outsAt0 m c t.val t.isLt).2 j = 0 + share m c t.val j := by
  obtain ⟨k, l, rfl⟩ : ∃ (k : Fin 8) (l : Fin 1024), j = ix2 k l := ⟨j 0, j 1, by blk_ext⟩
  rw [outsAt0_A m c t h]; dsimp only; frame_open
  simp (disch := decide) only [↓ View.readCov_skip, ↓ View.readCov_cons_toLoadRect, ↓ View.readCov_fill]
  frame_out
  rw [← View.read_writes_junk_apply_eq_canon (ms0_6 t).view, Cert.Kernel15Ideal.Blk.rows3, View.read_writes_junk_apply_eq_canon,
    View.canon_cons_unit_lit _ _ _ (by decide)]
  exact (rows_share m c t k0_pay4 k l _ _ _ (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))).trans (congrArg (· + _) (pay4_at _))

/-- Every later point adds its block's share. -/
theorem sums_later (c : Dev nD) (t : Fin cfg0.N) (h : ¬t.val % 8 = 0) (j : S8x1024.Idx) :
    (outsAt0 m c t.val t.isLt).2 j
      = (outsAt0 m c (t.val - 1) (Nat.lt_of_le_of_lt (Nat.sub_le _ _) t.isLt)).2 j + share m c t.val j := by
  obtain ⟨k, l, rfl⟩ : ∃ (k : Fin 8) (l : Fin 1024), j = ix2 k l := ⟨j 0, j 1, by blk_ext⟩
  rw [outsAt0_B m c t h]; dsimp only; frame_out
  rw [Cert.Kernel15Ideal.Blk.rows3, View.writes_nil, Memref.IsWhole.read_unread]
  exact rows_share m c t _ k l _ _ _ (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))

/-- The last point leaves the sums over all rows. -/
theorem sums_last (c : Dev nD) (j : S8x1024.Idx) :
    (outsAt0 m c t0_7.val t0_7.isLt).2 j = sums3 (X m c) (DH m c) (G m c) (SC m c) j := by
  refine (Pipeline.eq_sum_of_reset_step_apply_single (fun n h => (outsAt0 m c n h).2) 8 (fun _ => 0)
    (fun n j => share m c n j) (fun t h i => sums_first m c t h i) (fun t h i => sums_later m c t h i) (by decide) t0_7 j).trans ?_
  rw [zero_add, sums3, show t0_7.val + 1 = 8 from rfl, show 4096 = 8 * 512 from rfl, Finset.sum_range_mul_split]
  refine Finset.sum_congr rfl fun s hs => ?_
  rw [share, Finset.sum_range]
  exact Finset.sum_congr rfl fun r _ => by rw [Nat.mul_comm]

/-- The gradient in the rows after the run. -/
theorem final_dx (c : Dev nD) : (dats m 0 c).arrAt 5 cfg0.N = dx (X m c) (DH m c) (DR m c) (G m c) (SC m c) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by blk_ext⟩
  refine (dx_point m c t r l).trans ?_
  unfold dx
  have e : (win0_5.blk t).view.emb (ix2 r l) 1 = l := Fin.ext (by blk_simp [idx t])
  blk_simp [idx t]
  rw [Nat.mul_comm]
  rw [e]

/-- The sums after the run. -/
theorem final_sums (c : Dev nD) : (dats m 0 c).arrAt 6 cfg0.N = sums3 (X m c) (DH m c) (G m c) (SC m c) := by
  refine (dats m 0 c).arrAt_eq_of_after_last 6 t0_7 (by decide +kernel) _ fun j => ?_
  blk_simp
  rw [after0_6]
  exact sums_last m c j

end Cert.Kernel23Ideal.Blk

namespace Cert.Reference23Ideal.Ref
open Idealize.ShloMosaic Cert.Reference23Ideal Cert.Reference23Ideal.Read Cert.Norm Cert.Finite
variable (x dh dr : FVec Ideal S4096x1024 .f32) (g sc : FVec Ideal S1x1024 .f32)

/-- The gradient in the rows: the same operations as in the gated reference. -/
theorem ref_dx (hx : AllReal x) (hdh : AllReal dh) (hg : AllReal g) (hsc : AllReal sc) :
    val_main_v49 (F := Ideal) x dh dr g sc = dx x dh dr g sc :=
  Cert.Reference15Ideal.Ref.ref_dx x dh dr g sc hx hdh hg hsc

/-- The sums over the rows. -/
theorem ref_sums : val_main_v51 (F := Ideal) x dh g sc = sums3 x dh g sc := by
  funext i
  obtain ⟨k, l, rfl⟩ : ∃ (k : Fin 8) (l : Fin 1024), i = ix2 k l := ⟨i 0, i 1, by blk_ext⟩
  have h0 : val_main_v24 (F := Ideal) dh (ix2 (0 : Fin 1) l) = sums3 x dh g sc (ix2 (0 : Fin 8) l) :=
    Cert.Reference15Ideal.Ref.row0 dh l
  have h1 : val_main_v27 (F := Ideal) x dh g (ix2 (0 : Fin 1) l) = sums3 x dh g sc (ix2 (1 : Fin 8) l) :=
    Cert.Reference15Ideal.Ref.row1 x dh g l
  have h2 : val_main_v32 (F := Ideal) x dh sc (ix2 (0 : Fin 1) l) = sums3 x dh g sc (ix2 (2 : Fin 8) l) :=
    Cert.Reference15Ideal.Ref.row2 x dh sc l
  have h3 : ∀ q, val_main_v50 (F := Ideal) q = 0 := fun q => by
    rw [val_main_v50_apply, val_main_cst_11_apply]; exact Ideal.ofBits_zero_f32
  have hz : ∀ k : Fin 8, 3 ≤ k.val → sums3 x dh g sc (ix2 k l) = 0 := fun k hk => by
    refine Finset.sum_eq_zero fun r _ => ?_
    show term3 x dh g sc k.val r l = 0
    rw [term3, if_neg (by omega), if_neg (by omega), if_neg (by omega)]
  unfold val_main_v51
  generalize val_main_v24 (F := Ideal) dh = y0 at *
  generalize val_main_v27 (F := Ideal) x dh g = y1 at *
  generalize val_main_v32 (F := Ideal) x dh sc = y2 at *
  generalize val_main_v50 (F := Ideal) = y3 at *
  pointwise
  fin_vals k with hk
  all_goals simp only [hk, Nat.reduceSub, Nat.reduceLT, ↓reduceDIte]
  · obtain rfl : k = 0 := Fin.ext hk; exact h0
  · obtain rfl : k = 1 := Fin.ext hk; exact h1
  · obtain rfl : k = 2 := Fin.ext hk; exact h2
  all_goals exact (h3 _).trans (hz k (by omega)).symm

end Cert.Reference23Ideal.Ref
end
-- ==== Proof.ModPart.lean ====
module

public import Idealize.ShloMosaic.Lib.Pointwise
public import Idealize.ShloMosaic.Lib.Pipeline.ValueKit
public import Idealize.ShloMosaic.Lib.Pipeline.ReadBack
public import proofs.«01_k».proof.Proof.NormSpec
public import proofs.«01_k».proof.Proof.Gen.Kernel24Ideal.Value
public import proofs.«01_k».proof.Proof.Gen.Reference24Ideal.Run
public import proofs.«01_k».proof.Proof.Gen.Reference24Ideal.Read

/-! The condition's activation and its product with each layer's modulation weights. -/

@[expose] public section
set_option maxRecDepth 16384

noncomputable section
namespace Cert.Kernel24Ideal.Blk
open Idealize.ShloMosaic Idealize.ShloMosaic.TcCoe Idealize.SL.Sem
open Cert.Kernel24Ideal Cert.Kernel24Ideal.Gen
variable (m : (ℓ : Loc nD τ sig) → Buf (Elt Ideal) ℓ)

/-- A number times its logistic function. -/
def silu (a : EReal) : EReal := a * Ideal.logistic a

/-- The condition's activation. -/
def act (x : FVec Ideal S8x1024 .f32) : FVec Ideal S8x1024 .f32 := fun i => silu (x i)

/-- The activation's product with each layer's weights, plus the layer's bias. -/
def part (x : FVec Ideal S8x1024 .f32) (w : FVec Ideal S2x1024x768 .f32) (b : FVec Ideal S2x1x768 .f32) : FVec Ideal S2x8x768 .f32 :=
  fun i => (∑ k : Fin 1024, silu (x (ix2 (i 1) k)) * w (ix3 (i 0) k (i 2))) + b (ix3 (i 0) (0 : Fin 1) (i 2))

/-- The activation of a block. -/
theorem pay1_at (x : FVec Ideal S8x1024 .f32) (i : S8x1024.Idx) : k0_pay1 (F := Ideal) x i = silu (x i) := rfl

/-- One layer's product. -/
theorem pay2_at (x : FVec Ideal S8x1024 .f32) (w : FVec Ideal S1x1024x768 .f32) (b : FVec Ideal S1x1x768 .f32) (r : Fin 8) (l : Fin 768) :
    k0_pay2 (F := Ideal) x w b (ix3 (0 : Fin 1) r l)
      = (∑ k : Fin 1024, silu (x (ix2 r k)) * w (ix3 (0 : Fin 1) k l)) + b (ix3 (0 : Fin 1) (0 : Fin 1) l) := by
  simp only [← pay1_at]
  unfold k0_pay2
  generalize k0_pay1 (F := Ideal) x = y
  pointwise

/-- Where each window's block lies at each grid point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![0, 0] ∧ t.val < 2 :=
  (by decide +kernel : ∀ t : Fin grid0.N, _)

/-- The products after the run. -/
theorem final_part (c : Dev nD) : (dats m 0 c).arrAt 3 cfg0.N
    = part (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ : ∃ (r : Fin 8) (l : Fin 768), y = ix3 (0 : Fin 1) r l :=
    ⟨y 1, y 2, by blk_ext⟩
  frame_out
  refine (pay2_at _ _ _ r l).trans ?_
  unfold part
  refine congrArg₂ (fun a b : EReal => a + b) (Finset.sum_congr rfl fun k _ => ?_) ?_
  · refine congrArg₂ (fun a b : EReal => silu a * b) ?_ ?_
    · blk_point [iblk, V, idx t]
    · blk_point [iblk, V, idx t]
  · blk_point [iblk, V, idx t]

/-- The activation after the run. -/
theorem final_act (c : Dev nD) : (dats m 0 c).arrAt 4 cfg0.N = act (m ((c : Thread nD τ).loc main_arg0)) := by
  refine (dats m 0 c).arrAt_eq_of_covers 4 _ (by decide +kernel) fun t hf y => ?_
  blk_simp
  rw [after0_4]
  obtain ⟨r, l, rfl⟩ : ∃ (r : Fin 8) (l : Fin 1024), y = ix2 r l := ⟨y 0, y 1, by blk_ext⟩
  frame_out
  refine (pay1_at _ (ix2 r l)).trans ?_
  unfold act
  refine congrArg silu ?_
  blk_point [iblk, V, idx t]

end Cert.Kernel24Ideal.Blk

namespace Cert.Reference24Ideal.Ref
open Idealize.ShloMosaic Cert.Reference24Ideal Cert.Reference24Ideal.Read
open Cert.Kernel24Ideal.Blk (silu act part)
variable (x : FVec Ideal Cert.Kernel24Ideal.S8x1024 .f32) (w : FVec Ideal Cert.Kernel24Ideal.S2x1024x768 .f32)
  (b : FVec Ideal Cert.Kernel24Ideal.S2x1x768 .f32)

/-- The reference's activation. -/
theorem v0_at (i : Cert.Kernel24Ideal.S8x1024.Idx) : val_main_v0 (F := Ideal) x i = silu (x i) := by
  have e : Ideal.ofBits .f32 0x3F800000#32 = (1 : EReal) := Cert.Norm.one_eq.trans EReal.coe_one
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show x i * Ideal.div (Ideal.ofBits .f32 0x3F800000#32) (Ideal.ofBits .f32 0x3F800000#32 + Ideal.exp (-x i)) = _
  rw [e]; rfl

theorem ref_act : val_main_v0 (F := Ideal) x = act x := funext fun i => v0_at x i

/-- The first layer's product. -/
theorem v11_at (r : Fin 8) (l : Fin 768) : val_main_v11 (F := Ideal) x w (ix3 (0 : Fin 1) r l)
    = ∑ k : Fin 1024, silu (x (ix2 r k)) * w (ix3 (0 : Fin 2) k l) := by
  rw [val_main_v11_apply, val_main_v7_apply]
  refine Finset.sum_congr rfl fun k _ => ?_
  rw [val_main_v5_apply, val_main_v6_apply, val_main_v2_apply, val_main_v1_apply]
  exact congrArg₂ (fun a b : EReal => a * b) ((v0_at x _).trans (congrArg (fun j => silu (x j)) (by blk_ext))) (congrArg w (by blk_ext))

/-- The second layer's product. -/
theorem v12_at (r : Fin 8) (l : Fin 768) : val_main_v12 (F := Ideal) x w (ix3 (0 : Fin 1) r l)
    = ∑ k : Fin 1024, silu (x (ix2 r k)) * w (ix3 (1 : Fin 2) k l) := by
  rw [val_main_v12_apply, val_main_v10_apply]
  refine Finset.sum_congr rfl fun k _ => ?_
  rw [val_main_v8_apply, val_main_v9_apply, val_main_v4_apply, val_main_v3_apply]
  exact congrArg₂ (fun a b : EReal => a * b) ((v0_at x _).trans (congrArg (fun j => silu (x j)) (by blk_ext))) (congrArg w (by blk_ext))

/-- The two layers' products, one after the other. -/
theorem v13_at (k : Fin 2) (r : Fin 8) (l : Fin 768) : val_main_v13 (F := Ideal) x w (ix3 k r l)
    = ∑ j : Fin 1024, silu (x (ix2 r j)) * w (ix3 k j l) := by
  have h0 := v11_at x w r l
  have h1 := v12_at x w r l
  unfold val_main_v13
  generalize val_main_v11 (F := Ideal) x w = y0 at *
  generalize val_main_v12 (F := Ideal) x w = y1 at *
  pointwise
  fin_vals k with hk
  all_goals simp only [hk, Nat.reduceSub, Nat.reduceLT, ↓reduceDIte]
  · obtain rfl : k = 0 := Fin.ext hk; exact h0
  · obtain rfl : k = 1 := Fin.ext hk; exact h1

/-- The reference's products with their biases. -/
theorem ref_part : val_main_v15 (F := Ideal) x w b = part x w b := by
  funext i
  obtain ⟨k, r, l, rfl⟩ : ∃ (k : Fin 2) (r : Fin 8) (l : Fin 768), i = ix3 k r l := ⟨i 0, i 1, i 2, by blk_ext⟩
  rw [val_main_v15_apply, v13_at, val_main_v14_apply, show idx_main_v14 (ix3 k r l) = ix3 k (0 : Fin 1) l by blk_ext]
  rfl

end Cert.Reference24Ideal.Ref
end
-- ==== Proof.Loss.lean ====
module

public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.NormBwdSpec
public import proofs.«01_k».proof.Proof.Gen.Kernel25Ideal.Value
public import proofs.«01_k».proof.Proof.Gen.Reference25Ideal.Run
public import proofs.«01_k».proof.Proof.Gen.Reference25Ideal.Read

/-! The loss, its gradient in the rows, and the gated residual's gradients. -/

@[expose] public section
set_option maxRecDepth 16384

noncomputable section
namespace Cert.Loss
open Idealize.ShloMosaic
open Cert.Norm (row row_of_lt row_of_nat lane len len_eq one one_eq)

/-- One half. -/
def half : EReal := Ideal.ofBits .f32 0x3F000000#32
/-- One over the length of a row. -/
def rate : EReal := Ideal.ofBits .f32 0x3A800000#32
/-- One half over the length of a row. -/
def hrate : EReal := Ideal.ofBits .f32 0x3A000000#32

theorem half_eq : half = ((1 / 2 : ℝ) : EReal) := by
  unfold half; simp [Ideal.ofBits, Ideal.ieee, -EReal.coe_mul]; norm_num

theorem rate_eq : rate = ((1 / 1024 : ℝ) : EReal) := by
  unfold rate; simp [Ideal.ofBits, Ideal.ieee, -EReal.coe_mul]; norm_num

theorem hrate_eq : hrate = ((1 / 2048 : ℝ) : EReal) := by
  unfold hrate; simp [Ideal.ofBits, Ideal.ieee, -EReal.coe_mul]; norm_num

section
variable (x t : FVec Ideal (⟨2, ![4096, 1024]⟩ : Shape) .f32) (z : FVec Ideal (⟨2, ![4096, 1024]⟩ : Shape) .bf16)
  (gt : FVec Ideal (⟨2, ![1, 1024]⟩ : Shape) .f32)

/-- The square of a row's difference from its target. -/
def sq (r : ℕ) (l : Fin 1024) : EReal := (row x r l - row t r l) * (row x r l - row t r l)

/-- The loss: half the sum over the rows of the mean squared difference. -/
def loss : FVec Ideal (⟨2, ![1, 1]⟩ : Shape) .f32 :=
  fun _ => half * ∑ r ∈ Finset.range 4096, Ideal.div (∑ l : Fin 1024, sq x t r l) len

/-- The loss's gradient in row `r`. -/
def dxRow (r : ℕ) (l : Fin 1024) : EReal := (row x r l - row t r l) * rate

/-- The loss's gradient in the rows. -/
def dx : FVec Ideal (⟨2, ![4096, 1024]⟩ : Shape) .f32 := fun i => dxRow x t (i 0).val (i 1)

/-- The gradient in the residual branch, rounded to sixteen bits. -/
def dz : FVec Ideal (⟨2, ![4096, 1024]⟩ : Shape) .bf16 := fun i => dxRow x t (i 0).val (i 1) * lane gt (i 1)

/-- The gate's gradient. -/
def dgate : FVec Ideal (⟨2, ![1, 1024]⟩ : Shape) .f32 :=
  fun j => ∑ r ∈ Finset.range 4096, dxRow x t r (j 1) * row z r (j 1)

end

/-- A square is not negative. -/
theorem sq_nonneg (a : EReal) : 0 ≤ a * a := by
  rcases le_total 0 a with h | h
  · exact mul_nonneg h h
  · have h' : 0 ≤ -a := EReal.neg_nonneg.mpr h
    have := mul_nonneg h' h'
    rwa [EReal.neg_mul, mul_comm, EReal.neg_mul, neg_neg] at this

/-- A factor goes into a sum of numbers none of which is negative. -/
theorem mul_sum {ι : Type} (s : Finset ι) (c : EReal) (f : ι → EReal) (h : ∀ i, 0 ≤ f i) : c * ∑ i ∈ s, f i = ∑ i ∈ s, c * f i := by
  induction s using Finset.cons_induction with
  | empty => simp
  | cons a s ha ih => rw [Finset.sum_cons, Finset.sum_cons, EReal.left_distrib_of_nonneg (h a) (Finset.sum_nonneg fun i _ => h i), ih]

/-- Scaling the sum of all squares is summing the rows' means and halving. -/
theorem loss_law (e : ℕ → Fin 1024 → EReal) (h : ∀ r l, 0 ≤ e r l) :
    hrate * ∑ l : Fin 1024, ∑ r ∈ Finset.range 4096, e r l
      = half * ∑ r ∈ Finset.range 4096, Ideal.div (∑ l : Fin 1024, e r l) len := by
  rw [Finset.sum_comm, mul_sum _ _ _ fun r => Finset.sum_nonneg fun l _ => h r l]
  have q : ∀ r, Ideal.div (∑ l : Fin 1024, e r l) len = (∑ l : Fin 1024, e r l) * rate := fun r => by
    rw [len_eq, Ideal.div_coe (by norm_num), rate_eq]
  have hr : (0 : EReal) ≤ rate := by rw [rate_eq]; exact EReal.coe_nonneg.mpr (by norm_num)
  simp only [q]
  rw [mul_sum _ _ _ fun r => mul_nonneg (Finset.sum_nonneg fun l _ => h r l) hr]
  refine Finset.sum_congr rfl fun r _ => ?_
  have k : half * rate = hrate := by rw [half_eq, rate_eq, hrate_eq, ← EReal.coe_mul]; norm_num
  rw [mul_comm _ rate, ← mul_assoc, k]

/-- The chain rule's factors are one over the length of a row. -/
theorem dx_law (d : EReal) : Ideal.div (half * one) len * (Ideal.ofBits .f32 0x40000000#32 * d) = d * rate := by
  have two : Ideal.ofBits .f32 0x40000000#32 = ((2 : ℝ) : EReal) := by
    simp [Ideal.ofBits, Ideal.ieee, -EReal.coe_mul]; norm_num
  rw [len_eq, Ideal.div_coe (by norm_num), half_eq, one_eq, two, rate_eq, ← mul_assoc, ← EReal.coe_mul, ← EReal.coe_mul,
    ← EReal.coe_mul, mul_comm d]
  norm_num

end Cert.Loss

namespace Cert.Kernel25Ideal.Blk
open Idealize.ShloMosaic Idealize.ShloMosaic.TcCoe Idealize.SL.Sem
open Cert.Kernel25Ideal Cert.Kernel25Ideal.Gen Cert.Loss
open Cert.Norm (row row_of_lt row_of_nat lane len len_eq one one_eq)
variable (m : (ℓ : Loc nD τ sig) → Buf (Elt Ideal) ℓ)

/-- The call's arguments. -/
abbrev X (c : Dev nD) : FVec Ideal S4096x1024 .f32 := m ((c : Thread nD τ).loc main_arg0)
abbrev T (c : Dev nD) : FVec Ideal S4096x1024 .f32 := m ((c : Thread nD τ).loc main_arg1)
abbrev Z (c : Dev nD) : FVec Ideal S4096x1024 .bf16 := m ((c : Thread nD τ).loc main_arg2)
abbrev GT (c : Dev nD) : FVec Ideal S1x1024 .f32 := m ((c : Thread nD τ).loc main_arg3)

section payloads
variable (x y : FVec Ideal S512x1024 .f32) (gt old : FVec Ideal S1x1024 .f32) (z : FVec Ideal S512x1024 .bf16)

/-- The gradient in a block's rows. -/
theorem pay6_at (r : Fin 512) (l : Fin 1024) :
    k0_pay6 (F := Ideal) x y (ix2 r l) = (row x r l - row y r l) * rate := by
  simp only [row_of_lt]; unfold rate; pointwise [k0_pay6, k0_pay5]

/-- The gradient in the residual branch. -/
theorem pay7_at (r : Fin 512) (l : Fin 1024) :
    k0_pay7 (F := Ideal) x y gt (ix2 r l) = (row x r l - row y r l) * rate * lane gt l := by
  rw [← pay6_at]; unfold k0_pay7 lane; generalize k0_pay6 (F := Ideal) x y = v; pointwise

/-- The gate's gradient: the block's column sums are added to what was there. -/
theorem pay8_at (l : Fin 1024) :
    k0_pay8 (F := Ideal) x y old z (ix2 (0 : Fin 1) l)
      = old (ix2 (0 : Fin 1) l) + ∑ r : Fin 512, (row x r l - row y r l) * rate * row z r l := by
  simp only [← pay6_at]; simp only [row_of_lt]; unfold k0_pay8; generalize k0_pay6 (F := Ideal) x y = v; pointwise

/-- The squares' column sums are added to what was there. -/
theorem pay9_at (l : Fin 1024) :
    k0_pay1 (F := Ideal) (k0_pay9 x y old) (ix2 (0 : Fin 1) l)
      = old (ix2 (0 : Fin 1) l) + ∑ r : Fin 512, (row x r l - row y r l) * (row x r l - row y r l) := by
  simp only [row_of_lt]; pointwise [k0_pay1, k0_pay9, k0_pay5]

/-- The zeros the sums start from. -/
theorem pay3_at (l : Fin 1024) : k0_pay3 (F := Ideal) (ix2 (0 : Fin 1) l) = 0 := by
  refine Eq.trans ?_ Ideal.ofBits_zero_f32; pointwise [k0_pay3]

theorem pay4_at (l : Fin 1024) : k0_pay4 (F := Ideal) (ix2 (0 : Fin 1) l) = 0 := Ideal.ofBits_zero_f32

/-- The loss from the squares' column sums. -/
theorem pay2_at : k0_pay2 (F := Ideal) old (ix2 (0 : Fin 1) (0 : Fin 1)) = hrate * ∑ l : Fin 1024, old (ix2 (0 : Fin 1) l) := by
  unfold hrate; pointwise [k0_pay2]

end payloads

/-- Where each window's block lies at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ t.val < 8 :=
  (by decide +kernel : ∀ t : Fin grid0.N, _)

theorem lt8 (t : Fin cfg0.N) : t.val < 8 := (idx t).2.2.2.2.2.2.2.2

/-- A block's rows are rows of its array. -/
theorem blk0 (c : Dev nD) (t : Fin cfg0.N) (r : Fin 512) : row (n := 512) (φ := .f32) (iblk m c 0 t) r = row (X m c) (512 * t.val + r) := by
  have := lt8 t
  funext l
  rw [row_of_lt, row_of_nat _ (by omega)]
  blk_ext [iblk, V, idx t]

theorem blk1 (c : Dev nD) (t : Fin cfg0.N) (r : Fin 512) : row (n := 512) (φ := .f32) (iblk m c 1 t) r = row (T m c) (512 * t.val + r) := by
  have := lt8 t
  funext l
  rw [row_of_lt, row_of_nat _ (by omega)]
  blk_ext [iblk, V, idx t]

theorem blk2 (c : Dev nD) (t : Fin cfg0.N) (r : Fin 512) : row (n := 512) (φ := .bf16) (iblk m c 2 t) r = row (Z m c) (512 * t.val + r) := by
  have := lt8 t
  funext l
  rw [row_of_lt, row_of_nat _ (by omega)]
  blk_ext [iblk, V, idx t]

theorem blk3 (c : Dev nD) (t : Fin cfg0.N) : lane (iblk m c 3 t) = lane (GT m c) := by
  funext l; unfold lane; blk_ext [iblk, V, idx t]

/-- The block's gradient in the rows. -/
theorem dx_point (c : Dev nD) (t : Fin cfg0.N) (r : Fin 512) (l : Fin 1024) :
    (outsAt0 m c t.val t.isLt).1 (ix2 r l) = dxRow (X m c) (T m c) (512 * t.val + r) l := by
  have e := pay6_at (iblk m c 0 t) (iblk m c 1 t) r l
  rw [blk0, blk1] at e
  refine Eq.trans ?_ e
  by_cases h : t.val % 8 = 0
  · rw [outsAt0_A m c t h (by omega)]; dsimp only; frame_out
  · by_cases h' : t.val % 8 = 7
    · rw [outsAt0_C m c t h h']; dsimp only; frame_out
    · rw [outsAt0_B m c t h h']; dsimp only; frame_out

/-- The block's gradient in the residual branch. -/
theorem dz_point (c : Dev nD) (t : Fin cfg0.N) (r : Fin 512) (l : Fin 1024) :
    (outsAt0 m c t.val t.isLt).2.2.1 (ix2 r l) = dxRow (X m c) (T m c) (512 * t.val + r) l * lane (GT m c) l := by
  have e := pay7_at (iblk m c 0 t) (iblk m c 1 t) (iblk m c 3 t) r l
  rw [blk0, blk1, blk3] at e
  refine Eq.trans ?_ e
  by_cases h : t.val % 8 = 0
  · rw [outsAt0_A m c t h (by omega)]; dsimp only; frame_out
  · by_cases h' : t.val % 8 = 7
    · rw [outsAt0_C m c t h h']; dsimp only; frame_out
    · rw [outsAt0_B m c t h h']; dsimp only; frame_out

/-- A block's share of the gate's gradient. -/
def gshare (c : Dev nD) (n : ℕ) (j : S1x1024.Idx) : EReal :=
  ∑ r : Fin 512, dxRow (X m c) (T m c) (512 * n + r) (j 1) * row (Z m c) (512 * n + r) (j 1)

/-- A block's share of the squares. -/
def sshare (c : Dev nD) (n : ℕ) (j : S1x1024.Idx) : EReal := ∑ r : Fin 512, sq (X m c) (T m c) (512 * n + r) (j 1)

theorem gate_pay (c : Dev nD) (t : Fin cfg0.N) (old : FVec Ideal S1x1024 .f32) (l : Fin 1024) :
    k0_pay8 (F := Ideal) (iblk m c 0 t) (iblk m c 1 t) old (iblk m c 2 t) (ix2 (0 : Fin 1) l)
      = old (ix2 (0 : Fin 1) l) + gshare m c t.val (ix2 (0 : Fin 1) l) := by
  refine (pay8_at _ _ _ _ l).trans (congrArg (fun a : EReal => _ + a) (Finset.sum_congr rfl fun r _ => ?_))
  rw [blk0, blk1, blk2]; rfl

theorem sq_pay (c : Dev nD) (t : Fin cfg0.N) (old : FVec Ideal S1x1024 .f32) (l : Fin 1024) :
    k0_pay1 (F := Ideal) (k0_pay9 (iblk m c 0 t) (iblk m c 1 t) old) (ix2 (0 : Fin 1) l)
      = old (ix2 (0 : Fin 1) l) + sshare m c t.val (ix2 (0 : Fin 1) l) := by
  refine (pay9_at _ _ _ l).trans (congrArg (fun a : EReal => _ + a) (Finset.sum_congr rfl fun r _ => ?_))
  rw [blk0, blk1]; rfl

/-- The first point leaves its block's shares. -/
theorem gate_first (c : Dev nD) (t : Fin cfg0.N) (h : t.val % 8 = 0) (j : S1x1024.Idx) :
    (outsAt0 m c t.val t.isLt).2.2.2.1 j = 0 + gshare m c t.val j := by
  obtain ⟨l, rfl⟩ : ∃ l : Fin 1024, j = ix2 (0 : Fin 1) l := ⟨j 1, by blk_ext⟩
  rw [outsAt0_A m c t h (by omega)]; dsimp only; frame_open
  simp (disch := decide) only [↓ View.readCov_skip, ↓ View.readCov_cons_toLoadRect, ↓ View.readCov_fill]
  frame_out
  exact (gate_pay m c t _ l).trans (congrArg (fun a : EReal => a + _) (pay4_at l))

theorem sq_first (c : Dev nD) (t : Fin cfg0.N) (h : t.val % 8 = 0) (j : S1x1024.Idx) :
    (outsAt0 m c t.val t.isLt).2.2.2.2 j = 0 + sshare m c t.val j := by
  obtain ⟨l, rfl⟩ : ∃ l : Fin 1024, j = ix2 (0 : Fin 1) l := ⟨j 1, by blk_ext⟩
  rw [outsAt0_A m c t h (by omega)]; dsimp only; frame_open
  simp (disch := decide) only [↓ View.readCov_skip, ↓ View.readCov_cons_toLoadRect, ↓ View.readCov_fill]
  frame_out
  exact (sq_pay m c t _ l).trans (congrArg (fun a : EReal => a + _) (pay3_at l))

/-- Every later point adds its block's shares. -/
theorem gate_later (c : Dev nD) (t : Fin cfg0.N) (h : ¬t.val % 8 = 0) (j : S1x1024.Idx) :
    (outsAt0 m c t.val t.isLt).2.2.2.1 j
      = (outsAt0 m c (t.val - 1) (Nat.lt_of_le_of_lt (Nat.sub_le _ _) t.isLt)).2.2.2.1 j + gshare m c t.val j := by
  obtain ⟨l, rfl⟩ : ∃ l : Fin 1024, j = ix2 (0 : Fin 1) l := ⟨j 1, by blk_ext⟩
  by_cases h' : t.val % 8 = 7
  · rw [outsAt0_C m c t h h']; dsimp only; frame_out
    exact gate_pay m c t _ l
  · rw [outsAt0_B m c t h h']; dsimp only; frame_out
    exact gate_pay m c t _ l

theorem sq_later (c : Dev nD) (t : Fin cfg0.N) (h : ¬t.val % 8 = 0) (j : S1x1024.Idx) :
    (outsAt0 m c t.val t.isLt).2.2.2.2 j
      = (outsAt0 m c (t.val - 1) (Nat.lt_of_le_of_lt (Nat.sub_le _ _) t.isLt)).2.2.2.2 j + sshare m c t.val j := by
  obtain ⟨l, rfl⟩ : ∃ l : Fin 1024, j = ix2 (0 : Fin 1) l := ⟨j 1, by blk_ext⟩
  by_cases h' : t.val % 8 = 7
  · rw [outsAt0_C m c t h h']; dsimp only; frame_out
    exact (sq_pay m c t _ l).trans (congrArg (fun a : EReal => a + _) (congrFun (Memref.IsWhole.read_unread (Memref.isWhole_whole _) _) _))
  · rw [outsAt0_B m c t h h']; dsimp only; frame_out
    exact (sq_pay m c t _ l).trans (congrArg (fun a : EReal => a + _) (congrFun (Memref.IsWhole.read_unread (Memref.isWhole_whole _) _) _))

/-- The shares of the eight blocks are a sum over all rows. -/
theorem rows_sum (f : ℕ → EReal) :
    0 + ∑ n ∈ Finset.range (t0_7.val + 1), (∑ r : Fin 512, f (512 * n + r)) = ∑ r ∈ Finset.range 4096, f r := by
  rw [zero_add, show t0_7.val + 1 = 8 from rfl, show 4096 = 8 * 512 from rfl, Finset.sum_range_mul_split]
  refine Finset.sum_congr rfl fun s hs => ?_
  rw [Finset.sum_range]
  exact Finset.sum_congr rfl fun r _ => by rw [Nat.mul_comm]

/-- The last point leaves the gate's gradient. -/
theorem gate_last (c : Dev nD) (j : S1x1024.Idx) :
    (outsAt0 m c t0_7.val t0_7.isLt).2.2.2.1 j = dgate (X m c) (T m c) (Z m c) j :=
  (Pipeline.eq_sum_of_reset_step_apply_single (fun n h => (outsAt0 m c n h).2.2.2.1) 8 (fun _ => 0)
    (fun n j => gshare m c n j) (fun t h i => gate_first m c t h i) (fun t h i => gate_later m c t h i) (by decide) t0_7 j).trans
    (rows_sum fun r => dxRow (X m c) (T m c) r (j 1) * row (Z m c) r (j 1))

/-- The last point holds the squares' column sums. -/
theorem sq_last (c : Dev nD) (j : S1x1024.Idx) :
    (outsAt0 m c t0_7.val t0_7.isLt).2.2.2.2 j = ∑ r ∈ Finset.range 4096, sq (X m c) (T m c) r (j 1) :=
  (Pipeline.eq_sum_of_reset_step_apply_single (fun n h => (outsAt0 m c n h).2.2.2.2) 8 (fun _ => 0)
    (fun n j => sshare m c n j) (fun t h i => sq_first m c t h i) (fun t h i => sq_later m c t h i) (by decide) t0_7 j).trans
    (rows_sum fun r => sq (X m c) (T m c) r (j 1))

/-- The last point makes the loss of those sums. -/
theorem loss_last (c : Dev nD) :
    (outsAt0 m c t0_7.val t0_7.isLt).2.1 (ix2 (0 : Fin 1) (0 : Fin 1)) = loss (X m c) (T m c) (ix2 (0 : Fin 1) (0 : Fin 1)) := by
  have e : (outsAt0 m c t0_7.val t0_7.isLt).2.1 (ix2 (0 : Fin 1) (0 : Fin 1))
      = k0_pay2 (F := Ideal) (outsAt0 m c t0_7.val t0_7.isLt).2.2.2.2 (ix2 (0 : Fin 1) (0 : Fin 1)) := by
    rw [outsAt0_C m c t0_7 (by decide) (by decide)]; dsimp only; frame_open
    simp (disch := decide) only [↓ View.readCov_skip, ↓ View.readCov_cons_toLoadRect, ↓ View.readCov_fill]
    frame_out
  rw [e, pay2_at]
  simp only [sq_last]
  exact loss_law (fun r l => sq (X m c) (T m c) r l) fun r l => sq_nonneg _

/-- The gradient in the rows after the run. -/
theorem final_dx (c : Dev nD) : (dats m 0 c).arrAt 4 cfg0.N = dx (X m c) (T m c) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, by blk_ext⟩
  refine (dx_point m c t r l).trans ?_
  unfold dx
  have e : (win0_4.blk t).view.emb (ix2 r l) 1 = l := Fin.ext (by blk_simp [idx t])
  blk_simp [idx t]
  rw [Nat.mul_comm]
  rw [e]

/-- The gradient in the residual branch after the run. -/
theorem final_dz (c : Dev nD) : (dats m 0 c).arrAt 6 cfg0.N = dz (X m c) (T m c) (GT m c) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, by blk_ext⟩
  refine (dz_point m c t r l).trans ?_
  unfold dz
  have e : (win0_6.blk t).view.emb (ix2 r l) 1 = l := Fin.ext (by blk_simp [idx t])
  blk_simp [idx t]
  rw [Nat.mul_comm]
  rw [e]

/-- The loss after the run. -/
theorem final_loss (c : Dev nD) : (dats m 0 c).arrAt 5 cfg0.N = loss (X m c) (T m c) := by
  refine (dats m 0 c).arrAt_eq_of_after_last 5 t0_7 (by decide +kernel) _ fun j => ?_
  blk_simp
  rw [after0_5]
  obtain rfl : j = ix2 (0 : Fin 1) (0 : Fin 1) := by blk_ext
  exact loss_last m c

/-- The gate's gradient after the run. -/
theorem final_dgate (c : Dev nD) : (dats m 0 c).arrAt 7 cfg0.N = dgate (X m c) (T m c) (Z m c) := by
  refine (dats m 0 c).arrAt_eq_of_after_last 7 t0_7 (by decide +kernel) _ fun j => ?_
  blk_simp
  rw [after0_7]
  exact gate_last m c j

end Cert.Kernel25Ideal.Blk

namespace Cert.Reference25Ideal.Ref
open Idealize.ShloMosaic Cert.Reference25Ideal Cert.Reference25Ideal.Read Cert.Loss
open Cert.Norm (row row_of_lt row_of_nat lane len len_eq one one_eq)
variable (x t : FVec Ideal S4096x1024 .f32) (z : FVec Ideal S4096x1024 .bf16) (gt : FVec Ideal S1x1024 .f32)

/-- The reference's gradient in the rows. -/
theorem v14_at (r : Fin 4096) (l : Fin 1024) : val_main_v14 (F := Ideal) x t (ix2 r l) = dxRow x t r l := by
  rw [val_main_v14_apply, val_main_v13_apply, val_main_v12_apply, val_main_v10_apply, val_main_v9_apply, val_main_cst_4_apply,
    val_main_cst_5_apply, val_main_v11_apply, val_main_cst_6_apply, val_main_v3_apply, val_main_v2_apply, val_main_cst_apply,
    val_main_v0_apply]
  refine (dx_law (x (ix2 r l) - t (ix2 r l))).trans ?_
  rw [dxRow, row_of_lt, row_of_lt]

theorem ref_dx : val_main_v14 (F := Ideal) x t = dx x t := by
  funext i
  obtain ⟨r, l, rfl⟩ : ∃ (r : Fin 4096) (l : Fin 1024), i = ix2 r l := ⟨i 0, i 1, by blk_ext⟩
  exact v14_at x t r l

/-- The reference's gradient in the residual branch. -/
theorem ref_dz : val_main_v24 (F := Ideal) x t gt = dz x t gt := by
  funext i
  obtain ⟨r, l, rfl⟩ : ∃ (r : Fin 4096) (l : Fin 1024), i = ix2 r l := ⟨i 0, i 1, by blk_ext⟩
  rw [val_main_v24_apply, val_main_v19_apply, val_main_v18_apply, v14_at, show idx_main_v18 (ix2 r l) = ix2 (0 : Fin 1) l by blk_ext]
  exact mul_comm _ _

/-- The reference's gate gradient. -/
theorem ref_dgate : val_main_v22 (F := Ideal) x t z = dgate x t z := by
  funext i
  obtain ⟨l, rfl⟩ : ∃ l : Fin 1024, i = ix2 (0 : Fin 1) l := ⟨i 1, by blk_ext⟩
  rw [val_main_v22_apply, val_main_v21_apply, val_main_cst_7_apply]
  refine (congrArg (fun a : EReal => a + _) Ideal.ofBits_zero_f32).trans ((zero_add _).trans ?_)
  unfold dgate
  rw [Finset.sum_range]
  refine Finset.sum_congr rfl fun r _ => ?_
  rw [show idx_main_v21 (idx_main_v22 (ix2 (0 : Fin 1) l)) r = ix2 r l by blk_ext, val_main_v20_apply, v14_at, val_main_v15_apply,
    row_of_lt z]
  rfl

/-- The mean squared difference of a row. -/
theorem v6_at (r : Fin 4096) : val_main_v6 (F := Ideal) x t (ix1 r) = Ideal.div (∑ l : Fin 1024, sq x t r l) len := by
  rw [val_main_v6_apply, val_main_v4_apply, val_main_cst_0_apply, val_main_v5_apply, val_main_cst_1_apply]
  refine congrArg (fun s : EReal => Ideal.div s len) ?_
  refine (congrArg (fun a : EReal => a + _) Ideal.ofBits_zero_f32).trans ((zero_add _).trans (Finset.sum_congr rfl fun l _ => ?_))
  rw [show idx_main_v4 (ix1 r) l = ix2 r l by blk_ext, val_main_v1_apply, val_main_v0_apply]
  show _ = (row x r l - row t r l) * (row x r l - row t r l)
  rw [row_of_lt, row_of_lt]
  rfl

/-- The reference's loss. -/
theorem ref_loss : val_main_v23 (F := Ideal) x t = loss x t := by
  funext i
  have e : val_main_v23 (F := Ideal) x t i = val_main_v8 (F := Ideal) x t (fun a => a.elim0) := by
    unfold val_main_v23 shapeCast; exact congrArg (val_main_v8 (F := Ideal) x t) (funext fun a => a.elim0)
  rw [e, val_main_v8_apply, val_main_cst_3_apply, val_main_v7_apply, val_main_cst_2_apply]
  refine congrArg (fun a : EReal => half * a) ?_
  refine (congrArg (fun a : EReal => a + _) Ideal.ofBits_zero_f32).trans ((zero_add _).trans ?_)
  rw [Finset.sum_range]
  refine Fintype.sum_equiv ⟨fun j => j 0, fun r => ix1 r, fun j => by blk_ext, fun _ => rfl⟩ _ _ fun j => ?_
  obtain ⟨r, rfl⟩ : ∃ r : Fin 4096, j = ix1 r := ⟨j 0, by blk_ext⟩
  exact v6_at x t r

end Cert.Reference25Ideal.Ref
end
-- ==== Proof.Adam.lean ====
module

public import Idealize.ShloMosaic.Lib.Pointwise

/-! The optimiser's step: the moments' updates and the step of the weights, entry by entry. -/

@[expose] public section

noncomputable section
namespace Cert.Adam
open Idealize.ShloMosaic
variable {S : Shape}

/-- The moving average of the gradient. -/
def mean (g m : FVec Ideal S .f32) : FVec Ideal S .f32 := fun i =>
  Ideal.ofBits .f32 0x3F666666#32 * m i + Ideal.ofBits .f32 0x3DCCCCCD#32 * g i

/-- The moving average of the gradient's square. -/
def square (g v : FVec Ideal S .f32) : FVec Ideal S .f32 := fun i =>
  Ideal.ofBits .f32 0x3F7FBE77#32 * v i + Ideal.ofBits .f32 0x3A83126F#32 * (g i * g i)

/-- The step of the weights: the corrected average over the root of the corrected square, plus the decay. -/
def step (w g m v : FVec Ideal S .f32) : FVec Ideal S .f32 := fun i =>
  Ideal.ofBits .f32 0xBA83126F#32
    * (Ideal.div (Ideal.div (mean g m i) (Ideal.ofBits .f32 0x3F26BD02#32))
        (Ideal.sqrt (Ideal.div (square g v i) (Ideal.ofBits .f32 0x3C231ACC#32)) + Ideal.ofBits .f32 0x322BCC77#32)
      + Ideal.ofBits .f32 0x3C23D70A#32 * w i)

end Cert.Adam
end
-- ==== Proof.ConvBlk.lean ====
module

public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.Gen.KernelIdeal.Value
public import proofs.«01_k».proof.Proof.ConvPay
public import proofs.«01_k».proof.Proof.ConvSpec

@[expose] public section
set_option maxRecDepth 16384

noncomputable section
namespace Cert.KernelIdeal.ConvBlk
open Idealize.ShloMosaic Idealize.ShloMosaic.TcCoe Idealize.SL.Sem
open Cert.KernelIdeal Cert.KernelIdeal.Gen Cert.KernelIdeal.ConvPay Cert.Conv
variable (m : (ℓ : Loc nD τ sig) → Buf (Elt Ideal) ℓ)

/-- The call's first argument. -/
abbrev U (c : Dev nD) : FVec Ideal S4096x3584 .f32 := m ((c : Thread nD τ).loc main_arg0)
/-- The call's second argument. -/
abbrev DY (c : Dev nD) : FVec Ideal S4096x1024 .f32 := m ((c : Thread nD τ).loc main_arg1)
/-- The call's third argument. -/
abbrev W (c : Dev nD) : FVec Ideal S3x512 .f32 := m ((c : Thread nD τ).loc main_arg2)

/-- Where each window's block lies at each grid point. -/
theorem idx : ∀ t : Fin cfg0.N, win0_0.index t = ![7 - t.val, 0] ∧ win0_1.index t = ![7 - t.val, 1]
    ∧ win0_2.index t = ![7 - t.val, 2] ∧ win0_3.index t = ![(7 - t.val) * 64 - 1, 1]
    ∧ win0_4.index t = ![(7 - t.val) * 64 - 1, 2] ∧ win0_5.index t = ![7 - t.val, 0] ∧ win0_6.index t = ![0, 0]
    ∧ win0_7.index t = ![7 - t.val, 0] ∧ win0_8.index t = ![0, 0] ∧ (grid0.coords t 0).val = t.val ∧ t.val < 8 :=
  (by decide +kernel : ∀ t : Fin grid0.N, _)

theorem blk0 (c : Dev nD) (t : Fin cfg0.N) (r l : Fin 512) :
    (iblk m c 0 t : FVec Ideal S512x512 .f32) (ix2 r l) = at2 (U m c) (512 * (7 - t.val) + r) l := by
  have := (idx t).2.2.2.2.2.2.2.2.2.2
  rw [at2_of_lt _ (by omega) (by omega)]
  blk_ext [iblk, V, idx t]

theorem blk1 (c : Dev nD) (t : Fin cfg0.N) (r l : Fin 512) :
    (iblk m c 1 t : FVec Ideal S512x512 .f32) (ix2 r l) = at2 (U m c) (512 * (7 - t.val) + r) (512 + l) := by
  have := (idx t).2.2.2.2.2.2.2.2.2.2
  rw [at2_of_lt _ (by omega) (by omega)]
  blk_ext [iblk, V, idx t]

theorem blk2 (c : Dev nD) (t : Fin cfg0.N) (r l : Fin 512) :
    (iblk m c 2 t : FVec Ideal S512x512 .f32) (ix2 r l) = at2 (U m c) (512 * (7 - t.val) + r) (1024 + l) := by
  have := (idx t).2.2.2.2.2.2.2.2.2.2
  rw [at2_of_lt _ (by omega) (by omega)]
  blk_ext [iblk, V, idx t]

theorem blk3 (c : Dev nD) (t : Fin cfg0.N) (q : Fin 8) (l : Fin 512) :
    (iblk m c 3 t : FVec Ideal S8x512 .f32) (ix2 q l) = at2 (U m c) (8 * ((7 - t.val) * 64 - 1) + q) (512 + l) := by
  have := (idx t).2.2.2.2.2.2.2.2.2.2
  rw [at2_of_lt _ (by omega) (by omega)]
  blk_ext [iblk, V, idx t]

theorem blk4 (c : Dev nD) (t : Fin cfg0.N) (q : Fin 8) (l : Fin 512) :
    (iblk m c 4 t : FVec Ideal S8x512 .f32) (ix2 q l) = at2 (U m c) (8 * ((7 - t.val) * 64 - 1) + q) (1024 + l) := by
  have := (idx t).2.2.2.2.2.2.2.2.2.2
  rw [at2_of_lt _ (by omega) (by omega)]
  blk_ext [iblk, V, idx t]

theorem blk5 (c : Dev nD) (t : Fin cfg0.N) (r l : Fin 512) :
    (iblk m c 5 t : FVec Ideal S512x512 .f32) (ix2 r l) = at2 (DY m c) (512 * (7 - t.val) + r) l := by
  have := (idx t).2.2.2.2.2.2.2.2.2.2
  rw [at2_of_lt _ (by omega) (by omega)]
  blk_ext [iblk, V, idx t]

theorem blk6 (c : Dev nD) (t : Fin cfg0.N) (q : Fin 3) (l : Fin 512) :
    (iblk m c 6 t : FVec Ideal S3x512 .f32) (ix2 q l) = at2 (W m c) q l := by
  rw [at2_of_lt _ q.isLt l.isLt]
  blk_ext [iblk, V, idx t]

/-- The block's output gradient times its gate. -/
theorem dconv_blk (c : Dev nD) (t : Fin cfg0.N) (r l : Fin 512) :
    k0_pay10 (F := Ideal) (iblk m c 0 t) (iblk m c 5 t) (ix2 r l) = dconv (U m c) (DY m c) (512 * (7 - t.val) + r) l := by
  rw [pay10_at, dconv]
  exact congrArg₂ (· * ·) (blk5 m c t r l) (blk0 m c t r l)

/-- The block's gated product. -/
theorem gated_blk (c : Dev nD) (t : Fin cfg0.N) (r l : Fin 512) :
    k0_pay3 (F := Ideal) (iblk m c 1 t) (iblk m c 2 t) (ix2 r l) = gated (U m c) (512 * (7 - t.val) + r) l := by
  rw [pay3_at, gated]
  exact congrArg₂ (· * ·) (blk1 m c t r l) (blk2 m c t r l)

/-- The last rows of the row block above, gated. -/
theorem halo (c : Dev nD) (t : Fin cfg0.N) (h : t.val ≠ 7) (q : Fin 8) (l : Fin 512) :
    (fun a b : FVec Ideal S8x512 .f32 => a (ix2 q l) * b (ix2 q l)) (iblk m c 3 t) (iblk m c 4 t)
      = gated (U m c) (512 * (7 - t.val) + q - 8) l := by
  have ht := (idx t).2.2.2.2.2.2.2.2.2.2
  refine (congrArg₂ (fun a b : EReal => a * b) (blk3 m c t q l) (blk4 m c t q l)).trans ?_
  rw [gated, show 8 * ((7 - t.val) * 64 - 1) + (q : ℕ) = 512 * (7 - t.val) + q - 8 by omega]

/-- The block's gated product one row earlier. -/
theorem earlier1_blk (c : Dev nD) (t : Fin cfg0.N) (r l : Fin 512) :
    k0_pay5 (F := Ideal) (grid0.coords t) (iblk m c 1 t) (iblk m c 2 t) (iblk m c 3 t) (iblk m c 4 t) (ix2 r l)
      = earlier (U m c) 1 (512 * (7 - t.val) + r) l := by
  have hr := r.isLt
  have ht := (idx t).2.2.2.2.2.2.2.2.2.2
  have hc := (idx t).2.2.2.2.2.2.2.2.2.1
  rw [pay5_at, earlier, hc]
  by_cases h0 : (r : ℕ) = 0
  · rw [if_pos h0]
    by_cases h7 : t.val = 7
    · rw [if_pos h7, if_neg (by omega)]
    · rw [if_neg h7, if_pos (by omega)]
      refine (halo m c t h7 7 l).trans ?_
      congr 1; show 512 * (7 - t.val) + 7 - 8 = _; omega
  · rw [if_neg h0, if_pos (by omega), ← pay3_at, gated_blk]
    congr 1; dsimp only; omega

/-- The block's gated product two rows earlier. -/
theorem earlier2_blk (c : Dev nD) (t : Fin cfg0.N) (r l : Fin 512) :
    k0_pay9 (F := Ideal) (k0_pay6 (grid0.coords t) (iblk m c 1 t) (iblk m c 2 t) (iblk m c 3 t) (iblk m c 4 t)) k0_pay7
        (k0_pay8 (grid0.coords t) (iblk m c 3 t) (iblk m c 4 t)) (ix2 r l)
      = earlier (U m c) 2 (512 * (7 - t.val) + r) l := by
  have hr := r.isLt
  have ht := (idx t).2.2.2.2.2.2.2.2.2.2
  have hc := (idx t).2.2.2.2.2.2.2.2.2.1
  rw [pay9_at, earlier, hc]
  by_cases h1 : (r : ℕ) = 1
  · rw [if_pos h1]
    by_cases h7 : t.val = 7
    · rw [if_pos h7, if_neg (by omega)]
    · rw [if_neg h7, if_pos (by omega)]
      refine (halo m c t h7 7 l).trans ?_
      congr 1; show 512 * (7 - t.val) + 7 - 8 = _; omega
  rw [if_neg h1]
  by_cases h0 : (r : ℕ) = 0
  · rw [if_pos h0]
    by_cases h7 : t.val = 7
    · rw [if_pos h7, if_neg (by omega)]
    · rw [if_neg h7, if_pos (by omega)]
      refine (halo m c t h7 6 l).trans ?_
      congr 1; show 512 * (7 - t.val) + 6 - 8 = _; omega
  · rw [if_neg h0, if_pos (by omega), ← pay3_at, gated_blk]
    congr 1; dsimp only; omega

/-- The carried rows after a point are the first rows of its row block. -/
theorem carry (c : Dev nD) (t : Fin cfg0.N) (q : Fin 8) (l : Fin 512) :
    (outsAt0 m c t.val t.isLt).2.2 (ix2 q l) = dconv (U m c) (DY m c) (512 * (7 - t.val) + q) l := by
  refine Eq.trans ?_ (dconv_blk m c t ⟨q, by omega⟩ l)
  refine Eq.trans ?_ (pay18_at _ q l)
  by_cases h : t.val % 8 = 0
  · rw [outsAt0_A m c t h]; dsimp only; frame_out
  · rw [outsAt0_B m c t h]; dsimp only; frame_out

/-- The rows a point finds carried are the rows after its row block: zero past the last row. -/
def nextRows (c : Dev nD) (t : Fin cfg0.N) : FVec Ideal S8x512 .f32 :=
  if t.val % 8 = 0 then k0_pay1 else (outsAt0 m c (t.val - 1) (Nat.lt_of_le_of_lt (Nat.sub_le _ _) t.isLt)).2.2

theorem nextRows_at (c : Dev nD) (t : Fin cfg0.N) (q : Fin 8) (l : Fin 512) :
    nextRows m c t (ix2 q l) = dconv (U m c) (DY m c) (512 * (7 - t.val) + 512 + q) l := by
  have ht := (idx t).2.2.2.2.2.2.2.2.2.2
  unfold nextRows
  by_cases h : t.val % 8 = 0
  · rw [if_pos h, pay1_at, dconv_of_ge _ _ (by omega)]
  · rw [if_neg h]
    refine (carry m c ⟨t.val - 1, Nat.lt_of_le_of_lt (Nat.sub_le _ _) t.isLt⟩ q l).trans ?_
    congr 1; dsimp only; omega

/-- The gradient of the block's gated product. -/
theorem dgated_blk (c : Dev nD) (t : Fin cfg0.N) (r l : Fin 512) :
    k0_pay11 (F := Ideal) (iblk m c 0 t) (iblk m c 6 t) (iblk m c 5 t) (nextRows m c t) (ix2 r l)
      = dgated (U m c) (DY m c) (W m c) (512 * (7 - t.val) + r) l := by
  have hr := r.isLt
  rw [pay11_at, dgated]
  refine congrArg₂ (· + ·) (congrArg₂ (· + ·) (congrArg₂ (· * ·) (blk6 m c t 2 l) ?_) (congrArg₂ (· * ·) (blk6 m c t 1 l) ?_))
    (congrArg₂ (· * ·) (blk6 m c t 0 l) ?_)
  · rw [← pay10_at, dconv_blk]
  · split_ifs with h
    · rw [← pay10_at, dconv_blk]; rfl
    · rw [nextRows_at]; congr 1; show 512 * (7 - t.val) + 512 + 0 = _; omega
  · split_ifs with h h'
    · rw [← pay10_at, dconv_blk]; rfl
    · rw [nextRows_at]; congr 1; show 512 * (7 - t.val) + 512 + 0 = _; omega
    · rw [nextRows_at]; congr 1; show 512 * (7 - t.val) + 512 + 1 = _; omega

/-- What a point leaves in the block of the input columns' gradient. -/
theorem du_blk (c : Dev nD) (t : Fin cfg0.N) (y : S512x1536.Idx) :
    (outsAt0 m c t.val t.isLt).1 y = du (U m c) (DY m c) (W m c) (512 * (7 - t.val) + (y 0).val) (y 1).val := by
  have e : (outsAt0 m c t.val t.isLt).1 = View.canon
      [⟨Rect.unit ![0, 1024] ![512, 512] inb_S512x1536_S512x512_0_1024,
          k0_pay14 (F := Ideal) (iblk m c 1 t) (k0_pay11 (iblk m c 0 t) (iblk m c 6 t) (iblk m c 5 t) (nextRows m c t))⟩,
        ⟨Rect.unit ![0, 512] ![512, 512] inb_S512x1536_S512x512_0_512,
          k0_pay13 (iblk m c 2 t) (k0_pay11 (iblk m c 0 t) (iblk m c 6 t) (iblk m c 5 t) (nextRows m c t))⟩,
        ⟨Rect.unit ![0, 0] ![512, 512] inb_S512x1536_S512x512_0_0,
          k0_pay12 (k0_pay3 (iblk m c 1 t) (iblk m c 2 t)) (iblk m c 6 t)
            (k0_pay5 (grid0.coords t) (iblk m c 1 t) (iblk m c 2 t) (iblk m c 3 t) (iblk m c 4 t))
            (k0_pay6 (grid0.coords t) (iblk m c 1 t) (iblk m c 2 t) (iblk m c 3 t) (iblk m c 4 t)) k0_pay7
            (k0_pay8 (grid0.coords t) (iblk m c 3 t) (iblk m c 4 t)) (iblk m c 5 t)⟩] := by
    unfold nextRows
    by_cases h : t.val % 8 = 0
    · rw [outsAt0_A m c t h, if_pos h]; dsimp only; frame_out
    · rw [outsAt0_B m c t h, if_neg h]; dsimp only; frame_out; simp only [read_unread_whole]
  rw [e]
  have ht := (idx t).2.2.2.2.2.2.2.2.2.2
  canon_tiles x h
  · obtain ⟨r, l, rfl⟩ : ∃ r l : Fin 512, x = ix2 r l := ⟨x 0, x 1, by blk_ext⟩
    have h0' : (y 0).val = r.val := h0
    have h1' : (y 1).val = 1024 + l.val := h1
    rw [pay14_at, dgated_blk, du, if_neg (by omega), if_neg (by omega), h0', h1']
    refine congrArg₂ (· * ·) (by congr 1; omega) ((blk1 m c t r l).trans ?_)
    congr 1; omega
  · obtain ⟨r, l, rfl⟩ : ∃ r l : Fin 512, x = ix2 r l := ⟨x 0, x 1, by blk_ext⟩
    have h0' : (y 0).val = r.val := h0
    have h1' : (y 1).val = 512 + l.val := h1
    have hl := l.isLt
    rw [pay13_at, dgated_blk, du, if_neg (by omega), if_pos (by omega), h0', h1']
    refine congrArg₂ (· * ·) (by congr 1; omega) ((blk2 m c t r l).trans ?_)
    congr 1; omega
  · obtain ⟨r, l, rfl⟩ : ∃ r l : Fin 512, x = ix2 r l := ⟨x 0, x 1, by blk_ext⟩
    have h0' : (y 0).val = r.val := h0
    have h1' : (y 1).val = l.val := h1
    have hl := l.isLt
    rw [pay12_at, du, if_pos (by omega), h0', h1', conv, gated_blk, earlier1_blk, earlier2_blk]
    refine congrArg₂ (· * ·) (blk5 m c t r l) (congrArg₂ (· + ·) (congrArg₂ (· + ·) (congrArg (· * _) (blk6 m c t 2 l))
      (congrArg (· * _) (blk6 m c t 1 l))) (congrArg (· * _) (blk6 m c t 0 l)))

/-- Three one-row stores over earlier contents, read at a row. -/
theorem rows3 {sig : RefSig} {κ : Kind} {sp : Space} (v : View sig κ sp S8x512 .f32) (f : v.ty.Contents (Elt Ideal))
    (p2 p1 p0 : FVec Ideal S1x512 .f32) (L : List (View.Piece (Elt Ideal) S8x512 .f32)) (k : Fin 8) (l : Fin 512)
    (i2 i1 i0) :
    v.read (Elt Ideal) (v.writes (Elt Ideal) f (⟨Rect.unit ![2, 0] ![1, 512] i2, p2⟩ :: ⟨Rect.unit ![1, 0] ![1, 512] i1, p1⟩ ::
        ⟨Rect.unit ![0, 0] ![1, 512] i0, p0⟩ :: L)) (ix2 k l)
      = if (k : ℕ) = 2 then p2 (ix2 0 l) else if (k : ℕ) = 1 then p1 (ix2 0 l) else if (k : ℕ) = 0 then p0 (ix2 0 l)
        else v.read (Elt Ideal) (v.writes (Elt Ideal) f L) (ix2 k l) := by
  by_cases h2 : (k : ℕ) = 2
  · rw [if_pos h2]
    exact View.read_writes_cons_unit_of_mem v f i2 p2 _ (ix2 k l) (ix2 (0 : Fin 1) l) rfl (Fin.forall_fin_two.mpr ⟨h2, (Nat.zero_add _).symm⟩)
  rw [if_neg h2, View.read_writes_cons_unit_of_not_mem v f i2 p2 _ (ix2 k l) rfl 0 (by show (k : ℕ) < 2 ∨ 2 + 1 ≤ (k : ℕ); omega)]
  by_cases h1 : (k : ℕ) = 1
  · rw [if_pos h1]
    exact View.read_writes_cons_unit_of_mem v f i1 p1 _ (ix2 k l) (ix2 (0 : Fin 1) l) rfl (Fin.forall_fin_two.mpr ⟨h1, (Nat.zero_add _).symm⟩)
  rw [if_neg h1, View.read_writes_cons_unit_of_not_mem v f i1 p1 _ (ix2 k l) rfl 0 (by show (k : ℕ) < 1 ∨ 1 + 1 ≤ (k : ℕ); omega)]
  by_cases h0 : (k : ℕ) = 0
  · rw [if_pos h0]
    exact View.read_writes_cons_unit_of_mem v f i0 p0 _ (ix2 k l) (ix2 (0 : Fin 1) l) rfl (Fin.forall_fin_two.mpr ⟨h0, (Nat.zero_add _).symm⟩)
  rw [if_neg h0, View.read_writes_cons_unit_of_not_mem v f i0 p0 _ (ix2 k l) rfl 0 (by show (k : ℕ) < 0 ∨ 0 + 1 ≤ (k : ℕ); omega)]

/-- A block's share of the filter's gradient. -/
def share (c : Dev nD) (n : ℕ) (j : S8x512.Idx) : EReal :=
  ∑ r : Fin 512, dwTerm (U m c) (DY m c) (j 0).val (512 * (7 - n) + r) (j 1).val

/-- One row of the body's stores into the filter's gradient. -/
theorem rows_share (c : Dev nD) (t : Fin cfg0.N) (X : FVec Ideal S8x512 .f32) (k : Fin 8) (l : Fin 512) (g2 g1 g0 : FVec Ideal S1x512 .f32)
    (e2 : (k : ℕ) = 2 → g2 (ix2 0 l) = X (ix2 k l)) (e1 : (k : ℕ) = 1 → g1 (ix2 0 l) = X (ix2 k l))
    (e0 : (k : ℕ) = 0 → g0 (ix2 0 l) = X (ix2 k l)) :
    (if (k : ℕ) = 2 then k0_pay17 (F := Ideal) (k0_pay3 (iblk m c 1 t) (iblk m c 2 t)) (k0_pay10 (iblk m c 0 t) (iblk m c 5 t))
        g2 (ix2 0 l)
      else if (k : ℕ) = 1 then k0_pay16 (F := Ideal) (k0_pay5 (grid0.coords t) (iblk m c 1 t) (iblk m c 2 t) (iblk m c 3 t) (iblk m c 4 t))
        (k0_pay10 (iblk m c 0 t) (iblk m c 5 t)) g1 (ix2 0 l)
      else if (k : ℕ) = 0 then k0_pay15 (F := Ideal)
        (k0_pay9 (k0_pay6 (grid0.coords t) (iblk m c 1 t) (iblk m c 2 t) (iblk m c 3 t) (iblk m c 4 t)) k0_pay7
          (k0_pay8 (grid0.coords t) (iblk m c 3 t) (iblk m c 4 t)))
        (k0_pay10 (iblk m c 0 t) (iblk m c 5 t)) g0 (ix2 0 l)
      else X (ix2 k l)) = X (ix2 k l) + share m c t.val (ix2 k l) := by
  unfold share
  show _ = X (ix2 k l) + ∑ r : Fin 512, dwTerm (U m c) (DY m c) k.val (512 * (7 - t.val) + r) l.val
  by_cases h2 : (k : ℕ) = 2
  · rw [if_pos h2, pay17_at]
    refine congrArg₂ (· + ·) (e2 h2) ?_
    refine Finset.sum_congr rfl fun r _ => ?_
    rw [dconv_blk, gated_blk, dwTerm, if_pos (by omega), earlier, if_pos (by omega), h2]; rfl
  rw [if_neg h2]
  by_cases h1 : (k : ℕ) = 1
  · rw [if_pos h1, pay16_at]
    refine congrArg₂ (· + ·) (e1 h1) ?_
    refine Finset.sum_congr rfl fun r _ => ?_
    rw [dconv_blk, earlier1_blk, dwTerm, if_pos (by omega), h1]
  rw [if_neg h1]
  by_cases h0 : (k : ℕ) = 0
  · rw [if_pos h0, pay15_at]
    refine congrArg₂ (· + ·) (e0 h0) ?_
    refine Finset.sum_congr rfl fun r _ => ?_
    rw [dconv_blk, earlier2_blk, dwTerm, if_pos (by omega), h0]
  rw [if_neg h0, Finset.sum_eq_zero (fun r _ => by rw [dwTerm, if_neg (by omega)]), add_zero]

/-- The first point leaves its block's share. -/
theorem dw_first (c : Dev nD) (t : Fin cfg0.N) (h : t.val % 8 = 0) (j : S8x512.Idx) :
    (outsAt0 m c t.val t.isLt).2.1 j = 0 + share m c t.val j := by
  obtain ⟨k, l, rfl⟩ : ∃ (k : Fin 8) (l : Fin 512), j = ix2 k l := ⟨j 0, j 1, by blk_ext⟩
  rw [outsAt0_A m c t h]; dsimp only; frame_open
  simp (disch := decide) only [↓ View.readCov_skip, ↓ View.readCov_cons_toLoadRect, ↓ View.readCov_fill]
  frame_out
  rw [← View.read_writes_junk_apply_eq_canon (ms0_8 t).view, rows3, View.read_writes_junk_apply_eq_canon, View.canon_cons_unit_lit _ _ _ (by decide)]
  exact (rows_share m c t k0_pay2 k l _ _ _ (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))).trans (congrArg (· + _) (pay2_at _))

/-- Every later point adds its block's share. -/
theorem dw_later (c : Dev nD) (t : Fin cfg0.N) (h : ¬t.val % 8 = 0) (j : S8x512.Idx) :
    (outsAt0 m c t.val t.isLt).2.1 j
      = (outsAt0 m c (t.val - 1) (Nat.lt_of_le_of_lt (Nat.sub_le _ _) t.isLt)).2.1 j + share m c t.val j := by
  obtain ⟨k, l, rfl⟩ : ∃ (k : Fin 8) (l : Fin 512), j = ix2 k l := ⟨j 0, j 1, by blk_ext⟩
  rw [outsAt0_B m c t h]; dsimp only; frame_out
  rw [rows3, View.writes_nil, Memref.IsWhole.read_unread]
  exact rows_share m c t _ k l _ _ _ (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))
    (fun h => View.ld_unit_apply_of _ _ _ _ _ _ (Fin.forall_fin_two.mpr ⟨h, (Nat.zero_add _).symm⟩))

/-- The last point leaves the sum over all rows. -/
theorem dw_last (c : Dev nD) (j : S8x512.Idx) :
    (outsAt0 m c t0_7.val t0_7.isLt).2.1 j = dw (U m c) (DY m c) (j 0).val (j 1).val := by
  refine (Pipeline.eq_sum_of_reset_step_apply_single (fun n h => (outsAt0 m c n h).2.1) 8 (fun _ => 0)
    (fun n j => share m c n j) (fun t h i => dw_first m c t h i) (fun t h i => dw_later m c t h i) (by decide) t0_7 j).trans ?_
  rw [zero_add, show t0_7.val + 1 = 8 from rfl, ← Finset.sum_range_reflect, dw, show 4096 = 8 * 512 from rfl,
    Finset.sum_range_mul_split]
  refine Finset.sum_congr rfl fun s hs => ?_
  have := Finset.mem_range.mp hs
  rw [share, Finset.sum_range]
  refine Finset.sum_congr rfl fun r _ => ?_
  show dwTerm _ _ _ (512 * (7 - (8 - 1 - s)) + (r : ℕ)) _ = _
  rw [show 512 * (7 - (8 - 1 - s)) + (r : ℕ) = s * 512 + r by omega]

/-- The input columns' gradient after the run. -/
theorem final_du (c : Dev nD) : (dats m 0 c).arrAt 7 cfg0.N
    = fun i : S4096x1536.Idx => du (U m c) (DY m c) (W m c) (i 0).val (i 1).val := by
  refine (dats m 0 c).arrAt_eq_of_covers 7 _ (by decide +kernel) fun t hf y => ?_
  blk_simp
  rw [after0_7]
  refine (du_blk m c t y).trans ?_
  blk_simp [idx t]
  rw [Nat.mul_comm]

/-- The filter's gradient after the run. -/
theorem final_dw (c : Dev nD) : (dats m 0 c).arrAt 8 cfg0.N
    = fun i : S8x512.Idx => dw (U m c) (DY m c) (i 0).val (i 1).val := by
  refine (dats m 0 c).arrAt_eq_of_after_last 8 t0_7 (by decide +kernel) _ fun j => ?_
  blk_simp
  rw [after0_8]
  exact dw_last m c j

end Cert.KernelIdeal.ConvBlk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Reference16Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Reference21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Reference22Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Reference15Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Reference17Ideal
public import proofs.«01_k».proof.Proof.Gen.Pre_finite15
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Reference19Ideal
public import proofs.«01_k».proof.Proof.Gen.Pre_finite19
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Reference18Ideal
public import proofs.«01_k».proof.Proof.Gen.Pre_finite18
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Reference23Ideal
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Reference24Ideal
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Reference25Ideal
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Reference26Ideal
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Reference27Ideal
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Reference28Ideal
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Reference29Ideal
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Reference30Ideal
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Reference31Ideal
public import proofs.«01_k».proof.Proof.Gen.Pre_finite23
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Reference14Ideal
public import proofs.«01_k».proof.Proof.MlpDw
public import proofs.«01_k».proof.Proof.MlpDact
public import proofs.«01_k».proof.Proof.MlpUp
public import proofs.«01_k».proof.Proof.MlpDown
public import proofs.«01_k».proof.Proof.InProj
public import proofs.«01_k».proof.Proof.InDw
public import proofs.«01_k».proof.Proof.QkvProj
public import proofs.«01_k».proof.Proof.QkvDw
public import proofs.«01_k».proof.Proof.OutProj0
public import proofs.«01_k».proof.Proof.OutProj1
public import proofs.«01_k».proof.Proof.OutDw0
public import proofs.«01_k».proof.Proof.OutDw1
public import proofs.«01_k».proof.Proof.OutDx
public import proofs.«01_k».proof.Proof.NormMod
public import proofs.«01_k».proof.Proof.QkvDh
public import proofs.«01_k».proof.Proof.MlpDh
public import proofs.«01_k».proof.Proof.InDh
public import proofs.«01_k».proof.Proof.NormBwd
public import proofs.«01_k».proof.Proof.NormBwdRef
public import proofs.«01_k».proof.Proof.ConvFwd
public import proofs.«01_k».proof.Proof.QkNorm
public import proofs.«01_k».proof.Proof.QkNormRef
public import proofs.«01_k».proof.Proof.QkNormBwd
public import proofs.«01_k».proof.Proof.QkNormBwdRef
public import proofs.«01_k».proof.Proof.NormBwd3
public import proofs.«01_k».proof.Proof.ModPart
public import proofs.«01_k».proof.Proof.Loss
public import proofs.«01_k».proof.Proof.Adam
public import proofs.«01_k».proof.Proof.ConvBlk
public import proofs.«01_k».proof.Proof.ConvRef
public import Idealize.ShloMosaic.Adequacy
public import Idealize.ShloMosaic.Init

@[expose] public section

noncomputable section

namespace Cert.Proof

open Idealize.ShloMosaic Idealize.SL.Sem

/-- The kernel's two results are the reference's, entry by entry. -/
theorem conv_algebraic :
    algebraic_KernelIdeal_ReferenceIdeal (hKernelIdeal := Cert.KernelIdeal.Gen.facts) (hReferenceIdeal := Cert.ReferenceIdeal.Gen.facts) := by
  intro m g m' g' _ hm
  refine ⟨fun c i => Cert.Conv.du (Cert.KernelIdeal.ConvBlk.U m c) (Cert.KernelIdeal.ConvBlk.DY m c)
      (Cert.KernelIdeal.ConvBlk.W m c) (i 0).val (i 1).val,
    fun c i => Cert.Conv.dw (Cert.KernelIdeal.ConvBlk.U m c) (Cert.KernelIdeal.ConvBlk.DY m c) (i 0).val (i 1).val, (θ_run _ _ _).mono (fun r h c => ?a) (Cert.KernelIdeal.Value.run_blocks (F := Ideal) m g),
    (θ_run _ _ _).mono (fun r h c => ?b) (Cert.ReferenceIdeal.Value.run (F := Ideal) m' g')⟩
  case a =>
    obtain ⟨h0, h1, ha⟩ := h c
    exact ⟨h0.trans (Cert.KernelIdeal.ConvBlk.final_du m c), h1.trans (Cert.KernelIdeal.ConvBlk.final_dw m c), ha⟩
  case b =>
    obtain ⟨h0, h1, ha⟩ := h c
    obtain ⟨e0, e1, e2⟩ := hm c
    refine ⟨h0.trans ?_, h1.trans ?_, ha⟩
    · rw [Cert.ReferenceIdeal.Read.val_main_v60_eq, e0, e1, e2]
      refine funext fun i => ?_
      obtain ⟨t, l, rfl⟩ : ∃ (t : Fin 4096) (l : Fin 1536), i = ix2 t l := ⟨i 0, i 1, eq_ix2 i⟩
      exact Cert.ReferenceIdeal.ConvRef.v60_at _ _ _ t l
    · rw [Cert.ReferenceIdeal.Read.val_main_v61_eq, e0, e1]
      refine funext fun i => ?_
      obtain ⟨k, l, rfl⟩ : ∃ (k : Fin 8) (l : Fin 512), i = ix2 k l := ⟨i 0, i 1, eq_ix2 i⟩
      exact Cert.ReferenceIdeal.ConvRef.v61_at _ _ k l

/-- The reference runs, keeps its arguments and declares no semaphore. -/
theorem conv_reference_frame : quiescent_ReferenceIdeal (hReferenceIdeal := Cert.ReferenceIdeal.Gen.facts) := fun m ρ _ =>
  (θ_run _ _ _).mono (fun r h => ⟨fun c => (h c).2.2, Idealize.ShloMosaic.sem_eq_zero_of_no_sems (by decide) r.2⟩)
    (Cert.ReferenceIdeal.Value.run (F := Ideal) m ρ)

/-- The gradient of a projection of the hidden layer: the kernel's results are the reference's. -/
theorem algebraic2 :
    algebraic_Kernel2Ideal_Reference2Ideal (hKernel2Ideal := Cert.Kernel2Ideal.Gen.facts) (hReference2Ideal := Cert.Reference2Ideal.Gen.facts) := by
  intro m g m' g' _ hm
  refine ⟨fun c => Cert.Kernel2Ideal.Blk.prod (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), (θ_run _ _ _).mono (fun r h c => ?a) (Cert.Kernel2Ideal.Value.run_blocks (F := Ideal) m g),
    (θ_run _ _ _).mono (fun r h c => ?b) (Cert.Reference2Ideal.Value.run (F := Ideal) m' g')⟩
  case a =>
    obtain ⟨h0, ha⟩ := h c
    exact ⟨h0.trans (Cert.Kernel2Ideal.Blk.final m c), ha⟩
  case b =>
    obtain ⟨h0, ha⟩ := h c
    obtain ⟨e0, e1⟩ := hm c
    refine ⟨h0.trans ?_, ha⟩
    · rw [Cert.Reference2Ideal.Read.val_main_v5_eq, e0, e1]
      exact Cert.Reference2Ideal.Ref.ref_eq _ _

/-- The gradient of a projection of the hidden layer: the reference runs, keeps its arguments and declares no semaphore. -/
theorem reference_frame2 : quiescent_Reference2Ideal (hReference2Ideal := Cert.Reference2Ideal.Gen.facts) := fun m ρ _ =>
  (θ_run _ _ _).mono (fun r h => ⟨fun c => (h c).2, Idealize.ShloMosaic.sem_eq_zero_of_no_sems (by decide) r.2⟩)
    (Cert.Reference2Ideal.Value.run (F := Ideal) m ρ)

/-- The gradient of the hidden layer's input: the kernel's results are the reference's. -/
theorem algebraic3 :
    algebraic_Kernel3Ideal_Reference3Ideal (hKernel3Ideal := Cert.Kernel3Ideal.Gen.facts) (hReference3Ideal := Cert.Reference3Ideal.Gen.facts) := by
  intro m g m' g' _ hm
  refine ⟨fun c => Cert.Kernel3Ideal.Blk.out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), (θ_run _ _ _).mono (fun r h c => ?a) (Cert.Kernel3Ideal.Value.run_blocks (F := Ideal) m g),
    (θ_run _ _ _).mono (fun r h c => ?b) (Cert.Reference3Ideal.Value.run (F := Ideal) m' g')⟩
  case a =>
    obtain ⟨h0, ha⟩ := h c
    exact ⟨h0.trans (Cert.Kernel3Ideal.Blk.final m c), ha⟩
  case b =>
    obtain ⟨h0, ha⟩ := h c
    obtain ⟨e0, e1, e2⟩ := hm c
    refine ⟨h0.trans ?_, ha⟩
    · rw [Cert.Reference3Ideal.Read.val_main_v16_eq, e0, e1, e2]
      exact Cert.Reference3Ideal.Ref.ref_eq _ _ _

/-- The gradient of the hidden layer's input: the reference runs, keeps its arguments and declares no semaphore. -/
theorem reference_frame3 : quiescent_Reference3Ideal (hReference3Ideal := Cert.Reference3Ideal.Gen.facts) := fun m ρ _ =>
  (θ_run _ _ _).mono (fun r h => ⟨fun c => (h c).2, Idealize.ShloMosaic.sem_eq_zero_of_no_sems (by decide) r.2⟩)
    (Cert.Reference3Ideal.Value.run (F := Ideal) m ρ)

/-- The hidden layer: the kernel's results are the reference's. -/
theorem algebraic4 :
    algebraic_Kernel4Ideal_Reference4Ideal (hKernel4Ideal := Cert.Kernel4Ideal.Gen.facts) (hReference4Ideal := Cert.Reference4Ideal.Gen.facts) := by
  intro m g m' g' _ hm
  refine ⟨fun c => Cert.Kernel4Ideal.Blk.out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), (θ_run _ _ _).mono (fun r h c => ?a) (Cert.Kernel4Ideal.Value.run_blocks (F := Ideal) m g),
    (θ_run _ _ _).mono (fun r h c => ?b) (Cert.Reference4Ideal.Value.run (F := Ideal) m' g')⟩
  case a =>
    obtain ⟨h0, ha⟩ := h c
    exact ⟨h0.trans (Cert.Kernel4Ideal.Blk.final m c), ha⟩
  case b =>
    obtain ⟨h0, ha⟩ := h c
    obtain ⟨e0, e1⟩ := hm c
    refine ⟨h0.trans ?_, ha⟩
    · rw [Cert.Reference4Ideal.Read.val_main_v8_eq, e0, e1]
      exact Cert.Reference4Ideal.Ref.ref_eq _ _

/-- The hidden layer: the reference runs, keeps its arguments and declares no semaphore. -/
theorem reference_frame4 : quiescent_Reference4Ideal (hReference4Ideal := Cert.Reference4Ideal.Gen.facts) := fun m ρ _ =>
  (θ_run _ _ _).mono (fun r h => ⟨fun c => (h c).2, Idealize.ShloMosaic.sem_eq_zero_of_no_sems (by decide) r.2⟩)
    (Cert.Reference4Ideal.Value.run (F := Ideal) m ρ)

/-- The second projection of the hidden layer and its residual: the kernel's results are the reference's. -/
theorem algebraic5 :
    algebraic_Kernel5Ideal_Reference5Ideal (hKernel5Ideal := Cert.Kernel5Ideal.Gen.facts) (hReference5Ideal := Cert.Reference5Ideal.Gen.facts) := by
  intro m g m' g' _ hm
  refine ⟨fun c => Cert.Kernel5Ideal.Blk.outz (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Kernel5Ideal.Blk.outx (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), (θ_run _ _ _).mono (fun r h c => ?a) (Cert.Kernel5Ideal.Value.run_blocks (F := Ideal) m g),
    (θ_run _ _ _).mono (fun r h c => ?b) (Cert.Reference5Ideal.Value.run (F := Ideal) m' g')⟩
  case a =>
    obtain ⟨h0, h1, ha⟩ := h c
    exact ⟨h0.trans (Cert.Kernel5Ideal.Blk.final_z m c), h1.trans (Cert.Kernel5Ideal.Blk.final_x m c), ha⟩
  case b =>
    obtain ⟨h0, h1, ha⟩ := h c
    obtain ⟨e0, e1, e2, e3⟩ := hm c
    refine ⟨h0.trans ?_, h1.trans ?_, ha⟩
    · rw [Cert.Reference5Ideal.Read.val_main_v5_eq, e0, e1]
      exact Cert.Reference5Ideal.Ref.ref_z _ _
    · rw [Cert.Reference5Ideal.Read.val_main_v8_eq, e0, e1, e2, e3]
      exact Cert.Reference5Ideal.Ref.ref_x _ _ _ _

/-- The second projection of the hidden layer and its residual: the reference runs, keeps its arguments and declares no semaphore. -/
theorem reference_frame5 : quiescent_Reference5Ideal (hReference5Ideal := Cert.Reference5Ideal.Gen.facts) := fun m ρ _ =>
  (θ_run _ _ _).mono (fun r h => ⟨fun c => (h c).2.2, Idealize.ShloMosaic.sem_eq_zero_of_no_sems (by decide) r.2⟩)
    (Cert.Reference5Ideal.Value.run (F := Ideal) m ρ)

/-- The input projection: the kernel's results are the reference's. -/
theorem algebraic6 :
    algebraic_Kernel6Ideal_Reference6Ideal (hKernel6Ideal := Cert.Kernel6Ideal.Gen.facts) (hReference6Ideal := Cert.Reference6Ideal.Gen.facts) := by
  intro m g m' g' _ hm
  refine ⟨fun c => Cert.Kernel6Ideal.Blk.prod (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), (θ_run _ _ _).mono (fun r h c => ?a) (Cert.Kernel6Ideal.Value.run_blocks (F := Ideal) m g),
    (θ_run _ _ _).mono (fun r h c => ?b) (Cert.Reference6Ideal.Value.run (F := Ideal) m' g')⟩
  case a =>
    obtain ⟨h0, ha⟩ := h c
    exact ⟨h0.trans (Cert.Kernel6Ideal.Blk.final m c), ha⟩
  case b =>
    obtain ⟨h0, ha⟩ := h c
    obtain ⟨e0, e1⟩ := hm c
    refine ⟨h0.trans ?_, ha⟩
    · rw [Cert.Reference6Ideal.Read.val_main_v2_eq, e0, e1]
      exact Cert.Reference6Ideal.Ref.ref_eq _ _

/-- The input projection: the reference runs, keeps its arguments and declares no semaphore. -/
theorem reference_frame6 : quiescent_Reference6Ideal (hReference6Ideal := Cert.Reference6Ideal.Gen.facts) := fun m ρ _ =>
  (θ_run _ _ _).mono (fun r h => ⟨fun c => (h c).2, Idealize.ShloMosaic.sem_eq_zero_of_no_sems (by decide) r.2⟩)
    (Cert.Reference6Ideal.Value.run (F := Ideal) m ρ)

/-- The gradient of the input projection: the kernel's results are the reference's. -/
theorem algebraic7 :
    algebraic_Kernel7Ideal_Reference7Ideal (hKernel7Ideal := Cert.Kernel7Ideal.Gen.facts) (hReference7Ideal := Cert.Reference7Ideal.Gen.facts) := by
  intro m g m' g' _ hm
  refine ⟨fun c => Cert.Kernel7Ideal.Blk.prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), (θ_run _ _ _).mono (fun r h c => ?a) (Cert.Kernel7Ideal.Value.run_blocks (F := Ideal) m g),
    (θ_run _ _ _).mono (fun r h c => ?b) (Cert.Reference7Ideal.Value.run (F := Ideal) m' g')⟩
  case a =>
    obtain ⟨h0, ha⟩ := h c
    exact ⟨h0.trans (Cert.Kernel7Ideal.Blk.final m c), ha⟩
  case b =>
    obtain ⟨h0, ha⟩ := h c
    obtain ⟨e0, e1⟩ := hm c
    refine ⟨h0.trans ?_, ha⟩
    · rw [Cert.Reference7Ideal.Read.val_main_v6_eq, e0, e1]
      exact Cert.Reference7Ideal.Ref.ref_eq _ _

/-- The gradient of the input projection: the reference runs, keeps its arguments and declares no semaphore. -/
theorem reference_frame7 : quiescent_Reference7Ideal (hReference7Ideal := Cert.Reference7Ideal.Gen.facts) := fun m ρ _ =>
  (θ_run _ _ _).mono (fun r h => ⟨fun c => (h c).2, Idealize.ShloMosaic.sem_eq_zero_of_no_sems (by decide) r.2⟩)
    (Cert.Reference7Ideal.Value.run (F := Ideal) m ρ)

/-- The projection to queries, keys and values: the kernel's results are the reference's. -/
theorem algebraic8 :
    algebraic_Kernel8Ideal_Reference8Ideal (hKernel8Ideal := Cert.Kernel8Ideal.Gen.facts) (hReference8Ideal := Cert.Reference8Ideal.Gen.facts) := by
  intro m g m' g' _ hm
  refine ⟨fun c => Cert.Kernel8Ideal.Blk.out (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), (θ_run _ _ _).mono (fun r h c => ?a) (Cert.Kernel8Ideal.Value.run_blocks (F := Ideal) m g),
    (θ_run _ _ _).mono (fun r h c => ?b) (Cert.Reference8Ideal.Value.run (F := Ideal) m' g')⟩
  case a =>
    obtain ⟨h0, ha⟩ := h c
    exact ⟨h0.trans (Cert.Kernel8Ideal.Blk.final m c), ha⟩
  case b =>
    obtain ⟨h0, ha⟩ := h c
    obtain ⟨e0, e1⟩ := hm c
    refine ⟨h0.trans ?_, ha⟩
    · rw [Cert.Reference8Ideal.Read.val_main_v5_eq, e0, e1]
      exact Cert.Reference8Ideal.Ref.ref_eq _ _

/-- The projection to queries, keys and values: the reference runs, keeps its arguments and declares no semaphore. -/
theorem reference_frame8 : quiescent_Reference8Ideal (hReference8Ideal := Cert.Reference8Ideal.Gen.facts) := fun m ρ _ =>
  (θ_run _ _ _).mono (fun r h => ⟨fun c => (h c).2, Idealize.ShloMosaic.sem_eq_zero_of_no_sems (by decide) r.2⟩)
    (Cert.Reference8Ideal.Value.run (F := Ideal) m ρ)

/-- The gradient of the projection to queries, keys and values: the kernel's results are the reference's. -/
theorem algebraic9 :
    algebraic_Kernel9Ideal_Reference9Ideal (hKernel9Ideal := Cert.Kernel9Ideal.Gen.facts) (hReference9Ideal := Cert.Reference9Ideal.Gen.facts) := by
  intro m g m' g' _ hm
  refine ⟨fun c => Cert.Kernel9Ideal.Blk.prod (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), (θ_run _ _ _).mono (fun r h c => ?a) (Cert.Kernel9Ideal.Value.run_blocks (F := Ideal) m g),
    (θ_run _ _ _).mono (fun r h c => ?b) (Cert.Reference9Ideal.Value.run (F := Ideal) m' g')⟩
  case a =>
    obtain ⟨h0, ha⟩ := h c
    exact ⟨h0.trans (Cert.Kernel9Ideal.Blk.final m c), ha⟩
  case b =>
    obtain ⟨h0, ha⟩ := h c
    obtain ⟨e0, e1⟩ := hm c
    refine ⟨h0.trans ?_, ha⟩
    · rw [Cert.Reference9Ideal.Read.val_main_v6_eq, e0, e1]
      exact Cert.Reference9Ideal.Ref.ref_eq _ _

/-- The gradient of the projection to queries, keys and values: the reference runs, keeps its arguments and declares no semaphore. -/
theorem reference_frame9 : quiescent_Reference9Ideal (hReference9Ideal := Cert.Reference9Ideal.Gen.facts) := fun m ρ _ =>
  (θ_run _ _ _).mono (fun r h => ⟨fun c => (h c).2, Idealize.ShloMosaic.sem_eq_zero_of_no_sems (by decide) r.2⟩)
    (Cert.Reference9Ideal.Value.run (F := Ideal) m ρ)

/-- The first layer's output projection and its residual: the kernel's results are the reference's. -/
theorem algebraic10 :
    algebraic_Kernel10Ideal_Reference10Ideal (hKernel10Ideal := Cert.Kernel10Ideal.Gen.facts) (hReference10Ideal := Cert.Reference10Ideal.Gen.facts) := by
  intro m g m' g' _ hm
  refine ⟨fun c => Cert.Kernel10Ideal.Blk.outz (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), fun c => Cert.Kernel10Ideal.Blk.outx (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)), (θ_run _ _ _).mono (fun r h c => ?a) (Cert.Kernel10Ideal.Value.run_blocks (F := Ideal) m g),
    (θ_run _ _ _).mono (fun r h c => ?b) (Cert.Reference10Ideal.Value.run (F := Ideal) m' g')⟩
  case a =>
    obtain ⟨h0, h1, ha⟩ := h c
    exact ⟨h0.trans (Cert.Kernel10Ideal.Blk.final_z m c), h1.trans (Cert.Kernel10Ideal.Blk.final_x m c), ha⟩
  case b =>
    obtain ⟨h0, h1, ha⟩ := h c
    obtain ⟨e0, e1, e2, e3⟩ := hm c
    refine ⟨h0.trans ?_, h1.trans ?_, ha⟩
    · rw [Cert.Reference10Ideal.Read.val_main_v3_eq, e0, e1]
      exact Cert.Reference10Ideal.Ref.ref_z _ _
    · rw [Cert.Reference10Ideal.Read.val_main_v6_eq, e0, e1, e2, e3]
      exact Cert.Reference10Ideal.Ref.ref_x _ _ _ _

/-- The first layer's output projection and its residual: the reference runs, keeps its arguments and declares no semaphore. -/
theorem reference_frame10 : quiescent_Reference10Ideal (hReference10Ideal := Cert.Reference10Ideal.Gen.facts) := fun m ρ _ =>
  (θ_run _ _ _).mono (fun r h => ⟨fun c => (h c).2.2, Idealize.ShloMosaic.sem_eq_zero_of_no_sems (by decide) r.2⟩)
    (Cert.Reference10Ideal.Value.run (F := Ideal) m ρ)

/-- The second layer's output projection and its residual: the kernel's results are the reference's. -/
theorem algebraic11 :
    algebraic_Kernel11Ideal_Reference11Ideal (hKernel11Ideal := Cert.Kernel11Ideal.Gen.facts) (hReference11Ideal := Cert.Reference11Ideal.Gen.facts) := by
  intro m g m' g' _ hm
  refine ⟨fun c => Cert.Kernel11Ideal.Blk.outz (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), fun c => Cert.Kernel11Ideal.Blk.outx (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)), (θ_run _ _ _).mono (fun r h c => ?a) (Cert.Kernel11Ideal.Value.run_blocks (F := Ideal) m g),
    (θ_run _ _ _).mono (fun r h c => ?b) (Cert.Reference11Ideal.Value.run (F := Ideal) m' g')⟩
  case a =>
    obtain ⟨h0, h1, ha⟩ := h c
    exact ⟨h0.trans (Cert.Kernel11Ideal.Blk.final_z m c), h1.trans (Cert.Kernel11Ideal.Blk.final_x m c), ha⟩
  case b =>
    obtain ⟨h0, h1, ha⟩ := h c
    obtain ⟨e0, e1, e2, e3⟩ := hm c
    refine ⟨h0.trans ?_, h1.trans ?_, ha⟩
    · rw [Cert.Reference11Ideal.Read.val_main_v2_eq, e0, e1]
      exact Cert.Reference11Ideal.Ref.ref_z _ _
    · rw [Cert.Reference11Ideal.Read.val_main_v5_eq, e0, e1, e2, e3]
      exact Cert.Reference11Ideal.Ref.ref_x _ _ _ _

/-- The second layer's output projection and its residual: the reference runs, keeps its arguments and declares no semaphore. -/
theorem reference_frame11 : quiescent_Reference11Ideal (hReference11Ideal := Cert.Reference11Ideal.Gen.facts) := fun m ρ _ =>
  (θ_run _ _ _).mono (fun r h => ⟨fun c => (h c).2.2, Idealize.ShloMosaic.sem_eq_zero_of_no_sems (by decide) r.2⟩)
    (Cert.Reference11Ideal.Value.run (F := Ideal) m ρ)

/-- The gradient of the first layer's output projection: the kernel's results are the reference's. -/
theorem algebraic12 :
    algebraic_Kernel12Ideal_Reference12Ideal (hKernel12Ideal := Cert.Kernel12Ideal.Gen.facts) (hReference12Ideal := Cert.Reference12Ideal.Gen.facts) := by
  intro m g m' g' _ hm
  refine ⟨fun c => Cert.Kernel12Ideal.Blk.prod (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), (θ_run _ _ _).mono (fun r h c => ?a) (Cert.Kernel12Ideal.Value.run_blocks (F := Ideal) m g),
    (θ_run _ _ _).mono (fun r h c => ?b) (Cert.Reference12Ideal.Value.run (F := Ideal) m' g')⟩
  case a =>
    obtain ⟨h0, ha⟩ := h c
    exact ⟨h0.trans (Cert.Kernel12Ideal.Blk.final m c), ha⟩
  case b =>
    obtain ⟨h0, ha⟩ := h c
    obtain ⟨e0, e1⟩ := hm c
    refine ⟨h0.trans ?_, ha⟩
    · rw [Cert.Reference12Ideal.Read.val_main_v5_eq, e0, e1]
      exact Cert.Reference12Ideal.Ref.ref_eq _ _

/-- The gradient of the first layer's output projection: the reference runs, keeps its arguments and declares no semaphore. -/
theorem reference_frame12 : quiescent_Reference12Ideal (hReference12Ideal := Cert.Reference12Ideal.Gen.facts) := fun m ρ _ =>
  (θ_run _ _ _).mono (fun r h => ⟨fun c => (h c).2, Idealize.ShloMosaic.sem_eq_zero_of_no_sems (by decide) r.2⟩)
    (Cert.Reference12Ideal.Value.run (F := Ideal) m ρ)

/-- The gradient of the second layer's output projection: the kernel's results are the reference's. -/
theorem algebraic13 :
    algebraic_Kernel13Ideal_Reference13Ideal (hKernel13Ideal := Cert.Kernel13Ideal.Gen.facts) (hReference13Ideal := Cert.Reference13Ideal.Gen.facts) := by
  intro m g m' g' _ hm
  refine ⟨fun c => Cert.Kernel13Ideal.Blk.prod (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), (θ_run _ _ _).mono (fun r h c => ?a) (Cert.Kernel13Ideal.Value.run_blocks (F := Ideal) m g),
    (θ_run _ _ _).mono (fun r h c => ?b) (Cert.Reference13Ideal.Value.run (F := Ideal) m' g')⟩
  case a =>
    obtain ⟨h0, ha⟩ := h c
    exact ⟨h0.trans (Cert.Kernel13Ideal.Blk.final m c), ha⟩
  case b =>
    obtain ⟨h0, ha⟩ := h c
    obtain ⟨e0, e1⟩ := hm c
    refine ⟨h0.trans ?_, ha⟩
    · rw [Cert.Reference13Ideal.Read.val_main_v4_eq, e0, e1]
      exact Cert.Reference13Ideal.Ref.ref_eq _ _

/-- The gradient of the second layer's output projection: the reference runs, keeps its arguments and declares no semaphore. -/
theorem reference_frame13 : quiescent_Reference13Ideal (hReference13Ideal := Cert.Reference13Ideal.Gen.facts) := fun m ρ _ =>
  (θ_run _ _ _).mono (fun r h => ⟨fun c => (h c).2, Idealize.ShloMosaic.sem_eq_zero_of_no_sems (by decide) r.2⟩)
    (Cert.Reference13Ideal.Value.run (F := Ideal) m ρ)

/-- The gradient of the second layer's output projection in its input: the kernel's results are the reference's. -/
theorem algebraic14 :
    algebraic_Kernel14Ideal_Reference14Ideal (hKernel14Ideal := Cert.Kernel14Ideal.Gen.facts) (hReference14Ideal := Cert.Reference14Ideal.Gen.facts) := by
  intro m g m' g' _ hm
  refine ⟨fun c => Cert.Kernel14Ideal.Blk.prod (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), (θ_run _ _ _).mono (fun r h c => ?a) (Cert.Kernel14Ideal.Value.run_blocks (F := Ideal) m g),
    (θ_run _ _ _).mono (fun r h c => ?b) (Cert.Reference14Ideal.Value.run (F := Ideal) m' g')⟩
  case a =>
    obtain ⟨h0, ha⟩ := h c
    exact ⟨h0.trans (Cert.Kernel14Ideal.Blk.final m c), ha⟩
  case b =>
    obtain ⟨h0, ha⟩ := h c
    obtain ⟨e0, e1⟩ := hm c
    refine ⟨h0.trans ?_, ha⟩
    · rw [Cert.Reference14Ideal.Read.val_main_v4_eq, e0, e1]
      exact Cert.Reference14Ideal.Ref.ref_eq _ _

/-- The gradient of the second layer's output projection in its input: the reference runs, keeps its arguments and declares no semaphore. -/
theorem reference_frame14 : quiescent_Reference14Ideal (hReference14Ideal := Cert.Reference14Ideal.Gen.facts) := fun m ρ _ =>
  (θ_run _ _ _).mono (fun r h => ⟨fun c => (h c).2, Idealize.ShloMosaic.sem_eq_zero_of_no_sems (by decide) r.2⟩)
    (Cert.Reference14Ideal.Value.run (F := Ideal) m ρ)

/-- The gradient of the norm, its modulation and the gated residual: the kernel's results are the reference's. -/
theorem algebraic15 :
    algebraic_Kernel15Ideal_Reference15Ideal_pre_finite15 (hKernel15Ideal := Cert.Kernel15Ideal.Gen.facts) (hReference15Ideal := Cert.Reference15Ideal.Gen.facts) (hPre_finite15 := Cert.Pre_finite15.Gen.facts) := by
  intro m g m' g' hp hm
  refine ⟨fun c => Cert.Norm.dx (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)), fun c => Cert.Norm.sums (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)), fun c => Cert.Norm.dz (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg6)), (θ_run _ _ _).mono (fun r h c => ?a) (Cert.Kernel15Ideal.Value.run_blocks (F := Ideal) m g),
    (θ_run _ _ _).mono (fun r h c => ?b) (Cert.Reference15Ideal.Value.run (F := Ideal) m' g')⟩
  case a =>
    obtain ⟨h0, h1, h2, ha⟩ := h c
    exact ⟨h0.trans (Cert.Kernel15Ideal.Blk.final_dx m c), h1.trans (Cert.Kernel15Ideal.Blk.final_sums m c), h2.trans (Cert.Kernel15Ideal.Blk.final_dz m c), ha⟩
  case b =>
    obtain ⟨h0, h1, h2, ha⟩ := h c
    obtain ⟨e0, e1, e2, e3, e4, e5, e6⟩ := hm c
    obtain ⟨p0, p1, p2, p3⟩ := Cert.Pre_finite15.real (hp c)
    refine ⟨h0.trans ?_, h1.trans ?_, h2.trans ?_, ha⟩
    · rw [Cert.Reference15Ideal.Read.val_main_v49_eq, e0, e1, e2, e3, e4]
      exact Cert.Reference15Ideal.Ref.ref_dx _ _ _ _ _ p0 p1 p2 p3
    · rw [Cert.Reference15Ideal.Read.val_main_v59_eq, e0, e1, e2, e3, e4, e5]
      exact Cert.Reference15Ideal.Ref.ref_sums _ _ _ _ _ _ p0 p1 p2 p3
    · rw [Cert.Reference15Ideal.Read.val_main_v60_eq, e0, e1, e2, e3, e4, e6]
      exact Cert.Reference15Ideal.Ref.ref_dz _ _ _ _ _ _ p0 p1 p2 p3

/-- The gradient of the norm, its modulation and the gated residual: the reference runs, keeps its arguments and declares no semaphore. -/
theorem reference_frame15 : quiescent_Reference15Ideal (hReference15Ideal := Cert.Reference15Ideal.Gen.facts) := fun m ρ _ =>
  (θ_run _ _ _).mono (fun r h => ⟨fun c => (h c).2.2.2, Idealize.ShloMosaic.sem_eq_zero_of_no_sems (by decide) r.2⟩)
    (Cert.Reference15Ideal.Value.run (F := Ideal) m ρ)

/-- The norm and its modulation: the kernel's results are the reference's. -/
theorem algebraic16 :
    algebraic_Kernel16Ideal_Reference16Ideal (hKernel16Ideal := Cert.Kernel16Ideal.Gen.facts) (hReference16Ideal := Cert.Reference16Ideal.Gen.facts) := by
  intro m g m' g' _ hm
  refine ⟨fun c => Cert.Kernel16Ideal.Blk.out (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)), (θ_run _ _ _).mono (fun r h c => ?a) (Cert.Kernel16Ideal.Value.run_blocks (F := Ideal) m g),
    (θ_run _ _ _).mono (fun r h c => ?b) (Cert.Reference16Ideal.Value.run (F := Ideal) m' g')⟩
  case a =>
    obtain ⟨h0, ha⟩ := h c
    exact ⟨h0.trans (Cert.Kernel16Ideal.Blk.final m c), ha⟩
  case b =>
    obtain ⟨h0, ha⟩ := h c
    obtain ⟨e0, e1, e2, e3⟩ := hm c
    refine ⟨h0.trans ?_, ha⟩
    · rw [Cert.Reference16Ideal.Read.val_main_v18_eq, e0, e1, e2, e3]
      exact Cert.Reference16Ideal.Ref.ref_eq _ _ _ _

/-- The norm and its modulation: the reference runs, keeps its arguments and declares no semaphore. -/
theorem reference_frame16 : quiescent_Reference16Ideal (hReference16Ideal := Cert.Reference16Ideal.Gen.facts) := fun m ρ _ =>
  (θ_run _ _ _).mono (fun r h => ⟨fun c => (h c).2, Idealize.ShloMosaic.sem_eq_zero_of_no_sems (by decide) r.2⟩)
    (Cert.Reference16Ideal.Value.run (F := Ideal) m ρ)

/-- The gated convolution: the kernel's results are the reference's. -/
theorem algebraic17 :
    algebraic_Kernel17Ideal_Reference17Ideal (hKernel17Ideal := Cert.Kernel17Ideal.Gen.facts) (hReference17Ideal := Cert.Reference17Ideal.Gen.facts) := by
  intro m g m' g' _ hm
  refine ⟨fun c => Cert.Kernel17Ideal.Blk.out (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), (θ_run _ _ _).mono (fun r h c => ?a) (Cert.Kernel17Ideal.Value.run_blocks (F := Ideal) m g),
    (θ_run _ _ _).mono (fun r h c => ?b) (Cert.Reference17Ideal.Value.run (F := Ideal) m' g')⟩
  case a =>
    obtain ⟨h0, ha⟩ := h c
    exact ⟨h0.trans (Cert.Kernel17Ideal.Blk.final m c), ha⟩
  case b =>
    obtain ⟨h0, ha⟩ := h c
    obtain ⟨e0, e1⟩ := hm c
    refine ⟨h0.trans ?_, ha⟩
    · rw [Cert.Reference17Ideal.Read.val_main_v22_eq, e0, e1]
      exact Cert.Reference17Ideal.Ref.ref_eq _ _

/-- The gated convolution: the reference runs, keeps its arguments and declares no semaphore. -/
theorem reference_frame17 : quiescent_Reference17Ideal (hReference17Ideal := Cert.Reference17Ideal.Gen.facts) := fun m ρ _ =>
  (θ_run _ _ _).mono (fun r h => ⟨fun c => (h c).2, Idealize.ShloMosaic.sem_eq_zero_of_no_sems (by decide) r.2⟩)
    (Cert.Reference17Ideal.Value.run (F := Ideal) m ρ)

/-- The gradient of the per-head norms of queries and keys: the kernel's results are the reference's. -/
theorem algebraic18 :
    algebraic_Kernel18Ideal_Reference18Ideal_pre_finite18 (hKernel18Ideal := Cert.Kernel18Ideal.Gen.facts) (hReference18Ideal := Cert.Reference18Ideal.Gen.facts) (hPre_finite18 := Cert.Pre_finite18.Gen.facts) := by
  intro m g m' g' hp hm
  refine ⟨fun c => Cert.Head.dqkv (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)), fun c => Cert.Head.dgains (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), (θ_run _ _ _).mono (fun r h c => ?a) (Cert.Kernel18Ideal.Value.run_blocks (F := Ideal) m g),
    (θ_run _ _ _).mono (fun r h c => ?b) (Cert.Reference18Ideal.Value.run (F := Ideal) m' g')⟩
  case a =>
    obtain ⟨h0, h1, ha⟩ := h c
    have p0 := Cert.Pre_finite18.real (hp c)
    exact ⟨h0.trans (Cert.Kernel18Ideal.Blk.final_dqkv m c p0), h1.trans (Cert.Kernel18Ideal.Blk.final_dgains m c p0), ha⟩
  case b =>
    obtain ⟨h0, h1, ha⟩ := h c
    obtain ⟨e0, e1, e2, e3, e4, e5⟩ := hm c
    have p0 := Cert.Pre_finite18.real (hp c)
    refine ⟨h0.trans ?_, h1.trans ?_, ha⟩
    · rw [Cert.Reference18Ideal.Read.val_main_v87_eq, e0, e1, e2, e3, e4, e5]
      exact Cert.Reference18Ideal.Ref.ref_dqkv _ _ _ _ _ _ p0
    · rw [Cert.Reference18Ideal.Read.val_main_v89_eq, e0, e1, e2]
      exact Cert.Reference18Ideal.Ref.ref_dgains _ _ _

/-- The gradient of the per-head norms of queries and keys: the reference runs, keeps its arguments and declares no semaphore. -/
theorem reference_frame18 : quiescent_Reference18Ideal (hReference18Ideal := Cert.Reference18Ideal.Gen.facts) := fun m ρ _ =>
  (θ_run _ _ _).mono (fun r h => ⟨fun c => (h c).2.2, Idealize.ShloMosaic.sem_eq_zero_of_no_sems (by decide) r.2⟩)
    (Cert.Reference18Ideal.Value.run (F := Ideal) m ρ)

/-- The per-head norms of queries and keys: the kernel's results are the reference's. -/
theorem algebraic19 :
    algebraic_Kernel19Ideal_Reference19Ideal_pre_finite19 (hKernel19Ideal := Cert.Kernel19Ideal.Gen.facts) (hReference19Ideal := Cert.Reference19Ideal.Gen.facts) (hPre_finite19 := Cert.Pre_finite19.Gen.facts) := by
  intro m g m' g' hp hm
  refine ⟨fun c => Cert.Head.qOut (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), fun c => Cert.Head.kOut (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg2)), fun c => Cert.Head.vOut (m ((c.tc : Thread Cert.Kernel19Ideal.nD Cert.Kernel19Ideal.τ).loc Cert.Kernel19Ideal.main_arg0)), (θ_run _ _ _).mono (fun r h c => ?a) (Cert.Kernel19Ideal.Value.run_blocks (F := Ideal) m g),
    (θ_run _ _ _).mono (fun r h c => ?b) (Cert.Reference19Ideal.Value.run (F := Ideal) m' g')⟩
  case a =>
    obtain ⟨h0, h1, h2, ha⟩ := h c
    have p0 := Cert.Pre_finite19.real (hp c)
    exact ⟨h0.trans (Cert.Kernel19Ideal.Blk.final_q m c p0), h1.trans (Cert.Kernel19Ideal.Blk.final_k m c p0), h2.trans (Cert.Kernel19Ideal.Blk.final_v m c), ha⟩
  case b =>
    obtain ⟨h0, h1, h2, ha⟩ := h c
    obtain ⟨e0, e1, e2⟩ := hm c
    refine ⟨h0.trans ?_, h1.trans ?_, h2.trans ?_, ha⟩
    · rw [Cert.Reference19Ideal.Read.val_main_v36_eq, e0, e1]
      exact Cert.Reference19Ideal.Ref.ref_q _ _
    · rw [Cert.Reference19Ideal.Read.val_main_v37_eq, e0, e2]
      exact Cert.Reference19Ideal.Ref.ref_k _ _
    · rw [Cert.Reference19Ideal.Read.val_main_v39_eq, e0]
      exact Cert.Reference19Ideal.Ref.ref_v _

/-- The per-head norms of queries and keys: the reference runs, keeps its arguments and declares no semaphore. -/
theorem reference_frame19 : quiescent_Reference19Ideal (hReference19Ideal := Cert.Reference19Ideal.Gen.facts) := fun m ρ _ =>
  (θ_run _ _ _).mono (fun r h => ⟨fun c => (h c).2.2.2, Idealize.ShloMosaic.sem_eq_zero_of_no_sems (by decide) r.2⟩)
    (Cert.Reference19Ideal.Value.run (F := Ideal) m ρ)

/-- The gradient of layer 1's projection in its input: the kernel's results are the reference's. -/
theorem algebraic20 :
    algebraic_Kernel20Ideal_Reference20Ideal (hKernel20Ideal := Cert.Kernel20Ideal.Gen.facts) (hReference20Ideal := Cert.Reference20Ideal.Gen.facts) := by
  intro m g m' g' _ hm
  refine ⟨fun c => Cert.Kernel20Ideal.Blk.prod (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)), (θ_run _ _ _).mono (fun r h c => ?a) (Cert.Kernel20Ideal.Value.run_blocks (F := Ideal) m g),
    (θ_run _ _ _).mono (fun r h c => ?b) (Cert.Reference20Ideal.Value.run (F := Ideal) m' g')⟩
  case a =>
    obtain ⟨h0, ha⟩ := h c
    exact ⟨h0.trans (Cert.Kernel20Ideal.Blk.final m c), ha⟩
  case b =>
    obtain ⟨h0, ha⟩ := h c
    obtain ⟨e0, e1⟩ := hm c
    refine ⟨h0.trans ?_, ha⟩
    · rw [Cert.Reference20Ideal.Read.val_main_v7_eq, e0, e1]
      exact Cert.Reference20Ideal.Ref.ref_eq _ _

/-- The gradient of layer 1's projection in its input: the reference runs, keeps its arguments and declares no semaphore. -/
theorem reference_frame20 : quiescent_Reference20Ideal (hReference20Ideal := Cert.Reference20Ideal.Gen.facts) := fun m ρ _ =>
  (θ_run _ _ _).mono (fun r h => ⟨fun c => (h c).2, Idealize.ShloMosaic.sem_eq_zero_of_no_sems (by decide) r.2⟩)
    (Cert.Reference20Ideal.Value.run (F := Ideal) m ρ)

/-- The gradient of the multilayer perceptron in its input: the kernel's results are the reference's. -/
theorem algebraic21 :
    algebraic_Kernel21Ideal_Reference21Ideal (hKernel21Ideal := Cert.Kernel21Ideal.Gen.facts) (hReference21Ideal := Cert.Reference21Ideal.Gen.facts) := by
  intro m g m' g' _ hm
  refine ⟨fun c => Cert.Kernel21Ideal.Blk.prod (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)), (θ_run _ _ _).mono (fun r h c => ?a) (Cert.Kernel21Ideal.Value.run_blocks (F := Ideal) m g),
    (θ_run _ _ _).mono (fun r h c => ?b) (Cert.Reference21Ideal.Value.run (F := Ideal) m' g')⟩
  case a =>
    obtain ⟨h0, ha⟩ := h c
    exact ⟨h0.trans (Cert.Kernel21Ideal.Blk.final m c), ha⟩
  case b =>
    obtain ⟨h0, ha⟩ := h c
    obtain ⟨e0, e1⟩ := hm c
    refine ⟨h0.trans ?_, ha⟩
    · rw [Cert.Reference21Ideal.Read.val_main_v7_eq, e0, e1]
      exact Cert.Reference21Ideal.Ref.ref_eq _ _

/-- The gradient of the multilayer perceptron in its input: the reference runs, keeps its arguments and declares no semaphore. -/
theorem reference_frame21 : quiescent_Reference21Ideal (hReference21Ideal := Cert.Reference21Ideal.Gen.facts) := fun m ρ _ =>
  (θ_run _ _ _).mono (fun r h => ⟨fun c => (h c).2, Idealize.ShloMosaic.sem_eq_zero_of_no_sems (by decide) r.2⟩)
    (Cert.Reference21Ideal.Value.run (F := Ideal) m ρ)

/-- The gradient of layer 0's projection in its input: the kernel's results are the reference's. -/
theorem algebraic22 :
    algebraic_Kernel22Ideal_Reference22Ideal (hKernel22Ideal := Cert.Kernel22Ideal.Gen.facts) (hReference22Ideal := Cert.Reference22Ideal.Gen.facts) := by
  intro m g m' g' _ hm
  refine ⟨fun c => Cert.Kernel22Ideal.Blk.prod (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)), (θ_run _ _ _).mono (fun r h c => ?a) (Cert.Kernel22Ideal.Value.run_blocks (F := Ideal) m g),
    (θ_run _ _ _).mono (fun r h c => ?b) (Cert.Reference22Ideal.Value.run (F := Ideal) m' g')⟩
  case a =>
    obtain ⟨h0, ha⟩ := h c
    exact ⟨h0.trans (Cert.Kernel22Ideal.Blk.final m c), ha⟩
  case b =>
    obtain ⟨h0, ha⟩ := h c
    obtain ⟨e0, e1⟩ := hm c
    refine ⟨h0.trans ?_, ha⟩
    · rw [Cert.Reference22Ideal.Read.val_main_v4_eq, e0, e1]
      exact Cert.Reference22Ideal.Ref.ref_eq _ _

/-- The gradient of layer 0's projection in its input: the reference runs, keeps its arguments and declares no semaphore. -/
theorem reference_frame22 : quiescent_Reference22Ideal (hReference22Ideal := Cert.Reference22Ideal.Gen.facts) := fun m ρ _ =>
  (θ_run _ _ _).mono (fun r h => ⟨fun c => (h c).2, Idealize.ShloMosaic.sem_eq_zero_of_no_sems (by decide) r.2⟩)
    (Cert.Reference22Ideal.Value.run (F := Ideal) m ρ)

/-- The gradient of the first norm and its modulation: the kernel's results are the reference's. -/
theorem algebraic23 :
    algebraic_Kernel23Ideal_Reference23Ideal_pre_finite23 (hKernel23Ideal := Cert.Kernel23Ideal.Gen.facts) (hReference23Ideal := Cert.Reference23Ideal.Gen.facts) (hPre_finite23 := Cert.Pre_finite23.Gen.facts) := by
  intro m g m' g' hp hm
  refine ⟨fun c => Cert.Norm.dx (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)), fun c => Cert.Norm.sums3 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)), (θ_run _ _ _).mono (fun r h c => ?a) (Cert.Kernel23Ideal.Value.run_blocks (F := Ideal) m g),
    (θ_run _ _ _).mono (fun r h c => ?b) (Cert.Reference23Ideal.Value.run (F := Ideal) m' g')⟩
  case a =>
    obtain ⟨h0, h1, ha⟩ := h c
    exact ⟨h0.trans (Cert.Kernel23Ideal.Blk.final_dx m c), h1.trans (Cert.Kernel23Ideal.Blk.final_sums m c), ha⟩
  case b =>
    obtain ⟨h0, h1, ha⟩ := h c
    obtain ⟨e0, e1, e2, e3, e4⟩ := hm c
    obtain ⟨p0, p1, p2, p3⟩ := Cert.Pre_finite23.real (hp c)
    refine ⟨h0.trans ?_, h1.trans ?_, ha⟩
    · rw [Cert.Reference23Ideal.Read.val_main_v49_eq, e0, e1, e2, e3, e4]
      exact Cert.Reference23Ideal.Ref.ref_dx _ _ _ _ _ p0 p1 p2 p3
    · refine (Cert.Reference23Ideal.Read.val_main_v51_eq (F := Ideal) (m' ((c.tc : Thread Cert.Reference23Ideal.nD Cert.Reference23Ideal.τ).loc Cert.Reference23Ideal.main_arg0)) (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg3)) (m' ((c.tc : Thread Cert.Reference23Ideal.nD Cert.Reference23Ideal.τ).loc Cert.Reference23Ideal.main_arg4))).trans ?_
      rw [e0, e1, e3, e4]
      exact Cert.Reference23Ideal.Ref.ref_sums _ _ _ _

/-- The gradient of the first norm and its modulation: the reference runs, keeps its arguments and declares no semaphore. -/
theorem reference_frame23 : quiescent_Reference23Ideal (hReference23Ideal := Cert.Reference23Ideal.Gen.facts) := fun m ρ _ =>
  (θ_run _ _ _).mono (fun r h => ⟨fun c => (h c).2.2, Idealize.ShloMosaic.sem_eq_zero_of_no_sems (by decide) r.2⟩)
    (Cert.Reference23Ideal.Value.run (F := Ideal) m ρ)

/-- The condition's activation and its products with the modulation weights: the kernel's results are the reference's. -/
theorem algebraic24 :
    algebraic_Kernel24Ideal_Reference24Ideal (hKernel24Ideal := Cert.Kernel24Ideal.Gen.facts) (hReference24Ideal := Cert.Reference24Ideal.Gen.facts) := by
  intro m g m' g' _ hm
  refine ⟨fun c => Cert.Kernel24Ideal.Blk.part (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)), fun c => Cert.Kernel24Ideal.Blk.act (m ((c.tc : Thread Cert.Kernel24Ideal.nD Cert.Kernel24Ideal.τ).loc Cert.Kernel24Ideal.main_arg0)), (θ_run _ _ _).mono (fun r h c => ?a) (Cert.Kernel24Ideal.Value.run_blocks (F := Ideal) m g),
    (θ_run _ _ _).mono (fun r h c => ?b) (Cert.Reference24Ideal.Value.run (F := Ideal) m' g')⟩
  case a =>
    obtain ⟨h0, h1, ha⟩ := h c
    exact ⟨h0.trans (Cert.Kernel24Ideal.Blk.final_part m c), h1.trans (Cert.Kernel24Ideal.Blk.final_act m c), ha⟩
  case b =>
    obtain ⟨h0, h1, ha⟩ := h c
    obtain ⟨e0, e1, e2⟩ := hm c
    refine ⟨h0.trans ?_, h1.trans ?_, ha⟩
    · rw [Cert.Reference24Ideal.Read.val_main_v15_eq, e0, e1, e2]
      exact Cert.Reference24Ideal.Ref.ref_part _ _ _
    · rw [Cert.Reference24Ideal.Read.val_main_v0_eq, e0]
      exact Cert.Reference24Ideal.Ref.ref_act _

/-- The condition's activation and its products with the modulation weights: the reference runs, keeps its arguments and declares no semaphore. -/
theorem reference_frame24 : quiescent_Reference24Ideal (hReference24Ideal := Cert.Reference24Ideal.Gen.facts) := fun m ρ _ =>
  (θ_run _ _ _).mono (fun r h => ⟨fun c => (h c).2.2, Idealize.ShloMosaic.sem_eq_zero_of_no_sems (by decide) r.2⟩)
    (Cert.Reference24Ideal.Value.run (F := Ideal) m ρ)

/-- The loss and its gradients: the kernel's results are the reference's. -/
theorem algebraic25 :
    algebraic_Kernel25Ideal_Reference25Ideal (hKernel25Ideal := Cert.Kernel25Ideal.Gen.facts) (hReference25Ideal := Cert.Reference25Ideal.Gen.facts) := by
  intro m g m' g' _ hm
  refine ⟨fun c => Cert.Loss.dx (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)), fun c => Cert.Loss.loss (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)), fun c => Cert.Loss.dz (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg3)), fun c => Cert.Loss.dgate (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)), (θ_run _ _ _).mono (fun r h c => ?a) (Cert.Kernel25Ideal.Value.run_blocks (F := Ideal) m g),
    (θ_run _ _ _).mono (fun r h c => ?b) (Cert.Reference25Ideal.Value.run (F := Ideal) m' g')⟩
  case a =>
    obtain ⟨h0, h1, h2, h3, ha⟩ := h c
    exact ⟨h0.trans (Cert.Kernel25Ideal.Blk.final_dx m c), h1.trans (Cert.Kernel25Ideal.Blk.final_loss m c), h2.trans (Cert.Kernel25Ideal.Blk.final_dz m c), h3.trans (Cert.Kernel25Ideal.Blk.final_dgate m c), ha⟩
  case b =>
    obtain ⟨h0, h1, h2, h3, ha⟩ := h c
    obtain ⟨e0, e1, e2, e3⟩ := hm c
    refine ⟨h0.trans ?_, h1.trans ?_, h2.trans ?_, h3.trans ?_, ha⟩
    · rw [Cert.Reference25Ideal.Read.val_main_v14_eq, e0, e1]
      exact Cert.Reference25Ideal.Ref.ref_dx _ _
    · rw [Cert.Reference25Ideal.Read.val_main_v23_eq, e0, e1]
      exact Cert.Reference25Ideal.Ref.ref_loss _ _
    · rw [Cert.Reference25Ideal.Read.val_main_v24_eq, e0, e1, e3]
      exact Cert.Reference25Ideal.Ref.ref_dz _ _ _
    · rw [Cert.Reference25Ideal.Read.val_main_v22_eq, e0, e1, e2]
      exact Cert.Reference25Ideal.Ref.ref_dgate _ _ _

/-- The loss and its gradients: the reference runs, keeps its arguments and declares no semaphore. -/
theorem reference_frame25 : quiescent_Reference25Ideal (hReference25Ideal := Cert.Reference25Ideal.Gen.facts) := fun m ρ _ =>
  (θ_run _ _ _).mono (fun r h => ⟨fun c => (h c).2.2.2.2, Idealize.ShloMosaic.sem_eq_zero_of_no_sems (by decide) r.2⟩)
    (Cert.Reference25Ideal.Value.run (F := Ideal) m ρ)

/-- The optimiser's step of the modulation's weights: the kernel's results are the reference's. -/
theorem algebraic26 :
    algebraic_Kernel26Ideal_Reference26Ideal (hKernel26Ideal := Cert.Kernel26Ideal.Gen.facts) (hReference26Ideal := Cert.Reference26Ideal.Gen.facts) := by
  intro m g m' g' _ hm
  refine ⟨fun c => Cert.Adam.step (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), fun c => Cert.Adam.mean (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)), fun c => Cert.Adam.square (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3)), (θ_run _ _ _).mono (fun r h c => ?a) (Cert.Kernel26Ideal.Value.run_blocks (F := Ideal) m g),
    (θ_run _ _ _).mono (fun r h c => ?b) (Cert.Reference26Ideal.Value.run (F := Ideal) m' g')⟩
  case a =>
    obtain ⟨h0, h1, h2, ha⟩ := h c
    exact ⟨h0.trans (Cert.Kernel26Ideal.Value.final4 m c), h1.trans (Cert.Kernel26Ideal.Value.final5 m c), h2.trans (Cert.Kernel26Ideal.Value.final6 m c), ha⟩
  case b =>
    obtain ⟨h0, h1, h2, ha⟩ := h c
    obtain ⟨e0, e1, e2, e3⟩ := hm c
    refine ⟨h0.trans ?_, h1.trans ?_, h2.trans ?_, ha⟩
    · rw [Cert.Reference26Ideal.Read.val_main_v23_eq, e0, e1, e2, e3]
      exact rfl
    · rw [Cert.Reference26Ideal.Read.val_main_v4_eq, e1, e2]
      exact rfl
    · rw [Cert.Reference26Ideal.Read.val_main_v10_eq, e1, e3]
      exact rfl

/-- The optimiser's step of the modulation's weights: the reference runs, keeps its arguments and declares no semaphore. -/
theorem reference_frame26 : quiescent_Reference26Ideal (hReference26Ideal := Cert.Reference26Ideal.Gen.facts) := fun m ρ _ =>
  (θ_run _ _ _).mono (fun r h => ⟨fun c => (h c).2.2.2, Idealize.ShloMosaic.sem_eq_zero_of_no_sems (by decide) r.2⟩)
    (Cert.Reference26Ideal.Value.run (F := Ideal) m ρ)

/-- The optimiser's step of the first layer's input projection: the kernel's results are the reference's. -/
theorem algebraic27 :
    algebraic_Kernel27Ideal_Reference27Ideal (hKernel27Ideal := Cert.Kernel27Ideal.Gen.facts) (hReference27Ideal := Cert.Reference27Ideal.Gen.facts) := by
  intro m g m' g' _ hm
  refine ⟨fun c => Cert.Adam.step (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)), fun c => Cert.Adam.mean (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)), fun c => Cert.Adam.square (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg3)), (θ_run _ _ _).mono (fun r h c => ?a) (Cert.Kernel27Ideal.Value.run_blocks (F := Ideal) m g),
    (θ_run _ _ _).mono (fun r h c => ?b) (Cert.Reference27Ideal.Value.run (F := Ideal) m' g')⟩
  case a =>
    obtain ⟨h0, h1, h2, ha⟩ := h c
    exact ⟨h0.trans (Cert.Kernel27Ideal.Value.final4 m c), h1.trans (Cert.Kernel27Ideal.Value.final5 m c), h2.trans (Cert.Kernel27Ideal.Value.final6 m c), ha⟩
  case b =>
    obtain ⟨h0, h1, h2, ha⟩ := h c
    obtain ⟨e0, e1, e2, e3⟩ := hm c
    refine ⟨h0.trans ?_, h1.trans ?_, h2.trans ?_, ha⟩
    · rw [Cert.Reference27Ideal.Read.val_main_v23_eq, e0, e1, e2, e3]
      exact rfl
    · rw [Cert.Reference27Ideal.Read.val_main_v4_eq, e1, e2]
      exact rfl
    · rw [Cert.Reference27Ideal.Read.val_main_v10_eq, e1, e3]
      exact rfl

/-- The optimiser's step of the first layer's input projection: the reference runs, keeps its arguments and declares no semaphore. -/
theorem reference_frame27 : quiescent_Reference27Ideal (hReference27Ideal := Cert.Reference27Ideal.Gen.facts) := fun m ρ _ =>
  (θ_run _ _ _).mono (fun r h => ⟨fun c => (h c).2.2.2, Idealize.ShloMosaic.sem_eq_zero_of_no_sems (by decide) r.2⟩)
    (Cert.Reference27Ideal.Value.run (F := Ideal) m ρ)

/-- The optimiser's step of an output projection: the kernel's results are the reference's. -/
theorem algebraic28 :
    algebraic_Kernel28Ideal_Reference28Ideal (hKernel28Ideal := Cert.Kernel28Ideal.Gen.facts) (hReference28Ideal := Cert.Reference28Ideal.Gen.facts) := by
  intro m g m' g' _ hm
  refine ⟨fun c => Cert.Adam.step (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)), fun c => Cert.Adam.mean (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)), fun c => Cert.Adam.square (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg3)), (θ_run _ _ _).mono (fun r h c => ?a) (Cert.Kernel28Ideal.Value.run_blocks (F := Ideal) m g),
    (θ_run _ _ _).mono (fun r h c => ?b) (Cert.Reference28Ideal.Value.run (F := Ideal) m' g')⟩
  case a =>
    obtain ⟨h0, h1, h2, ha⟩ := h c
    exact ⟨h0.trans (Cert.Kernel28Ideal.Value.final4 m c), h1.trans (Cert.Kernel28Ideal.Value.final5 m c), h2.trans (Cert.Kernel28Ideal.Value.final6 m c), ha⟩
  case b =>
    obtain ⟨h0, h1, h2, ha⟩ := h c
    obtain ⟨e0, e1, e2, e3⟩ := hm c
    refine ⟨h0.trans ?_, h1.trans ?_, h2.trans ?_, ha⟩
    · rw [Cert.Reference28Ideal.Read.val_main_v23_eq, e0, e1, e2, e3]
      exact rfl
    · rw [Cert.Reference28Ideal.Read.val_main_v4_eq, e1, e2]
      exact rfl
    · rw [Cert.Reference28Ideal.Read.val_main_v10_eq, e1, e3]
      exact rfl

/-- The optimiser's step of an output projection: the reference runs, keeps its arguments and declares no semaphore. -/
theorem reference_frame28 : quiescent_Reference28Ideal (hReference28Ideal := Cert.Reference28Ideal.Gen.facts) := fun m ρ _ =>
  (θ_run _ _ _).mono (fun r h => ⟨fun c => (h c).2.2.2, Idealize.ShloMosaic.sem_eq_zero_of_no_sems (by decide) r.2⟩)
    (Cert.Reference28Ideal.Value.run (F := Ideal) m ρ)

/-- The optimiser's step of the projection to queries, keys and values: the kernel's results are the reference's. -/
theorem algebraic29 :
    algebraic_Kernel29Ideal_Reference29Ideal (hKernel29Ideal := Cert.Kernel29Ideal.Gen.facts) (hReference29Ideal := Cert.Reference29Ideal.Gen.facts) := by
  intro m g m' g' _ hm
  refine ⟨fun c => Cert.Adam.step (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)), fun c => Cert.Adam.mean (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)), fun c => Cert.Adam.square (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg3)), (θ_run _ _ _).mono (fun r h c => ?a) (Cert.Kernel29Ideal.Value.run_blocks (F := Ideal) m g),
    (θ_run _ _ _).mono (fun r h c => ?b) (Cert.Reference29Ideal.Value.run (F := Ideal) m' g')⟩
  case a =>
    obtain ⟨h0, h1, h2, ha⟩ := h c
    exact ⟨h0.trans (Cert.Kernel29Ideal.Value.final4 m c), h1.trans (Cert.Kernel29Ideal.Value.final5 m c), h2.trans (Cert.Kernel29Ideal.Value.final6 m c), ha⟩
  case b =>
    obtain ⟨h0, h1, h2, ha⟩ := h c
    obtain ⟨e0, e1, e2, e3⟩ := hm c
    refine ⟨h0.trans ?_, h1.trans ?_, h2.trans ?_, ha⟩
    · rw [Cert.Reference29Ideal.Read.val_main_v23_eq, e0, e1, e2, e3]
      exact rfl
    · rw [Cert.Reference29Ideal.Read.val_main_v4_eq, e1, e2]
      exact rfl
    · rw [Cert.Reference29Ideal.Read.val_main_v10_eq, e1, e3]
      exact rfl

/-- The optimiser's step of the projection to queries, keys and values: the reference runs, keeps its arguments and declares no semaphore. -/
theorem reference_frame29 : quiescent_Reference29Ideal (hReference29Ideal := Cert.Reference29Ideal.Gen.facts) := fun m ρ _ =>
  (θ_run _ _ _).mono (fun r h => ⟨fun c => (h c).2.2.2, Idealize.ShloMosaic.sem_eq_zero_of_no_sems (by decide) r.2⟩)
    (Cert.Reference29Ideal.Value.run (F := Ideal) m ρ)

/-- The optimiser's step of the hidden layer's first projection: the kernel's results are the reference's. -/
theorem algebraic30 :
    algebraic_Kernel30Ideal_Reference30Ideal (hKernel30Ideal := Cert.Kernel30Ideal.Gen.facts) (hReference30Ideal := Cert.Reference30Ideal.Gen.facts) := by
  intro m g m' g' _ hm
  refine ⟨fun c => Cert.Adam.step (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)), fun c => Cert.Adam.mean (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)), fun c => Cert.Adam.square (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg3)), (θ_run _ _ _).mono (fun r h c => ?a) (Cert.Kernel30Ideal.Value.run_blocks (F := Ideal) m g),
    (θ_run _ _ _).mono (fun r h c => ?b) (Cert.Reference30Ideal.Value.run (F := Ideal) m' g')⟩
  case a =>
    obtain ⟨h0, h1, h2, ha⟩ := h c
    exact ⟨h0.trans (Cert.Kernel30Ideal.Value.final4 m c), h1.trans (Cert.Kernel30Ideal.Value.final5 m c), h2.trans (Cert.Kernel30Ideal.Value.final6 m c), ha⟩
  case b =>
    obtain ⟨h0, h1, h2, ha⟩ := h c
    obtain ⟨e0, e1, e2, e3⟩ := hm c
    refine ⟨h0.trans ?_, h1.trans ?_, h2.trans ?_, ha⟩
    · rw [Cert.Reference30Ideal.Read.val_main_v23_eq, e0, e1, e2, e3]
      exact rfl
    · rw [Cert.Reference30Ideal.Read.val_main_v4_eq, e1, e2]
      exact rfl
    · rw [Cert.Reference30Ideal.Read.val_main_v10_eq, e1, e3]
      exact rfl

/-- The optimiser's step of the hidden layer's first projection: the reference runs, keeps its arguments and declares no semaphore. -/
theorem reference_frame30 : quiescent_Reference30Ideal (hReference30Ideal := Cert.Reference30Ideal.Gen.facts) := fun m ρ _ =>
  (θ_run _ _ _).mono (fun r h => ⟨fun c => (h c).2.2.2, Idealize.ShloMosaic.sem_eq_zero_of_no_sems (by decide) r.2⟩)
    (Cert.Reference30Ideal.Value.run (F := Ideal) m ρ)

/-- The optimiser's step of the hidden layer's second projection: the kernel's results are the reference's. -/
theorem algebraic31 :
    algebraic_Kernel31Ideal_Reference31Ideal (hKernel31Ideal := Cert.Kernel31Ideal.Gen.facts) (hReference31Ideal := Cert.Reference31Ideal.Gen.facts) := by
  intro m g m' g' _ hm
  refine ⟨fun c => Cert.Adam.step (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)), fun c => Cert.Adam.mean (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)), fun c => Cert.Adam.square (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg3)), (θ_run _ _ _).mono (fun r h c => ?a) (Cert.Kernel31Ideal.Value.run_blocks (F := Ideal) m g),
    (θ_run _ _ _).mono (fun r h c => ?b) (Cert.Reference31Ideal.Value.run (F := Ideal) m' g')⟩
  case a =>
    obtain ⟨h0, h1, h2, ha⟩ := h c
    exact ⟨h0.trans (Cert.Kernel31Ideal.Value.final4 m c), h1.trans (Cert.Kernel31Ideal.Value.final5 m c), h2.trans (Cert.Kernel31Ideal.Value.final6 m c), ha⟩
  case b =>
    obtain ⟨h0, h1, h2, ha⟩ := h c
    obtain ⟨e0, e1, e2, e3⟩ := hm c
    refine ⟨h0.trans ?_, h1.trans ?_, h2.trans ?_, ha⟩
    · rw [Cert.Reference31Ideal.Read.val_main_v23_eq, e0, e1, e2, e3]
      exact rfl
    · rw [Cert.Reference31Ideal.Read.val_main_v4_eq, e1, e2]
      exact rfl
    · rw [Cert.Reference31Ideal.Read.val_main_v10_eq, e1, e3]
      exact rfl

/-- The optimiser's step of the hidden layer's second projection: the reference runs, keeps its arguments and declares no semaphore. -/
theorem reference_frame31 : quiescent_Reference31Ideal (hReference31Ideal := Cert.Reference31Ideal.Gen.facts) := fun m ρ _ =>
  (θ_run _ _ _).mono (fun r h => ⟨fun c => (h c).2.2.2, Idealize.ShloMosaic.sem_eq_zero_of_no_sems (by decide) r.2⟩)
    (Cert.Reference31Ideal.Value.run (F := Ideal) m ρ)

/-- Every claim of this certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Pre_finite15.Gen.facts, Cert.Pre_finite18.Gen.facts, Cert.Pre_finite19.Gen.facts, Cert.Pre_finite23.Gen.facts,
  fun m ρ _ => Cert.Kernel.Gen.frame m ρ, fun m ρ _ => Cert.KernelIdeal.Gen.frame m ρ, conv_reference_frame,
  fun m ρ _ => Cert.Kernel2.Gen.frame m ρ, fun m ρ _ => Cert.Kernel2Ideal.Gen.frame m ρ, reference_frame2,
  fun m ρ _ => Cert.Kernel3.Gen.frame m ρ, fun m ρ _ => Cert.Kernel3Ideal.Gen.frame m ρ, reference_frame3,
  fun m ρ _ => Cert.Kernel4.Gen.frame m ρ, fun m ρ _ => Cert.Kernel4Ideal.Gen.frame m ρ, reference_frame4,
  fun m ρ _ => Cert.Kernel5.Gen.frame m ρ, fun m ρ _ => Cert.Kernel5Ideal.Gen.frame m ρ, reference_frame5,
  fun m ρ _ => Cert.Kernel6.Gen.frame m ρ, fun m ρ _ => Cert.Kernel6Ideal.Gen.frame m ρ, reference_frame6,
  fun m ρ _ => Cert.Kernel7.Gen.frame m ρ, fun m ρ _ => Cert.Kernel7Ideal.Gen.frame m ρ, reference_frame7,
  fun m ρ _ => Cert.Kernel8.Gen.frame m ρ, fun m ρ _ => Cert.Kernel8Ideal.Gen.frame m ρ, reference_frame8,
  fun m ρ _ => Cert.Kernel9.Gen.frame m ρ, fun m ρ _ => Cert.Kernel9Ideal.Gen.frame m ρ, reference_frame9,
  fun m ρ _ => Cert.Kernel10.Gen.frame m ρ, fun m ρ _ => Cert.Kernel10Ideal.Gen.frame m ρ, reference_frame10,
  fun m ρ _ => Cert.Kernel11.Gen.frame m ρ, fun m ρ _ => Cert.Kernel11Ideal.Gen.frame m ρ, reference_frame11,
  fun m ρ _ => Cert.Kernel12.Gen.frame m ρ, fun m ρ _ => Cert.Kernel12Ideal.Gen.frame m ρ, reference_frame12,
  fun m ρ _ => Cert.Kernel13.Gen.frame m ρ, fun m ρ _ => Cert.Kernel13Ideal.Gen.frame m ρ, reference_frame13,
  fun m ρ _ => Cert.Kernel14.Gen.frame m ρ, fun m ρ _ => Cert.Kernel14Ideal.Gen.frame m ρ, reference_frame14,
  fun m ρ _ => Cert.Kernel15.Gen.frame m ρ, fun m ρ _ => Cert.Kernel15Ideal.Gen.frame m ρ, fun m ρ _ => Cert.Kernel15Ideal.Gen.frame m ρ, reference_frame15, fun m ρ _ => reference_frame15 m ρ trivial,
  fun m ρ _ => Cert.Kernel16.Gen.frame m ρ, fun m ρ _ => Cert.Kernel16Ideal.Gen.frame m ρ, reference_frame16,
  fun m ρ _ => Cert.Kernel17.Gen.frame m ρ, fun m ρ _ => Cert.Kernel17Ideal.Gen.frame m ρ, reference_frame17,
  fun m ρ _ => Cert.Kernel18.Gen.frame m ρ, fun m ρ _ => Cert.Kernel18Ideal.Gen.frame m ρ, fun m ρ _ => Cert.Kernel18Ideal.Gen.frame m ρ, reference_frame18, fun m ρ _ => reference_frame18 m ρ trivial,
  fun m ρ _ => Cert.Kernel19.Gen.frame m ρ, fun m ρ _ => Cert.Kernel19Ideal.Gen.frame m ρ, fun m ρ _ => Cert.Kernel19Ideal.Gen.frame m ρ, reference_frame19, fun m ρ _ => reference_frame19 m ρ trivial,
  fun m ρ _ => Cert.Kernel20.Gen.frame m ρ, fun m ρ _ => Cert.Kernel20Ideal.Gen.frame m ρ, reference_frame20,
  fun m ρ _ => Cert.Kernel21.Gen.frame m ρ, fun m ρ _ => Cert.Kernel21Ideal.Gen.frame m ρ, reference_frame21,
  fun m ρ _ => Cert.Kernel22.Gen.frame m ρ, fun m ρ _ => Cert.Kernel22Ideal.Gen.frame m ρ, reference_frame22,
  fun m ρ _ => Cert.Kernel23.Gen.frame m ρ, fun m ρ _ => Cert.Kernel23Ideal.Gen.frame m ρ, fun m ρ _ => Cert.Kernel23Ideal.Gen.frame m ρ, reference_frame23, fun m ρ _ => reference_frame23 m ρ trivial,
  fun m ρ _ => Cert.Kernel24.Gen.frame m ρ, fun m ρ _ => Cert.Kernel24Ideal.Gen.frame m ρ, reference_frame24,
  fun m ρ _ => Cert.Kernel25.Gen.frame m ρ, fun m ρ _ => Cert.Kernel25Ideal.Gen.frame m ρ, reference_frame25,
  fun m ρ _ => Cert.Kernel26.Gen.frame m ρ, fun m ρ _ => Cert.Kernel26Ideal.Gen.frame m ρ, reference_frame26,
  fun m ρ _ => Cert.Kernel27.Gen.frame m ρ, fun m ρ _ => Cert.Kernel27Ideal.Gen.frame m ρ, reference_frame27,
  fun m ρ _ => Cert.Kernel28.Gen.frame m ρ, fun m ρ _ => Cert.Kernel28Ideal.Gen.frame m ρ, reference_frame28,
  fun m ρ _ => Cert.Kernel29.Gen.frame m ρ, fun m ρ _ => Cert.Kernel29Ideal.Gen.frame m ρ, reference_frame29,
  fun m ρ _ => Cert.Kernel30.Gen.frame m ρ, fun m ρ _ => Cert.Kernel30Ideal.Gen.frame m ρ, reference_frame30,
  fun m ρ _ => Cert.Kernel31.Gen.frame m ρ, fun m ρ _ => Cert.Kernel31Ideal.Gen.frame m ρ, reference_frame31,
  trivial, conv_algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31⟩

end Cert.Proof

end
